-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v59_2)) (v3 : (c : Dev Cert.KernelIdeal.nD) → Buf (Elt Ideal) ((c.tc : Thread Cert.KernelIdeal.nD Cert.KernelIdeal.τ).loc Cert.KernelIdeal.main_v59_3)) (v4 : (c : Dev Cert.KernelIdeal.nD) → Buf (Elt Ideal) ((c.tc : Thread Cert.KernelIdeal.nD Cert.KernelIdeal.τ).loc Cert.KernelIdeal.main_v59_4)) (v5 : (c : Dev Cert.KernelIdeal.nD) → Buf (Elt Ideal) ((c.tc : Thread Cert.KernelIdeal.nD Cert.KernelIdeal.τ).loc Cert.KernelIdeal.main_v59_5)) (v6 : (c : Dev Cert.KernelIdeal.nD) → Buf (Elt Ideal) ((c.tc : Thread Cert.KernelIdeal.nD Cert.KernelIdeal.τ).loc Cert.KernelIdeal.main_v59_6)) (v7 : (c : Dev Cert.KernelIdeal.nD) → Buf (Elt Ideal) ((c.tc : Thread Cert.KernelIdeal.nD Cert.KernelIdeal.τ).loc Cert.KernelIdeal.main_v59_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v59_2) = v2 c
          ∧ r.2.mem ((c.tc : Thread Cert.KernelIdeal.nD Cert.KernelIdeal.τ).loc Cert.KernelIdeal.main_v59_3) = v3 c
          ∧ r.2.mem ((c.tc : Thread Cert.KernelIdeal.nD Cert.KernelIdeal.τ).loc Cert.KernelIdeal.main_v59_4) = v4 c
          ∧ r.2.mem ((c.tc : Thread Cert.KernelIdeal.nD Cert.KernelIdeal.τ).loc Cert.KernelIdeal.main_v59_5) = v5 c
          ∧ r.2.mem ((c.tc : Thread Cert.KernelIdeal.nD Cert.KernelIdeal.τ).loc Cert.KernelIdeal.main_v59_6) = v6 c
          ∧ r.2.mem ((c.tc : Thread Cert.KernelIdeal.nD Cert.KernelIdeal.τ).loc Cert.KernelIdeal.main_v59_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_v79) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_v43) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_v23) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v35) = v0 c
          ∧ r.2.mem ((c.tc : Thread Cert.Reference14Ideal.nD Cert.Reference14Ideal.τ).loc Cert.Reference14Ideal.main_v36) = v1 c
          ∧ r.2.mem ((c.tc : Thread Cert.Reference14Ideal.nD Cert.Reference14Ideal.τ).loc Cert.Reference14Ideal.main_v22) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  IdealRules.named_const.Statement Cert.Kernel19Ideal.κ "c1" .f32 0x3FC48605#32 (((5463681 / 8388608)⁻¹ : ℝ) : EReal)
  ∧ IdealRules.named_const.Statement Cert.Kernel19Ideal.κ "c2" .f32 0x42C8E6D3#32 (((2672307 / 268435456)⁻¹ : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v37) = v1 c
          ∧ r.2.mem ((c.tc : Thread Cert.Reference19Ideal.nD Cert.Reference19Ideal.τ).loc Cert.Reference19Ideal.main_v40) = v2 c
          ∧ r.2.mem ((c.tc : Thread Cert.Reference19Ideal.nD Cert.Reference19Ideal.τ).loc Cert.Reference19Ideal.main_v43) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def preserves_Kernel20_Kernel20Ideal : Prop :=
  IdealRules.named_const.Statement Cert.Kernel20Ideal.κ "c1" .f32 0x3FC48605#32 (((5463681 / 8388608)⁻¹ : ℝ) : EReal)
  ∧ IdealRules.named_const.Statement Cert.Kernel20Ideal.κ "c2" .f32 0x42C8E6D3#32 (((2672307 / 268435456)⁻¹ : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_v37) = v1 c
          ∧ r.2.mem ((c.tc : Thread Cert.Reference20Ideal.nD Cert.Reference20Ideal.τ).loc Cert.Reference20Ideal.main_v40) = v2 c
          ∧ r.2.mem ((c.tc : Thread Cert.Reference20Ideal.nD Cert.Reference20Ideal.τ).loc Cert.Reference20Ideal.main_v43) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  IdealRules.named_const.Statement Cert.Kernel21Ideal.κ "c1" .f32 0x3FC48605#32 (((5463681 / 8388608)⁻¹ : ℝ) : EReal)
  ∧ IdealRules.named_const.Statement Cert.Kernel21Ideal.κ "c2" .f32 0x42C8E6D3#32 (((2672307 / 268435456)⁻¹ : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v37) = v1 c
          ∧ r.2.mem ((c.tc : Thread Cert.Reference21Ideal.nD Cert.Reference21Ideal.τ).loc Cert.Reference21Ideal.main_v40) = v2 c
          ∧ r.2.mem ((c.tc : Thread Cert.Reference21Ideal.nD Cert.Reference21Ideal.τ).loc Cert.Reference21Ideal.main_v43) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  IdealRules.named_const.Statement Cert.Kernel22Ideal.κ "c1" .f32 0x3FC48605#32 (((5463681 / 8388608)⁻¹ : ℝ) : EReal)
  ∧ IdealRules.named_const.Statement Cert.Kernel22Ideal.κ "c2" .f32 0x42C8E6D3#32 (((2672307 / 268435456)⁻¹ : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_v37) = v1 c
          ∧ r.2.mem ((c.tc : Thread Cert.Reference22Ideal.nD Cert.Reference22Ideal.τ).loc Cert.Reference22Ideal.main_v40) = v2 c
          ∧ r.2.mem ((c.tc : Thread Cert.Reference22Ideal.nD Cert.Reference22Ideal.τ).loc Cert.Reference22Ideal.main_v43) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  IdealRules.named_const.Statement Cert.Kernel23Ideal.κ "c1" .f32 0x3FC48605#32 (((5463681 / 8388608)⁻¹ : ℝ) : EReal)
  ∧ IdealRules.named_const.Statement Cert.Kernel23Ideal.κ "c2" .f32 0x42C8E6D3#32 (((2672307 / 268435456)⁻¹ : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v37) = v1 c
          ∧ r.2.mem ((c.tc : Thread Cert.Reference23Ideal.nD Cert.Reference23Ideal.τ).loc Cert.Reference23Ideal.main_v40) = v2 c
          ∧ r.2.mem ((c.tc : Thread Cert.Reference23Ideal.nD Cert.Reference23Ideal.τ).loc Cert.Reference23Ideal.main_v43) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  IdealRules.named_const.Statement Cert.Kernel24Ideal.κ "c1" .f32 0x3FC48605#32 (((5463681 / 8388608)⁻¹ : ℝ) : EReal)
  ∧ IdealRules.named_const.Statement Cert.Kernel24Ideal.κ "c2" .f32 0x42C8E6D3#32 (((2672307 / 268435456)⁻¹ : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v15) = v0 c
          ∧ r.2.mem ((c.tc : Thread Cert.Reference26Ideal.nD Cert.Reference26Ideal.τ).loc Cert.Reference26Ideal.main_v14) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite2 : Cert.Pre_finite2.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S2048x1024 : Shape := ⟨2, ![2048, 1024]⟩
abbrev S1x1024 : Shape := ⟨2, ![1, 1024]⟩
abbrev S2048x256 : Shape := ⟨2, ![2048, 256]⟩
abbrev S2048x4096 : Shape := ⟨2, ![2048, 4096]⟩
abbrev S4x256x1024 : Shape := ⟨3, ![4, 256, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S2048x256 : S_.BroadcastsInDim S2048x256 (![] : Fin 0 → Fin S2048x256.rank)
  bcast_S_S4x256x1024 : S_.BroadcastsInDim S4x256x1024 (![] : Fin 0 → Fin S4x256x1024.rank)
  bcast_S_S1024x1024 : S_.BroadcastsInDim S1024x1024 (![] : Fin 0 → Fin S1024x1024.rank)

variable [Facts]

def fn_part1 {F : FTy → Type} [FloatOps F] (main_arg7 : FVec F S4x256x1024 .bf16) (main_arg8 : FVec F S1024x1024 .bf16) (main_v2 : IVec S2048x1024 1) (main_v5 : IVec S1x1024 1) (main_v8 : IVec S2048x256 1) (main_v11 : IVec S2048x256 1) (main_v14 : IVec S2048x256 1) (main_v17 : IVec S2048x256 1) : IVec S2048x1024 1 × IVec S1x1024 1 × IVec S2048x256 1 × IVec S2048x256 1 × IVec S2048x256 1 × IVec S2048x256 1 × IVec S4x256x1024 1 × IVec S1024x1024 1 :=
  let main_v18 : FVec F S4x256x1024 .bf16 := Host.absf main_arg7
  let main_cst_5 : FVec F S_ .bf16 := constant S_ .bf16 0x7F80#16
  let main_v19 : FVec F S4x256x1024 .bf16 := broadcastInDim S4x256x1024 ![] bcast_S_S4x256x1024 main_cst_5
  let main_v20 : IVec S4x256x1024 1 := cmpf .olt main_v18 main_v19
  let main_v21 : FVec F S1024x1024 .bf16 := Host.absf main_arg8
  let main_cst_6 : FVec F S_ .bf16 := constant S_ .bf16 0x7F80#16
  let main_v22 : FVec F S1024x1024 .bf16 := broadcastInDim S1024x1024 ![] bcast_S_S1024x1024 main_cst_6
  let main_v23 : IVec S1024x1024 1 := cmpf .olt main_v21 main_v22
  (main_v2, main_v5, main_v8, main_v11, main_v14, main_v17, main_v20, main_v23)

def fn {F : FTy → Type} [FloatOps F] (main_arg0 : FVec F S2048x1024 .f32) (main_arg1 : FVec F S1x1024 .f32) (main_arg2 : FVec F S2048x256 .bf16) (main_arg3 : FVec F S2048x256 .bf16) (main_arg4 : FVec F S2048x256 .bf16) (main_arg5 : FVec F S2048x256 .bf16) (main_arg6 : FVec F S2048x4096 .f32) (main_arg7 : FVec F S4x256x1024 .bf16) (main_arg8 : FVec F S1024x1024 .bf16) : IVec S2048x1024 1 × IVec S1x1024 1 × IVec S2048x256 1 × IVec S2048x256 1 × IVec S2048x256 1 × IVec S2048x256 1 × IVec S4x256x1024 1 × IVec S1024x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x256 .bf16 := Host.absf main_arg2
  let main_cst_1 : FVec F S_ .bf16 := constant S_ .bf16 0x7F80#16
  let main_v7 : FVec F S2048x256 .bf16 := broadcastInDim S2048x256 ![] bcast_S_S2048x256 main_cst_1
  let main_v8 : IVec S2048x256 1 := cmpf .olt main_v6 main_v7
  let main_v9 : FVec F S2048x256 .bf16 := Host.absf main_arg3
  let main_cst_2 : FVec F S_ .bf16 := constant S_ .bf16 0x7F80#16
  let main_v10 : FVec F S2048x256 .bf16 := broadcastInDim S2048x256 ![] bcast_S_S2048x256 main_cst_2
  let main_v11 : IVec S2048x256 1 := cmpf .olt main_v9 main_v10
  let main_v12 : FVec F S2048x256 .bf16 := Host.absf main_arg4
  let main_cst_3 : FVec F S_ .bf16 := constant S_ .bf16 0x7F80#16
  let main_v13 : FVec F S2048x256 .bf16 := broadcastInDim S2048x256 ![] bcast_S_S2048x256 main_cst_3
  let main_v14 : IVec S2048x256 1 := cmpf .olt main_v12 main_v13
  let main_v15 : FVec F S2048x256 .bf16 := Host.absf main_arg5
  let main_cst_4 : FVec F S_ .bf16 := constant S_ .bf16 0x7F80#16
  let main_v16 : FVec F S2048x256 .bf16 := broadcastInDim S2048x256 ![] bcast_S_S2048x256 main_cst_4
  let main_v17 : IVec S2048x256 1 := cmpf .olt main_v15 main_v16
  fn_part1 (F := F) main_arg7 main_arg8 main_v2 main_v5 main_v8 main_v11 main_v14 main_v17
-- ==== Pre_finite2.lean ====
abbrev S2048x2816 : Shape := ⟨2, ![2048, 2816]⟩
abbrev S2048x4096 : Shape := ⟨2, ![2048, 4096]⟩
abbrev S1024x6912 : Shape := ⟨2, ![1024, 6912]⟩
abbrev S2048x1024 : Shape := ⟨2, ![2048, 1024]⟩
abbrev S1x1024 : Shape := ⟨2, ![1, 1024]⟩
abbrev S_ : Shape := ⟨0, ![]⟩

class Facts : Prop where
  bcast_S_S2048x2816 : S_.BroadcastsInDim S2048x2816 (![] : Fin 0 → Fin S2048x2816.rank)
  bcast_S_S2048x4096 : S_.BroadcastsInDim S2048x4096 (![] : Fin 0 → Fin S2048x4096.rank)
  bcast_S_S1024x6912 : S_.BroadcastsInDim S1024x6912 (![] : Fin 0 → Fin S1024x6912.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x2816 .bf16) (main_arg1 : FVec F S2048x4096 .bf16) (main_arg2 : FVec F S1024x6912 .bf16) (main_arg3 : FVec F S2048x1024 .f32) (main_arg4 : FVec F S1x1024 .f32) (main_arg5 : FVec F S2048x1024 .f32) : IVec S2048x2816 1 × IVec S2048x4096 1 × IVec S1024x6912 1 × IVec S2048x1024 1 × IVec S1x1024 1 :=
  let main_v0 : FVec F S2048x2816 .bf16 := Host.absf main_arg0
  let main_cst : FVec F S_ .bf16 := constant S_ .bf16 0x7F80#16
  let main_v1 : FVec F S2048x2816 .bf16 := broadcastInDim S2048x2816 ![] bcast_S_S2048x2816 main_cst
  let main_v2 : IVec S2048x2816 1 := cmpf .olt main_v0 main_v1
  let main_v3 : FVec F S2048x4096 .bf16 := Host.absf main_arg1
  let main_cst_0 : FVec F S_ .bf16 := constant S_ .bf16 0x7F80#16
  let main_v4 : FVec F S2048x4096 .bf16 := broadcastInDim S2048x4096 ![] bcast_S_S2048x4096 main_cst_0
  let main_v5 : IVec S2048x4096 1 := cmpf .olt main_v3 main_v4
  let main_v6 : FVec F S1024x6912 .bf16 := Host.absf main_arg2
  let main_cst_1 : FVec F S_ .bf16 := constant S_ .bf16 0x7F80#16
  let main_v7 : FVec F S1024x6912 .bf16 := broadcastInDim S1024x6912 ![] bcast_S_S1024x6912 main_cst_1
  let main_v8 : IVec S1024x6912 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite3.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩

class Facts : Prop where
  bcast_S_S2048x5632 : S_.BroadcastsInDim S2048x5632 (![] : Fin 0 → Fin S2048x5632.rank)
  bcast_S_S1024x5632 : S_.BroadcastsInDim S1024x5632 (![] : Fin 0 → Fin S1024x5632.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x5632 .bf16) (main_arg1 : FVec F S1024x5632 .bf16) (main_arg2 : FVec F S2048x1024 .f32) (main_arg3 : FVec F S1x1024 .f32) (main_arg4 : FVec F S2048x1024 .f32) : IVec S2048x5632 1 × IVec S1024x5632 1 × IVec S2048x1024 1 × IVec S1x1024 1 :=
  let main_v0 : FVec F S2048x5632 .bf16 := Host.absf main_arg0
  let main_cst : FVec F S_ .bf16 := constant S_ .bf16 0x7F80#16
  let main_v1 : FVec F S2048x5632 .bf16 := broadcastInDim S2048x5632 ![] bcast_S_S2048x5632 main_cst
  let main_v2 : IVec S2048x5632 1 := cmpf .olt main_v0 main_v1
  let main_v3 : FVec F S1024x5632 .bf16 := Host.absf main_arg1
  let main_cst_0 : FVec F S_ .bf16 := constant S_ .bf16 0x7F80#16
  let main_v4 : FVec F S1024x5632 .bf16 := broadcastInDim S1024x5632 ![] bcast_S_S1024x5632 main_cst_0
  let main_v5 : IVec S1024x5632 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite5.lean ====
abbrev S2048x1024 : Shape := ⟨2, ![2048, 1024]⟩
abbrev S1x1024 : Shape := ⟨2, ![1, 1024]⟩
abbrev S2048x5632 : Shape := ⟨2, ![2048, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S2048x5632 : S_.BroadcastsInDim S2048x5632 (![] : Fin 0 → Fin S2048x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1x1024 .f32) (main_arg2 : FVec F S2048x5632 .f32) (main_arg3 : FVec F S2816x1024 .bf16) : IVec S2048x1024 1 × IVec S1x1024 1 × IVec S2048x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  (main_v2, main_v5, main_v8, main_v11)
-- ==== Kernel.lean ====
abbrev S2048x1024 : Shape := ⟨2, ![2048, 1024]⟩
abbrev S1x1024 : Shape := ⟨2, ![1, 1024]⟩
abbrev S2048x256 : Shape := ⟨2, ![2048, 256]⟩
abbrev S2048x4096 : Shape := ⟨2, ![2048, 4096]⟩
abbrev S4x256x1024 : Shape := ⟨3, ![4, 256, 1024]⟩
abbrev S1024x1024 : Shape := ⟨2, ![1024, 1024]⟩
abbrev S_ : Shape := ⟨0, ![]⟩
abbrev S1x256x1024 : Shape := ⟨3, ![1, 256, 1024]⟩
abbrev S256x1024 : Shape := ⟨2, ![256, 1024]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S1024 : Shape := ⟨1, ![1024]⟩

abbrev nBuf : Space → Nat
  | .hbm => 85
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S2048x256, .bf16⟩
  | .hbm, ⟨6, _⟩ => ⟨S2048x4096, .f32⟩
  | .hbm, ⟨7, _⟩ => ⟨S4x256x1024, .bf16⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x256, .f32⟩
  | .hbm, ⟨19, _⟩ => ⟨S1x256x1024, .bf16⟩
  | .hbm, ⟨20, _⟩ => ⟨S256x1024, .bf16⟩
  | .hbm, ⟨21, _⟩ => ⟨S256x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x256, .f32⟩
  | .hbm, ⟨37, _⟩ => ⟨S1x256x1024, .bf16⟩
  | .hbm, ⟨38, _⟩ => ⟨S256x1024, .bf16⟩
  | .hbm, ⟨39, _⟩ => ⟨S256x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x256, .f32⟩
  | .hbm, ⟨53, _⟩ => ⟨S1x256x1024, .bf16⟩
  | .hbm, ⟨54, _⟩ => ⟨S256x1024, .bf16⟩
  | .hbm, ⟨55, _⟩ => ⟨S256x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1024, .f32⟩
  | .hbm, ⟨67, _⟩ => ⟨S2048x1024, .f32⟩
  | .hbm, ⟨68, _⟩ => ⟨S2048x256, .f32⟩
  | .hbm, ⟨69, _⟩ => ⟨S1x256x1024, .bf16⟩
  | .hbm, ⟨70, _⟩ => ⟨S256x1024, .bf16⟩
  | .hbm, ⟨71, _⟩ => ⟨S256x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1024x1024, .f32⟩
  | .hbm, ⟨76, _⟩ => ⟨S2048x1024, .f32⟩
  | .hbm, ⟨77, _⟩ => ⟨S2048x256, .f32⟩
  | .hbm, ⟨78, _⟩ => ⟨S2048x256, .f32⟩
  | .hbm, ⟨79, _⟩ => ⟨S2048x256, .f32⟩
  | .hbm, ⟨80, _⟩ => ⟨S2048x256, .f32⟩
  | .hbm, ⟨81, _⟩ => ⟨S2048x4096, .bf16⟩
  | .hbm, ⟨82, _⟩ => ⟨S2048x4096, .bf16⟩
  | .hbm, ⟨83, _⟩ => ⟨S2048x1024, .bf16⟩
  | .hbm, ⟨84, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x4096, .f32⟩
  | .local _ .vmem, ⟨14, _⟩ => ⟨S256x4096, .f32⟩
  | .local _ .vmem, ⟨15, _⟩ => ⟨S4x256x1024, .bf16⟩
  | .local _ .vmem, ⟨16, _⟩ => ⟨S1024x1024, .bf16⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x4096, .bf16⟩
  | .local _ .vmem, ⟨26, _⟩ => ⟨S256x4096, .bf16⟩
  | .local _ .vmem, ⟨27, _⟩ => ⟨S256x4096, .bf16⟩
  | .local _ .vmem, ⟨28, _⟩ => ⟨S256x4096, .bf16⟩
  | .local _ .vmem, ⟨29, _⟩ => ⟨S256x1024, .bf16⟩
  | .local _ .vmem, ⟨30, _⟩ => ⟨S256x1024, .bf16⟩
  | .local _ .vmem, ⟨31, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59_0 : Ref sig .tc := ⟨.hbm, 77, rfl⟩
abbrev main_v59_1 : Ref sig .tc := ⟨.hbm, 78, rfl⟩
abbrev main_v59_2 : Ref sig .tc := ⟨.hbm, 79, rfl⟩
abbrev main_v59_3 : Ref sig .tc := ⟨.hbm, 80, rfl⟩
abbrev main_v59_4 : Ref sig .tc := ⟨.hbm, 81, rfl⟩
abbrev main_v59_5 : Ref sig .tc := ⟨.hbm, 82, rfl⟩
abbrev main_v59_6 : Ref sig .tc := ⟨.hbm, 83, rfl⟩
abbrev main_v59_7 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
abbrev S2048x1024 : Shape := ⟨2, ![2048, 1024]⟩
abbrev S1x1024 : Shape := ⟨2, ![1, 1024]⟩
abbrev S2048x256 : Shape := ⟨2, ![2048, 256]⟩
abbrev S2048x4096 : Shape := ⟨2, ![2048, 4096]⟩
abbrev S4x256x1024 : Shape := ⟨3, ![4, 256, 1024]⟩
abbrev S1024x1024 : Shape := ⟨2, ![1024, 1024]⟩
abbrev S_ : Shape := ⟨0, ![]⟩
abbrev S1x256x1024 : Shape := ⟨3, ![1, 256, 1024]⟩
abbrev S256x1024 : Shape := ⟨2, ![256, 1024]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S1024 : Shape := ⟨1, ![1024]⟩

abbrev nBuf : Space → Nat
  | .hbm => 85
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S2048x256, .bf16⟩
  | .hbm, ⟨6, _⟩ => ⟨S2048x4096, .f32⟩
  | .hbm, ⟨7, _⟩ => ⟨S4x256x1024, .bf16⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x256, .f32⟩
  | .hbm, ⟨19, _⟩ => ⟨S1x256x1024, .bf16⟩
  | .hbm, ⟨20, _⟩ => ⟨S256x1024, .bf16⟩
  | .hbm, ⟨21, _⟩ => ⟨S256x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x256, .f32⟩
  | .hbm, ⟨37, _⟩ => ⟨S1x256x1024, .bf16⟩
  | .hbm, ⟨38, _⟩ => ⟨S256x1024, .bf16⟩
  | .hbm, ⟨39, _⟩ => ⟨S256x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x256, .f32⟩
  | .hbm, ⟨53, _⟩ => ⟨S1x256x1024, .bf16⟩
  | .hbm, ⟨54, _⟩ => ⟨S256x1024, .bf16⟩
  | .hbm, ⟨55, _⟩ => ⟨S256x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1024, .f32⟩
  | .hbm, ⟨67, _⟩ => ⟨S2048x1024, .f32⟩
  | .hbm, ⟨68, _⟩ => ⟨S2048x256, .f32⟩
  | .hbm, ⟨69, _⟩ => ⟨S1x256x1024, .bf16⟩
  | .hbm, ⟨70, _⟩ => ⟨S256x1024, .bf16⟩
  | .hbm, ⟨71, _⟩ => ⟨S256x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1024x1024, .f32⟩
  | .hbm, ⟨76, _⟩ => ⟨S2048x1024, .f32⟩
  | .hbm, ⟨77, _⟩ => ⟨S2048x256, .f32⟩
  | .hbm, ⟨78, _⟩ => ⟨S2048x256, .f32⟩
  | .hbm, ⟨79, _⟩ => ⟨S2048x256, .f32⟩
  | .hbm, ⟨80, _⟩ => ⟨S2048x256, .f32⟩
  | .hbm, ⟨81, _⟩ => ⟨S2048x4096, .bf16⟩
  | .hbm, ⟨82, _⟩ => ⟨S2048x4096, .bf16⟩
  | .hbm, ⟨83, _⟩ => ⟨S2048x1024, .bf16⟩
  | .hbm, ⟨84, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x4096, .f32⟩
  | .local _ .vmem, ⟨14, _⟩ => ⟨S256x4096, .f32⟩
  | .local _ .vmem, ⟨15, _⟩ => ⟨S4x256x1024, .bf16⟩
  | .local _ .vmem, ⟨16, _⟩ => ⟨S1024x1024, .bf16⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x4096, .bf16⟩
  | .local _ .vmem, ⟨26, _⟩ => ⟨S256x4096, .bf16⟩
  | .local _ .vmem, ⟨27, _⟩ => ⟨S256x4096, .bf16⟩
  | .local _ .vmem, ⟨28, _⟩ => ⟨S256x4096, .bf16⟩
  | .local _ .vmem, ⟨29, _⟩ => ⟨S256x1024, .bf16⟩
  | .local _ .vmem, ⟨30, _⟩ => ⟨S256x1024, .bf16⟩
  | .local _ .vmem, ⟨31, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59_0 : Ref sig .tc := ⟨.hbm, 77, rfl⟩
abbrev main_v59_1 : Ref sig .tc := ⟨.hbm, 78, rfl⟩
abbrev main_v59_2 : Ref sig .tc := ⟨.hbm, 79, rfl⟩
abbrev main_v59_3 : Ref sig .tc := ⟨.hbm, 80, rfl⟩
abbrev main_v59_4 : Ref sig .tc := ⟨.hbm, 81, rfl⟩
abbrev main_v59_5 : Ref sig .tc := ⟨.hbm, 82, rfl⟩
abbrev main_v59_6 : Ref sig .tc := ⟨.hbm, 83, rfl⟩
abbrev main_v59_7 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S2048x1024 : Shape := ⟨2, ![2048, 1024]⟩
abbrev S1x1024 : Shape := ⟨2, ![1, 1024]⟩
abbrev S2048x256 : Shape := ⟨2, ![2048, 256]⟩
abbrev S2048x4096 : Shape := ⟨2, ![2048, 4096]⟩
abbrev S4x256x1024 : Shape := ⟨3, ![4, 256, 1024]⟩
abbrev S1024x1024 : Shape := ⟨2, ![1024, 1024]⟩
abbrev S2048x1x256 : Shape := ⟨3, ![2048, 1, 256]⟩
abbrev S2048x4x256 : Shape := ⟨3, ![2048, 4, 256]⟩
abbrev S4x1024x2048 : Shape := ⟨3, ![4, 1024, 2048]⟩
abbrev S2048x4x1024 : Shape := ⟨3, ![2048, 4, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S4x2048x256 : Shape := ⟨3, ![4, 2048, 256]⟩

abbrev nBuf : Space → Nat
  | .hbm => 102
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S2048x256, .bf16⟩
  | .hbm, ⟨6, _⟩ => ⟨S2048x4096, .f32⟩
  | .hbm, ⟨7, _⟩ => ⟨S4x256x1024, .bf16⟩
  | .hbm, ⟨8, _⟩ => ⟨S1024x1024, .bf16⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S4x256x1024, .f32⟩
  | .hbm, ⟨14, _⟩ => ⟨S1024x1024, .f32⟩
  | .hbm, ⟨15, _⟩ => ⟨S2048x1x256, .f32⟩
  | .hbm, ⟨16, _⟩ => ⟨S2048x1x256, .f32⟩
  | .hbm, ⟨17, _⟩ => ⟨S2048x1x256, .f32⟩
  | .hbm, ⟨18, _⟩ => ⟨S2048x1x256, .f32⟩
  | .hbm, ⟨19, _⟩ => ⟨S2048x4x256, .f32⟩
  | .hbm, ⟨20, _⟩ => ⟨S4x1024x2048, .f32⟩
  | .hbm, ⟨21, _⟩ => ⟨S2048x4x1024, .f32⟩
  | .hbm, ⟨22, _⟩ => ⟨S2048x4x1024, .f32⟩
  | .hbm, ⟨23, _⟩ => ⟨S2048x4x1024, .f32⟩
  | .hbm, ⟨24, _⟩ => ⟨S2048x4x1024, .f32⟩
  | .hbm, ⟨25, _⟩ => ⟨S_, .f32⟩
  | .hbm, ⟨26, _⟩ => ⟨S2048x4x1024, .f32⟩
  | .hbm, ⟨27, _⟩ => ⟨S2048x4x1024, .f32⟩
  | .hbm, ⟨28, _⟩ => ⟨S_, .f32⟩
  | .hbm, ⟨29, _⟩ => ⟨S2048x4x1024, .f32⟩
  | .hbm, ⟨30, _⟩ => ⟨S2048x4x1024, .f32⟩
  | .hbm, ⟨31, _⟩ => ⟨S_, .f32⟩
  | .hbm, ⟨32, _⟩ => ⟨S2048x4x1024, .f32⟩
  | .hbm, ⟨33, _⟩ => ⟨S2048x4x1024, .f32⟩
  | .hbm, ⟨34, _⟩ => ⟨S2048x4x1024, .f32⟩
  | .hbm, ⟨35, _⟩ => ⟨S2048x4x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x4x1024, .f32⟩
  | .hbm, ⟨83, _⟩ => ⟨S2048x4x1024, .f32⟩
  | .hbm, ⟨84, _⟩ => ⟨S2048x4x1024, .f32⟩
  | .hbm, ⟨85, _⟩ => ⟨S2048x4x1024, .f32⟩
  | .hbm, ⟨86, _⟩ => ⟨S2048x4096, .f32⟩
  | .hbm, ⟨87, _⟩ => ⟨S4x1024x2048, .f32⟩
  | .hbm, ⟨88, _⟩ => ⟨S4x2048x256, .f32⟩
  | .hbm, ⟨89, _⟩ => ⟨S2048x4x256, .f32⟩
  | .hbm, ⟨90, _⟩ => ⟨S2048x1x256, .f32⟩
  | .hbm, ⟨91, _⟩ => ⟨S2048x256, .f32⟩
  | .hbm, ⟨92, _⟩ => ⟨S2048x1x256, .f32⟩
  | .hbm, ⟨93, _⟩ => ⟨S2048x256, .f32⟩
  | .hbm, ⟨94, _⟩ => ⟨S2048x1x256, .f32⟩
  | .hbm, ⟨95, _⟩ => ⟨S2048x256, .f32⟩
  | .hbm, ⟨96, _⟩ => ⟨S2048x1x256, .f32⟩
  | .hbm, ⟨97, _⟩ => ⟨S2048x256, .f32⟩
  | .hbm, ⟨98, _⟩ => ⟨S2048x4096, .bf16⟩
  | .hbm, ⟨99, _⟩ => ⟨S2048x4096, .f32⟩
  | .hbm, ⟨100, _⟩ => ⟨S2048x4096, .bf16⟩
  | .hbm, ⟨101, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== Kernel2.lean ====
abbrev S2048x2816 : Shape := ⟨2, ![2048, 2816]⟩
abbrev S2048x4096 : Shape := ⟨2, ![2048, 4096]⟩
abbrev S1024x6912 : Shape := ⟨2, ![1024, 6912]⟩
abbrev S2048x1024 : Shape := ⟨2, ![2048, 1024]⟩
abbrev S1x1024 : Shape := ⟨2, ![1, 1024]⟩
abbrev S1024x2816 : Shape := ⟨2, ![1024, 2816]⟩
abbrev S1024x4096 : Shape := ⟨2, ![1024, 4096]⟩
abbrev S1024x1408 : Shape := ⟨2, ![1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 17
  | .smem => 0
  | _ => 0

abbrev bufTy : (tb : Table) → Fin (tcTables nBuf tb) → BufTy
  | .hbm, ⟨0, _⟩ => ⟨S2048x2816, .bf16⟩
  | .hbm, ⟨1, _⟩ => ⟨S2048x4096, .bf16⟩
  | .hbm, ⟨2, _⟩ => ⟨S1024x6912, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1024x2816, .bf16⟩
  | .hbm, ⟨7, _⟩ => ⟨S1024x4096, .bf16⟩
  | .hbm, ⟨8, _⟩ => ⟨S2048x1024, .f32⟩
  | .hbm, ⟨9, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 6], ![false, false]⟩

def k0_cond5 (i : grid0.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_8 : BitVec 32 := 0#32
  let v20 : BitVec 1 := Scalar.cmpi .ne v19 c0_i32_8
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference2Ideal.lean ====
abbrev S2048x2816 : Shape := ⟨2, ![2048, 2816]⟩
abbrev S2048x4096 : Shape := ⟨2, ![2048, 4096]⟩
abbrev S1024x6912 : Shape := ⟨2, ![1024, 6912]⟩
abbrev S2048x1024 : Shape := ⟨2, ![2048, 1024]⟩
abbrev S1x1024 : Shape := ⟨2, ![1, 1024]⟩
abbrev S2048x6912 : Shape := ⟨2, ![2048, 6912]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x4096, .bf16⟩
  | .hbm, ⟨2, _⟩ => ⟨S1024x6912, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x6912, .bf16⟩
  | .hbm, ⟨7, _⟩ => ⟨S2048x6912, .f32⟩
  | .hbm, ⟨8, _⟩ => ⟨S1024x6912, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x6912, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S1024x1408 : Shape := ⟨2, ![1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_6 : BitVec 32 := 0#32
  let v15 : BitVec 1 := Scalar.cmpi .ne v14 c0_i32_6
  v15

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x5632, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x5632, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S2048x1024 : Shape := ⟨2, ![2048, 1024]⟩
abbrev S2048x5632 : Shape := ⟨2, ![2048, 5632]⟩
abbrev S1024x5632 : Shape := ⟨2, ![1024, 5632]⟩
abbrev S2048x1408 : Shape := ⟨2, ![2048, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S1024x5632, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x1024 : Shape := ⟨2, ![2048, 1024]⟩
abbrev S2048x5632 : Shape := ⟨2, ![2048, 5632]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x1024, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S2048x5632 : Shape := ⟨2, ![2048, 5632]⟩
abbrev S2816x1024 : Shape := ⟨2, ![2816, 1024]⟩
abbrev S2048x2816 : Shape := ⟨2, ![2048, 2816]⟩
abbrev S_ : Shape := ⟨0, ![]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 22
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x5632, .f32⟩
  | .hbm, ⟨3, _⟩ => ⟨S2816x1024, .bf16⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2816x1024, .f32⟩
  | .hbm, ⟨17, _⟩ => ⟨S2048x1024, .f32⟩
  | .hbm, ⟨18, _⟩ => ⟨S2048x5632, .bf16⟩
  | .hbm, ⟨19, _⟩ => ⟨S2048x2816, .bf16⟩
  | .hbm, ⟨20, _⟩ => ⟨S2048x1024, .bf16⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .f32⟩
  | .local _ .vmem, ⟨6, _⟩ => ⟨S256x5632, .f32⟩
  | .local _ .vmem, ⟨7, _⟩ => ⟨S2816x1024, .bf16⟩
  | .local _ .vmem, ⟨8, _⟩ => ⟨S256x5632, .bf16⟩
  | .local _ .vmem, ⟨9, _⟩ => ⟨S256x5632, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S2048x1024 : Shape := ⟨2, ![2048, 1024]⟩
abbrev S1x1024 : Shape := ⟨2, ![1, 1024]⟩
abbrev S2048x5632 : Shape := ⟨2, ![2048, 5632]⟩
abbrev S2816x1024 : Shape := ⟨2, ![2816, 1024]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x5632, .f32⟩
  | .hbm, ⟨3, _⟩ => ⟨S2816x1024, .bf16⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2816x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x2816, .f32⟩
  | .hbm, ⟨65, _⟩ => ⟨S2048x2816, .f32⟩
  | .hbm, ⟨66, _⟩ => ⟨S2048x2816, .f32⟩
  | .hbm, ⟨67, _⟩ => ⟨S2048x2816, .f32⟩
  | .hbm, ⟨68, _⟩ => ⟨S2048x2816, .f32⟩
  | .hbm, ⟨69, _⟩ => ⟨S2048x2816, .f32⟩
  | .hbm, ⟨70, _⟩ => ⟨S2048x2816, .f32⟩
  | .hbm, ⟨71, _⟩ => ⟨S2048x5632, .f32⟩
  | .hbm, ⟨72, _⟩ => ⟨S2048x5632, .bf16⟩
  | .hbm, ⟨73, _⟩ => ⟨S2048x2816, .bf16⟩
  | .hbm, ⟨74, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]
-- ==== Kernel6.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S2048x4096 : Shape := ⟨2, ![2048, 4096]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S2048x1024 : Shape := ⟨2, ![2048, 1024]⟩
abbrev S2048x2816 : Shape := ⟨2, ![2048, 2816]⟩
abbrev S1024x2816 : Shape := ⟨2, ![1024, 2816]⟩
abbrev S2048x1408 : Shape := ⟨2, ![2048, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S1024x2816, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S2048x2816 : Shape := ⟨2, ![2048, 2816]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S1024x2816, .f32⟩
  | .hbm, ⟨6, _⟩ => ⟨S1024x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2816 : Shape := ⟨2, ![2048, 2816]⟩
abbrev S2048x1024 : Shape := ⟨2, ![2048, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2048x1024 : Shape := ⟨2, ![2048, 1024]⟩
abbrev S1x1024 : Shape := ⟨2, ![1, 1024]⟩
abbrev S1024x5632 : Shape := ⟨2, ![1024, 5632]⟩
abbrev S2048x5632 : Shape := ⟨2, ![2048, 5632]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .bf16⟩
  | .hbm, ⟨3, _⟩ => ⟨S2048x5632, .f32⟩
  | .hbm, ⟨4, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S2048x1024 : Shape := ⟨2, ![2048, 1024]⟩
abbrev S1x1024 : Shape := ⟨2, ![1, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x5632, .f32⟩
  | .hbm, ⟨19, _⟩ => ⟨S2048x5632, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S2048x1024 : Shape := ⟨2, ![2048, 1024]⟩
abbrev S1x1024 : Shape := ⟨2, ![1, 1024]⟩
abbrev S1024x6912 : Shape := ⟨2, ![1024, 6912]⟩
abbrev S1024x2816 : Shape := ⟨2, ![1024, 2816]⟩
abbrev S2048x2816 : Shape := ⟨2, ![2048, 2816]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6912, .bf16⟩
  | .hbm, ⟨3, _⟩ => ⟨S1024x2816, .bf16⟩
  | .hbm, ⟨4, _⟩ => ⟨S2048x2816, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S2048x1024 : Shape := ⟨2, ![2048, 1024]⟩
abbrev S1x1024 : Shape := ⟨2, ![1, 1024]⟩
abbrev S1024x6912 : Shape := ⟨2, ![1024, 6912]⟩
abbrev S_ : Shape := ⟨0, ![]⟩
abbrev S2048 : Shape := ⟨1, ![2048]⟩
abbrev S2048x1 : Shape := ⟨2, ![2048, 1]⟩
abbrev S2048x6912 : Shape := ⟨2, ![2048, 6912]⟩
abbrev S2048x2816 : Shape := ⟨2, ![2048, 2816]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6912, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x6912, .f32⟩
  | .hbm, ⟨19, _⟩ => ⟨S2048x6912, .f32⟩
  | .hbm, ⟨20, _⟩ => ⟨S2048x2816, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S2048x1024 : Shape := ⟨2, ![2048, 1024]⟩
abbrev S1024x6912 : Shape := ⟨2, ![1024, 6912]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x6912, .bf16⟩
  | .hbm, ⟨2, _⟩ => ⟨S1024x4096, .bf16⟩
  | .hbm, ⟨3, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x1024 : Shape := ⟨2, ![2048, 1024]⟩
abbrev S1024x6912 : Shape := ⟨2, ![1024, 6912]⟩
abbrev S2048x6912 : Shape := ⟨2, ![2048, 6912]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6912, .bf16⟩
  | .hbm, ⟨2, _⟩ => ⟨S2048x1024, .f32⟩
  | .hbm, ⟨3, _⟩ => ⟨S1024x6912, .f32⟩
  | .hbm, ⟨4, _⟩ => ⟨S2048x6912, .f32⟩
  | .hbm, ⟨5, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x5632 : Shape := ⟨2, ![2048, 5632]⟩
abbrev S2816x1024 : Shape := ⟨2, ![2816, 1024]⟩
abbrev S2048x1024 : Shape := ⟨2, ![2048, 1024]⟩
abbrev S1x1024 : Shape := ⟨2, ![1, 1024]⟩
abbrev S256x5632 : Shape := ⟨2, ![256, 5632]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .local _ .vmem, ⟨0, _⟩ => ⟨S256x5632, .f32⟩
  | .local _ .vmem, ⟨1, _⟩ => ⟨S256x5632, .f32⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S2048x5632 : Shape := ⟨2, ![2048, 5632]⟩
abbrev S2816x1024 : Shape := ⟨2, ![2816, 1024]⟩
abbrev S2048x1024 : Shape := ⟨2, ![2048, 1024]⟩
abbrev S1x1024 : Shape := ⟨2, ![1, 1024]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2816x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Kernel14.lean ====
abbrev S2048x256 : Shape := ⟨2, ![2048, 256]⟩
abbrev S2048x4096 : Shape := ⟨2, ![2048, 4096]⟩
abbrev S4x256x1024 : Shape := ⟨3, ![4, 256, 1024]⟩
abbrev S1024x1024 : Shape := ⟨2, ![1024, 1024]⟩
abbrev S2048x1024 : Shape := ⟨2, ![2048, 1024]⟩
abbrev S1x1024 : Shape := ⟨2, ![1, 1024]⟩
abbrev S256x256 : Shape := ⟨2, ![256, 256]⟩
abbrev S256x4096 : Shape := ⟨2, ![256, 4096]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 12
  | .vmem => 21
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x4096, .f32⟩
  | .hbm, ⟨5, _⟩ => ⟨S4x256x1024, .bf16⟩
  | .hbm, ⟨6, _⟩ => ⟨S1024x1024, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S2048x1024, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x4096, .f32⟩
  | .local _ .vmem, ⟨9, _⟩ => ⟨S256x4096, .f32⟩
  | .local _ .vmem, ⟨10, _⟩ => ⟨S4x256x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference14Ideal.lean ====
abbrev S2048x256 : Shape := ⟨2, ![2048, 256]⟩
abbrev S2048x4096 : Shape := ⟨2, ![2048, 4096]⟩
abbrev S4x256x1024 : Shape := ⟨3, ![4, 256, 1024]⟩
abbrev S1024x1024 : Shape := ⟨2, ![1024, 1024]⟩
abbrev S2048x1024 : Shape := ⟨2, ![2048, 1024]⟩
abbrev S1x1024 : Shape := ⟨2, ![1, 1024]⟩
abbrev S2048x4x1024 : Shape := ⟨3, ![2048, 4, 1024]⟩
abbrev S_ : Shape := ⟨0, ![]⟩
abbrev S2048x1x256 : Shape := ⟨3, ![2048, 1, 256]⟩
abbrev S2048x4x256 : Shape := ⟨3, ![2048, 4, 256]⟩
abbrev S4x1024x2048 : Shape := ⟨3, ![4, 1024, 2048]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x4096, .f32⟩
  | .hbm, ⟨5, _⟩ => ⟨S4x256x1024, .bf16⟩
  | .hbm, ⟨6, _⟩ => ⟨S1024x1024, .bf16⟩
  | .hbm, ⟨7, _⟩ => ⟨S2048x1024, .f32⟩
  | .hbm, ⟨8, _⟩ => ⟨S1x1024, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S4x256x1024, .f32⟩
  | .hbm, ⟨14, _⟩ => ⟨S1024x1024, .f32⟩
  | .hbm, ⟨15, _⟩ => ⟨S2048x4x1024, .f32⟩
  | .hbm, ⟨16, _⟩ => ⟨S2048x4x1024, .f32⟩
  | .hbm, ⟨17, _⟩ => ⟨S2048x4x1024, .f32⟩
  | .hbm, ⟨18, _⟩ => ⟨S_, .f32⟩
  | .hbm, ⟨19, _⟩ => ⟨S2048x4x1024, .f32⟩
  | .hbm, ⟨20, _⟩ => ⟨S2048x4x1024, .f32⟩
  | .hbm, ⟨21, _⟩ => ⟨S_, .f32⟩
  | .hbm, ⟨22, _⟩ => ⟨S2048x4x1024, .f32⟩
  | .hbm, ⟨23, _⟩ => ⟨S2048x4x1024, .f32⟩
  | .hbm, ⟨24, _⟩ => ⟨S2048x1x256, .f32⟩
  | .hbm, ⟨25, _⟩ => ⟨S2048x1x256, .f32⟩
  | .hbm, ⟨26, _⟩ => ⟨S2048x1x256, .f32⟩
  | .hbm, ⟨27, _⟩ => ⟨S2048x1x256, .f32⟩
  | .hbm, ⟨28, _⟩ => ⟨S2048x4x256, .f32⟩
  | .hbm, ⟨29, _⟩ => ⟨S4x1024x2048, .f32⟩
  | .hbm, ⟨30, _⟩ => ⟨S2048x4x1024, .f32⟩
  | .hbm, ⟨31, _⟩ => ⟨S2048x4x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel15.lean ====
abbrev S2048x256 : Shape := ⟨2, ![2048, 256]⟩
abbrev S2048x4096 : Shape := ⟨2, ![2048, 4096]⟩
abbrev S2048x1024 : Shape := ⟨2, ![2048, 1024]⟩
abbrev S256x1024 : Shape := ⟨2, ![256, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S2048x1024, .bf16⟩
  | .hbm, ⟨3, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference15Ideal.lean ====
abbrev S2048x256 : Shape := ⟨2, ![2048, 256]⟩
abbrev S2048x4096 : Shape := ⟨2, ![2048, 4096]⟩
abbrev S2048x1024 : Shape := ⟨2, ![2048, 1024]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S2048x1024, .bf16⟩
  | .hbm, ⟨3, _⟩ => ⟨S2048x256, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S2048x256 : Shape := ⟨2, ![2048, 256]⟩
abbrev S2048x4096 : Shape := ⟨2, ![2048, 4096]⟩
abbrev S256x1024 : Shape := ⟨2, ![256, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference16Ideal.lean ====
abbrev S2048x256 : Shape := ⟨2, ![2048, 256]⟩
abbrev S2048x4096 : Shape := ⟨2, ![2048, 4096]⟩
abbrev S2048x1024 : Shape := ⟨2, ![2048, 1024]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S2048x1024, .bf16⟩
  | .hbm, ⟨3, _⟩ => ⟨S2048x256, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel17.lean ====
abbrev S2048x256 : Shape := ⟨2, ![2048, 256]⟩
abbrev S2048x4096 : Shape := ⟨2, ![2048, 4096]⟩
abbrev S256x1024 : Shape := ⟨2, ![256, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference17Ideal.lean ====
abbrev S2048x256 : Shape := ⟨2, ![2048, 256]⟩
abbrev S2048x4096 : Shape := ⟨2, ![2048, 4096]⟩
abbrev S2048x1024 : Shape := ⟨2, ![2048, 1024]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S2048x1024, .bf16⟩
  | .hbm, ⟨3, _⟩ => ⟨S2048x256, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel18.lean ====
abbrev S2048x256 : Shape := ⟨2, ![2048, 256]⟩
abbrev S2048x4096 : Shape := ⟨2, ![2048, 4096]⟩
abbrev S256x1024 : Shape := ⟨2, ![256, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference18Ideal.lean ====
abbrev S2048x256 : Shape := ⟨2, ![2048, 256]⟩
abbrev S2048x4096 : Shape := ⟨2, ![2048, 4096]⟩
abbrev S2048x1024 : Shape := ⟨2, ![2048, 1024]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S2048x1024, .bf16⟩
  | .hbm, ⟨3, _⟩ => ⟨S2048x256, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel19.lean ====
abbrev S8x1024x864 : Shape := ⟨3, ![8, 1024, 864]⟩
abbrev S4x1024x864 : Shape := ⟨3, ![4, 1024, 864]⟩
abbrev S8x256x864 : Shape := ⟨3, ![8, 256, 864]⟩
abbrev S1x256x864 : Shape := ⟨3, ![1, 256, 864]⟩
abbrev S256x864 : Shape := ⟨2, ![256, 864]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x864, .bf16⟩
  | .hbm, ⟨1, _⟩ => ⟨S4x1024x864, .f32⟩
  | .hbm, ⟨2, _⟩ => ⟨S4x1024x864, .f32⟩
  | .hbm, ⟨3, _⟩ => ⟨S4x1024x864, .f32⟩
  | .hbm, ⟨4, _⟩ => ⟨S4x1024x864, .f32⟩
  | .hbm, ⟨5, _⟩ => ⟨S4x1024x864, .f32⟩
  | .hbm, ⟨6, _⟩ => ⟨S4x1024x864, .f32⟩
  | .hbm, ⟨7, _⟩ => ⟨S4x1024x864, .f32⟩
  | .hbm, ⟨8, _⟩ => ⟨S4x1024x864, .f32⟩
  | .hbm, ⟨9, _⟩ => ⟨S4x1024x864, .f32⟩
  | .hbm, ⟨10, _⟩ => ⟨S4x1024x864, .f32⟩
  | .hbm, ⟨11, _⟩ => ⟨S4x1024x864, .f32⟩
  | .local _ .vmem, ⟨0, _⟩ => ⟨S8x256x864, .bf16⟩
  | .local _ .vmem, ⟨1, _⟩ => ⟨S8x256x864, .bf16⟩
  | .local _ .vmem, ⟨2, _⟩ => ⟨S1x256x864, .f32⟩
  | .local _ .vmem, ⟨3, _⟩ => ⟨S1x256x864, .f32⟩
  | .local _ .vmem, ⟨4, _⟩ => ⟨S1x256x864, .f32⟩
  | .local _ .vmem, ⟨5, _⟩ => ⟨S1x256x864, .f32⟩
  | .local _ .vmem, ⟨6, _⟩ => ⟨S1x256x864, .f32⟩
  | .local _ .vmem, ⟨7, _⟩ => ⟨S1x256x864, .f32⟩
  | .local _ .vmem, ⟨8, _⟩ => ⟨S1x256x864, .f32⟩
  | .local _ .vmem, ⟨9, _⟩ => ⟨S1x256x864, .f32⟩
  | .local _ .vmem, ⟨10, _⟩ => ⟨S1x256x864, .f32⟩
  | .local _ .vmem, ⟨11, _⟩ => ⟨S1x256x864, .f32⟩
  | .local _ .vmem, ⟨12, _⟩ => ⟨S1x256x864, .f32⟩
  | .local _ .vmem, ⟨13, _⟩ => ⟨S1x256x864, .f32⟩
  | .local _ .vmem, ⟨14, _⟩ => ⟨S1x256x864, .f32⟩
  | .local _ .vmem, ⟨15, _⟩ => ⟨S1x256x864, .f32⟩
  | _, _ => ⟨S8x1024x864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x864 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x864 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x864 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x864 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x864 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x864 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
abbrev S8x1024x864 : Shape := ⟨3, ![8, 1024, 864]⟩
abbrev S4x1024x864 : Shape := ⟨3, ![4, 1024, 864]⟩
abbrev S8x256x864 : Shape := ⟨3, ![8, 256, 864]⟩
abbrev S1x256x864 : Shape := ⟨3, ![1, 256, 864]⟩
abbrev S256x864 : Shape := ⟨2, ![256, 864]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x864, .bf16⟩
  | .hbm, ⟨1, _⟩ => ⟨S4x1024x864, .f32⟩
  | .hbm, ⟨2, _⟩ => ⟨S4x1024x864, .f32⟩
  | .hbm, ⟨3, _⟩ => ⟨S4x1024x864, .f32⟩
  | .hbm, ⟨4, _⟩ => ⟨S4x1024x864, .f32⟩
  | .hbm, ⟨5, _⟩ => ⟨S4x1024x864, .f32⟩
  | .hbm, ⟨6, _⟩ => ⟨S4x1024x864, .f32⟩
  | .hbm, ⟨7, _⟩ => ⟨S4x1024x864, .f32⟩
  | .hbm, ⟨8, _⟩ => ⟨S4x1024x864, .f32⟩
  | .hbm, ⟨9, _⟩ => ⟨S4x1024x864, .f32⟩
  | .hbm, ⟨10, _⟩ => ⟨S4x1024x864, .f32⟩
  | .hbm, ⟨11, _⟩ => ⟨S4x1024x864, .f32⟩
  | .local _ .vmem, ⟨0, _⟩ => ⟨S8x256x864, .bf16⟩
  | .local _ .vmem, ⟨1, _⟩ => ⟨S8x256x864, .bf16⟩
  | .local _ .vmem, ⟨2, _⟩ => ⟨S1x256x864, .f32⟩
  | .local _ .vmem, ⟨3, _⟩ => ⟨S1x256x864, .f32⟩
  | .local _ .vmem, ⟨4, _⟩ => ⟨S1x256x864, .f32⟩
  | .local _ .vmem, ⟨5, _⟩ => ⟨S1x256x864, .f32⟩
  | .local _ .vmem, ⟨6, _⟩ => ⟨S1x256x864, .f32⟩
  | .local _ .vmem, ⟨7, _⟩ => ⟨S1x256x864, .f32⟩
  | .local _ .vmem, ⟨8, _⟩ => ⟨S1x256x864, .f32⟩
  | .local _ .vmem, ⟨9, _⟩ => ⟨S1x256x864, .f32⟩
  | .local _ .vmem, ⟨10, _⟩ => ⟨S1x256x864, .f32⟩
  | .local _ .vmem, ⟨11, _⟩ => ⟨S1x256x864, .f32⟩
  | .local _ .vmem, ⟨12, _⟩ => ⟨S1x256x864, .f32⟩
  | .local _ .vmem, ⟨13, _⟩ => ⟨S1x256x864, .f32⟩
  | .local _ .vmem, ⟨14, _⟩ => ⟨S1x256x864, .f32⟩
  | .local _ .vmem, ⟨15, _⟩ => ⟨S1x256x864, .f32⟩
  | _, _ => ⟨S8x1024x864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x864 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x864 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x864 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x864 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x864 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x864 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x1024x864 : Shape := ⟨3, ![8, 1024, 864]⟩
abbrev S4x1024x864 : Shape := ⟨3, ![4, 1024, 864]⟩
abbrev S_ : Shape := ⟨0, ![]⟩
abbrev S1024x864 : Shape := ⟨2, ![1024, 864]⟩
abbrev S1x1024x864 : Shape := ⟨3, ![1, 1024, 864]⟩
abbrev S3x1024x864 : Shape := ⟨3, ![3, 1024, 864]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x864, .bf16⟩
  | .hbm, ⟨1, _⟩ => ⟨S4x1024x864, .f32⟩
  | .hbm, ⟨2, _⟩ => ⟨S4x1024x864, .f32⟩
  | .hbm, ⟨3, _⟩ => ⟨S4x1024x864, .f32⟩
  | .hbm, ⟨4, _⟩ => ⟨S4x1024x864, .f32⟩
  | .hbm, ⟨5, _⟩ => ⟨S4x1024x864, .f32⟩
  | .hbm, ⟨6, _⟩ => ⟨S4x1024x864, .f32⟩
  | .hbm, ⟨7, _⟩ => ⟨S4x1024x864, .f32⟩
  | .hbm, ⟨8, _⟩ => ⟨S8x1024x864, .f32⟩
  | .hbm, ⟨9, _⟩ => ⟨S_, .f32⟩
  | .hbm, ⟨10, _⟩ => ⟨S1024x864, .f32⟩
  | .hbm, ⟨11, _⟩ => ⟨S1x1024x864, .f32⟩
  | .hbm, ⟨12, _⟩ => ⟨S1024x864, .f32⟩
  | .hbm, ⟨13, _⟩ => ⟨S1x1024x864, .f32⟩
  | .hbm, ⟨14, _⟩ => ⟨S1024x864, .f32⟩
  | .hbm, ⟨15, _⟩ => ⟨S1x1024x864, .f32⟩
  | .hbm, ⟨16, _⟩ => ⟨S1024x864, .f32⟩
  | .hbm, ⟨17, _⟩ => ⟨S_, .f32⟩
  | .hbm, ⟨18, _⟩ => ⟨S1024x864, .f32⟩
  | .hbm, ⟨19, _⟩ => ⟨S1024x864, .f32⟩
  | .hbm, ⟨20, _⟩ => ⟨S_, .f32⟩
  | .hbm, ⟨21, _⟩ => ⟨S1024x864, .f32⟩
  | .hbm, ⟨22, _⟩ => ⟨S1024x864, .f32⟩
  | .hbm, ⟨23, _⟩ => ⟨S1024x864, .f32⟩
  | .hbm, ⟨24, _⟩ => ⟨S_, .f32⟩
  | .hbm, ⟨25, _⟩ => ⟨S1024x864, .f32⟩
  | .hbm, ⟨26, _⟩ => ⟨S1024x864, .f32⟩
  | .hbm, ⟨27, _⟩ => ⟨S1024x864, .f32⟩
  | .hbm, ⟨28, _⟩ => ⟨S_, .f32⟩
  | .hbm, ⟨29, _⟩ => ⟨S1024x864, .f32⟩
  | .hbm, ⟨30, _⟩ => ⟨S1024x864, .f32⟩
  | .hbm, ⟨31, _⟩ => ⟨S1024x864, .f32⟩
  | .hbm, ⟨32, _⟩ => ⟨S_, .f32⟩
  | .hbm, ⟨33, _⟩ => ⟨S1024x864, .f32⟩
  | .hbm, ⟨34, _⟩ => ⟨S1024x864, .f32⟩
  | .hbm, ⟨35, _⟩ => ⟨S_, .f32⟩
  | .hbm, ⟨36, _⟩ => ⟨S1024x864, .f32⟩
  | .hbm, ⟨37, _⟩ => ⟨S1024x864, .f32⟩
  | .hbm, ⟨38, _⟩ => ⟨S1024x864, .f32⟩
  | .hbm, ⟨39, _⟩ => ⟨S_, .f32⟩
  | .hbm, ⟨40, _⟩ => ⟨S1024x864, .f32⟩
  | .hbm, ⟨41, _⟩ => ⟨S1024x864, .f32⟩
  | .hbm, ⟨42, _⟩ => ⟨S1024x864, .f32⟩
  | .hbm, ⟨43, _⟩ => ⟨S_, .f32⟩
  | .hbm, ⟨44, _⟩ => ⟨S1024x864, .f32⟩
  | .hbm, ⟨45, _⟩ => ⟨S1024x864, .f32⟩
  | .hbm, ⟨46, _⟩ => ⟨S1024x864, .f32⟩
  | .hbm, ⟨47, _⟩ => ⟨S_, .f32⟩
  | .hbm, ⟨48, _⟩ => ⟨S1024x864, .f32⟩
  | .hbm, ⟨49, _⟩ => ⟨S1024x864, .f32⟩
  | .hbm, ⟨50, _⟩ => ⟨S1x1024x864, .f32⟩
  | .hbm, ⟨51, _⟩ => ⟨S3x1024x864, .f32⟩
  | .hbm, ⟨52, _⟩ => ⟨S4x1024x864, .f32⟩
  | .hbm, ⟨53, _⟩ => ⟨S1x1024x864, .f32⟩
  | .hbm, ⟨54, _⟩ => ⟨S3x1024x864, .f32⟩
  | .hbm, ⟨55, _⟩ => ⟨S4x1024x864, .f32⟩
  | .hbm, ⟨56, _⟩ => ⟨S1x1024x864, .f32⟩
  | .hbm, ⟨57, _⟩ => ⟨S3x1024x864, .f32⟩
  | .hbm, ⟨58, _⟩ => ⟨S4x1024x864, .f32⟩
  | .hbm, ⟨59, _⟩ => ⟨S1x1024x864, .f32⟩
  | .hbm, ⟨60, _⟩ => ⟨S3x1024x864, .f32⟩
  | .hbm, ⟨61, _⟩ => ⟨S4x1024x864, .f32⟩
  | _, _ => ⟨S8x1024x864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel20.lean ====
abbrev S8x1024x128 : Shape := ⟨3, ![8, 1024, 128]⟩
abbrev S4x1024x128 : Shape := ⟨3, ![4, 1024, 128]⟩
abbrev S1x1024x128 : Shape := ⟨3, ![1, 1024, 128]⟩
abbrev S1024x128 : Shape := ⟨2, ![1024, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x1024x128, .bf16⟩
  | .hbm, ⟨1, _⟩ => ⟨S4x1024x128, .f32⟩
  | .hbm, ⟨2, _⟩ => ⟨S4x1024x128, .f32⟩
  | .hbm, ⟨3, _⟩ => ⟨S4x1024x128, .f32⟩
  | .hbm, ⟨4, _⟩ => ⟨S4x1024x128, .f32⟩
  | .hbm, ⟨5, _⟩ => ⟨S4x1024x128, .f32⟩
  | .hbm, ⟨6, _⟩ => ⟨S4x1024x128, .f32⟩
  | .hbm, ⟨7, _⟩ => ⟨S4x1024x128, .f32⟩
  | .hbm, ⟨8, _⟩ => ⟨S4x1024x128, .f32⟩
  | .hbm, ⟨9, _⟩ => ⟨S4x1024x128, .f32⟩
  | .hbm, ⟨10, _⟩ => ⟨S4x1024x128, .f32⟩
  | .hbm, ⟨11, _⟩ => ⟨S4x1024x128, .f32⟩
  | .local _ .vmem, ⟨0, _⟩ => ⟨S8x1024x128, .bf16⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | _, _ => ⟨S8x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel20Ideal.lean ====
abbrev S8x1024x128 : Shape := ⟨3, ![8, 1024, 128]⟩
abbrev S4x1024x128 : Shape := ⟨3, ![4, 1024, 128]⟩
abbrev S1x1024x128 : Shape := ⟨3, ![1, 1024, 128]⟩
abbrev S1024x128 : Shape := ⟨2, ![1024, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x1024x128, .bf16⟩
  | .hbm, ⟨1, _⟩ => ⟨S4x1024x128, .f32⟩
  | .hbm, ⟨2, _⟩ => ⟨S4x1024x128, .f32⟩
  | .hbm, ⟨3, _⟩ => ⟨S4x1024x128, .f32⟩
  | .hbm, ⟨4, _⟩ => ⟨S4x1024x128, .f32⟩
  | .hbm, ⟨5, _⟩ => ⟨S4x1024x128, .f32⟩
  | .hbm, ⟨6, _⟩ => ⟨S4x1024x128, .f32⟩
  | .hbm, ⟨7, _⟩ => ⟨S4x1024x128, .f32⟩
  | .hbm, ⟨8, _⟩ => ⟨S4x1024x128, .f32⟩
  | .hbm, ⟨9, _⟩ => ⟨S4x1024x128, .f32⟩
  | .hbm, ⟨10, _⟩ => ⟨S4x1024x128, .f32⟩
  | .hbm, ⟨11, _⟩ => ⟨S4x1024x128, .f32⟩
  | .local _ .vmem, ⟨0, _⟩ => ⟨S8x1024x128, .bf16⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | _, _ => ⟨S8x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x1024x128 : Shape := ⟨3, ![8, 1024, 128]⟩
abbrev S4x1024x128 : Shape := ⟨3, ![4, 1024, 128]⟩
abbrev S_ : Shape := ⟨0, ![]⟩
abbrev S1024x128 : Shape := ⟨2, ![1024, 128]⟩
abbrev S1x1024x128 : Shape := ⟨3, ![1, 1024, 128]⟩
abbrev S3x1024x128 : Shape := ⟨3, ![3, 1024, 128]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x128, .bf16⟩
  | .hbm, ⟨1, _⟩ => ⟨S4x1024x128, .f32⟩
  | .hbm, ⟨2, _⟩ => ⟨S4x1024x128, .f32⟩
  | .hbm, ⟨3, _⟩ => ⟨S4x1024x128, .f32⟩
  | .hbm, ⟨4, _⟩ => ⟨S4x1024x128, .f32⟩
  | .hbm, ⟨5, _⟩ => ⟨S4x1024x128, .f32⟩
  | .hbm, ⟨6, _⟩ => ⟨S4x1024x128, .f32⟩
  | .hbm, ⟨7, _⟩ => ⟨S4x1024x128, .f32⟩
  | .hbm, ⟨8, _⟩ => ⟨S8x1024x128, .f32⟩
  | .hbm, ⟨9, _⟩ => ⟨S_, .f32⟩
  | .hbm, ⟨10, _⟩ => ⟨S1024x128, .f32⟩
  | .hbm, ⟨11, _⟩ => ⟨S1x1024x128, .f32⟩
  | .hbm, ⟨12, _⟩ => ⟨S1024x128, .f32⟩
  | .hbm, ⟨13, _⟩ => ⟨S1x1024x128, .f32⟩
  | .hbm, ⟨14, _⟩ => ⟨S1024x128, .f32⟩
  | .hbm, ⟨15, _⟩ => ⟨S1x1024x128, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S_, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S_, .f32⟩
  | .hbm, ⟨36, _⟩ => ⟨S1024x128, .f32⟩
  | .hbm, ⟨37, _⟩ => ⟨S1024x128, .f32⟩
  | .hbm, ⟨38, _⟩ => ⟨S1024x128, .f32⟩
  | .hbm, ⟨39, _⟩ => ⟨S_, .f32⟩
  | .hbm, ⟨40, _⟩ => ⟨S1024x128, .f32⟩
  | .hbm, ⟨41, _⟩ => ⟨S1024x128, .f32⟩
  | .hbm, ⟨42, _⟩ => ⟨S1024x128, .f32⟩
  | .hbm, ⟨43, _⟩ => ⟨S_, .f32⟩
  | .hbm, ⟨44, _⟩ => ⟨S1024x128, .f32⟩
  | .hbm, ⟨45, _⟩ => ⟨S1024x128, .f32⟩
  | .hbm, ⟨46, _⟩ => ⟨S1024x128, .f32⟩
  | .hbm, ⟨47, _⟩ => ⟨S_, .f32⟩
  | .hbm, ⟨48, _⟩ => ⟨S1024x128, .f32⟩
  | .hbm, ⟨49, _⟩ => ⟨S1024x128, .f32⟩
  | .hbm, ⟨50, _⟩ => ⟨S1x1024x128, .f32⟩
  | .hbm, ⟨51, _⟩ => ⟨S3x1024x128, .f32⟩
  | .hbm, ⟨52, _⟩ => ⟨S4x1024x128, .f32⟩
  | .hbm, ⟨53, _⟩ => ⟨S1x1024x128, .f32⟩
  | .hbm, ⟨54, _⟩ => ⟨S3x1024x128, .f32⟩
  | .hbm, ⟨55, _⟩ => ⟨S4x1024x128, .f32⟩
  | .hbm, ⟨56, _⟩ => ⟨S1x1024x128, .f32⟩
  | .hbm, ⟨57, _⟩ => ⟨S3x1024x128, .f32⟩
  | .hbm, ⟨58, _⟩ => ⟨S4x1024x128, .f32⟩
  | .hbm, ⟨59, _⟩ => ⟨S1x1024x128, .f32⟩
  | .hbm, ⟨60, _⟩ => ⟨S3x1024x128, .f32⟩
  | .hbm, ⟨61, _⟩ => ⟨S4x1024x128, .f32⟩
  | _, _ => ⟨S8x1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel21.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel21Ideal.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩
abbrev S3x128x1024 : Shape := ⟨3, ![3, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S3x128x1024, .f32⟩
  | .hbm, ⟨52, _⟩ => ⟨S4x128x1024, .f32⟩
  | .hbm, ⟨53, _⟩ => ⟨S1x128x1024, .f32⟩
  | .hbm, ⟨54, _⟩ => ⟨S3x128x1024, .f32⟩
  | .hbm, ⟨55, _⟩ => ⟨S4x128x1024, .f32⟩
  | .hbm, ⟨56, _⟩ => ⟨S1x128x1024, .f32⟩
  | .hbm, ⟨57, _⟩ => ⟨S3x128x1024, .f32⟩
  | .hbm, ⟨58, _⟩ => ⟨S4x128x1024, .f32⟩
  | .hbm, ⟨59, _⟩ => ⟨S1x128x1024, .f32⟩
  | .hbm, ⟨60, _⟩ => ⟨S3x128x1024, .f32⟩
  | .hbm, ⟨61, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel22.lean ====
abbrev S8x1024x704 : Shape := ⟨3, ![8, 1024, 704]⟩
abbrev S4x1024x704 : Shape := ⟨3, ![4, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S4x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel22Ideal.lean ====
abbrev S8x1024x704 : Shape := ⟨3, ![8, 1024, 704]⟩
abbrev S4x1024x704 : Shape := ⟨3, ![4, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S4x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x1024x704 : Shape := ⟨3, ![8, 1024, 704]⟩
abbrev S4x1024x704 : Shape := ⟨3, ![4, 1024, 704]⟩
abbrev S_ : Shape := ⟨0, ![]⟩
abbrev S1024x704 : Shape := ⟨2, ![1024, 704]⟩
abbrev S1x1024x704 : Shape := ⟨3, ![1, 1024, 704]⟩
abbrev S3x1024x704 : Shape := ⟨3, ![3, 1024, 704]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .hbm, ⟨8, _⟩ => ⟨S8x1024x704, .f32⟩
  | .hbm, ⟨9, _⟩ => ⟨S_, .f32⟩
  | .hbm, ⟨10, _⟩ => ⟨S1024x704, .f32⟩
  | .hbm, ⟨11, _⟩ => ⟨S1x1024x704, .f32⟩
  | .hbm, ⟨12, _⟩ => ⟨S1024x704, .f32⟩
  | .hbm, ⟨13, _⟩ => ⟨S1x1024x704, .f32⟩
  | .hbm, ⟨14, _⟩ => ⟨S1024x704, .f32⟩
  | .hbm, ⟨15, _⟩ => ⟨S1x1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | .hbm, ⟨46, _⟩ => ⟨S1024x704, .f32⟩
  | .hbm, ⟨47, _⟩ => ⟨S_, .f32⟩
  | .hbm, ⟨48, _⟩ => ⟨S1024x704, .f32⟩
  | .hbm, ⟨49, _⟩ => ⟨S1024x704, .f32⟩
  | .hbm, ⟨50, _⟩ => ⟨S1x1024x704, .f32⟩
  | .hbm, ⟨51, _⟩ => ⟨S3x1024x704, .f32⟩
  | .hbm, ⟨52, _⟩ => ⟨S4x1024x704, .f32⟩
  | .hbm, ⟨53, _⟩ => ⟨S1x1024x704, .f32⟩
  | .hbm, ⟨54, _⟩ => ⟨S3x1024x704, .f32⟩
  | .hbm, ⟨55, _⟩ => ⟨S4x1024x704, .f32⟩
  | .hbm, ⟨56, _⟩ => ⟨S1x1024x704, .f32⟩
  | .hbm, ⟨57, _⟩ => ⟨S3x1024x704, .f32⟩
  | .hbm, ⟨58, _⟩ => ⟨S4x1024x704, .f32⟩
  | .hbm, ⟨59, _⟩ => ⟨S1x1024x704, .f32⟩
  | .hbm, ⟨60, _⟩ => ⟨S3x1024x704, .f32⟩
  | .hbm, ⟨61, _⟩ => ⟨S4x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel23.lean ====
abbrev S8x352x1024 : Shape := ⟨3, ![8, 352, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel23Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference23Ideal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩
abbrev S3x352x1024 : Shape := ⟨3, ![3, 352, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S352x1024, .f32⟩
  | .hbm, ⟨13, _⟩ => ⟨S1x352x1024, .f32⟩
  | .hbm, ⟨14, _⟩ => ⟨S352x1024, .f32⟩
  | .hbm, ⟨15, _⟩ => ⟨S1x352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S_, .f32⟩
  | .hbm, ⟨48, _⟩ => ⟨S352x1024, .f32⟩
  | .hbm, ⟨49, _⟩ => ⟨S352x1024, .f32⟩
  | .hbm, ⟨50, _⟩ => ⟨S1x352x1024, .f32⟩
  | .hbm, ⟨51, _⟩ => ⟨S3x352x1024, .f32⟩
  | .hbm, ⟨52, _⟩ => ⟨S4x352x1024, .f32⟩
  | .hbm, ⟨53, _⟩ => ⟨S1x352x1024, .f32⟩
  | .hbm, ⟨54, _⟩ => ⟨S3x352x1024, .f32⟩
  | .hbm, ⟨55, _⟩ => ⟨S4x352x1024, .f32⟩
  | .hbm, ⟨56, _⟩ => ⟨S1x352x1024, .f32⟩
  | .hbm, ⟨57, _⟩ => ⟨S3x352x1024, .f32⟩
  | .hbm, ⟨58, _⟩ => ⟨S4x352x1024, .f32⟩
  | .hbm, ⟨59, _⟩ => ⟨S1x352x1024, .f32⟩
  | .hbm, ⟨60, _⟩ => ⟨S3x352x1024, .f32⟩
  | .hbm, ⟨61, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel24.lean ====
abbrev S1x3288x128 : Shape := ⟨3, ![1, 3288, 128]⟩
abbrev S3288x128 : Shape := ⟨2, ![3288, 128]⟩
abbrev S1x1096x128 : Shape := ⟨3, ![1, 1096, 128]⟩
abbrev S1096x128 : Shape := ⟨2, ![1096, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x3288x128, .f32⟩
  | .hbm, ⟨1, _⟩ => ⟨S3288x128, .f32⟩
  | .hbm, ⟨2, _⟩ => ⟨S3288x128, .f32⟩
  | .hbm, ⟨3, _⟩ => ⟨S3288x128, .f32⟩
  | .hbm, ⟨4, _⟩ => ⟨S3288x128, .f32⟩
  | .hbm, ⟨5, _⟩ => ⟨S3288x128, .f32⟩
  | .hbm, ⟨6, _⟩ => ⟨S3288x128, .f32⟩
  | .hbm, ⟨7, _⟩ => ⟨S3288x128, .f32⟩
  | .local _ .vmem, ⟨0, _⟩ => ⟨S1x1096x128, .f32⟩
  | .local _ .vmem, ⟨1, _⟩ => ⟨S1x1096x128, .f32⟩
  | .local _ .vmem, ⟨2, _⟩ => ⟨S1096x128, .f32⟩
  | .local _ .vmem, ⟨3, _⟩ => ⟨S1096x128, .f32⟩
  | .local _ .vmem, ⟨4, _⟩ => ⟨S1096x128, .f32⟩
  | .local _ .vmem, ⟨5, _⟩ => ⟨S1096x128, .f32⟩
  | .local _ .vmem, ⟨6, _⟩ => ⟨S1096x128, .f32⟩
  | .local _ .vmem, ⟨7, _⟩ => ⟨S1096x128, .f32⟩
  | .local _ .vmem, ⟨8, _⟩ => ⟨S1096x128, .f32⟩
  | .local _ .vmem, ⟨9, _⟩ => ⟨S1096x128, .f32⟩
  | .local _ .vmem, ⟨10, _⟩ => ⟨S1096x128, .f32⟩
  | .local _ .vmem, ⟨11, _⟩ => ⟨S1096x128, .f32⟩
  | .local _ .vmem, ⟨12, _⟩ => ⟨S1096x128, .f32⟩
  | .local _ .vmem, ⟨13, _⟩ => ⟨S1096x128, .f32⟩
  | .local _ .vmem, ⟨14, _⟩ => ⟨S1096x128, .f32⟩
  | .local _ .vmem, ⟨15, _⟩ => ⟨S1096x128, .f32⟩
  | _, _ => ⟨S1x3288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel24Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference24Ideal.lean ====
abbrev S1x3288x128 : Shape := ⟨3, ![1, 3288, 128]⟩
abbrev S3288x128 : Shape := ⟨2, ![3288, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x3288x128, .f32⟩
  | .hbm, ⟨1, _⟩ => ⟨S3288x128, .f32⟩
  | .hbm, ⟨2, _⟩ => ⟨S3288x128, .f32⟩
  | .hbm, ⟨3, _⟩ => ⟨S3288x128, .f32⟩
  | .hbm, ⟨4, _⟩ => ⟨S_, .f32⟩
  | .hbm, ⟨5, _⟩ => ⟨S3288x128, .f32⟩
  | .hbm, ⟨6, _⟩ => ⟨S_, .f32⟩
  | .hbm, ⟨7, _⟩ => ⟨S3288x128, .f32⟩
  | .hbm, ⟨8, _⟩ => ⟨S3288x128, .f32⟩
  | .hbm, ⟨9, _⟩ => ⟨S_, .f32⟩
  | .hbm, ⟨10, _⟩ => ⟨S3288x128, .f32⟩
  | .hbm, ⟨11, _⟩ => ⟨S3288x128, .f32⟩
  | .hbm, ⟨12, _⟩ => ⟨S3288x128, .f32⟩
  | .hbm, ⟨13, _⟩ => ⟨S_, .f32⟩
  | .hbm, ⟨14, _⟩ => ⟨S3288x128, .f32⟩
  | .hbm, ⟨15, _⟩ => ⟨S3288x128, .f32⟩
  | .hbm, ⟨16, _⟩ => ⟨S3288x128, .f32⟩
  | .hbm, ⟨17, _⟩ => ⟨S_, .f32⟩
  | .hbm, ⟨18, _⟩ => ⟨S3288x128, .f32⟩
  | .hbm, ⟨19, _⟩ => ⟨S3288x128, .f32⟩
  | .hbm, ⟨20, _⟩ => ⟨S3288x128, .f32⟩
  | .hbm, ⟨21, _⟩ => ⟨S_, .f32⟩
  | .hbm, ⟨22, _⟩ => ⟨S3288x128, .f32⟩
  | .hbm, ⟨23, _⟩ => ⟨S3288x128, .f32⟩
  | .hbm, ⟨24, _⟩ => ⟨S_, .f32⟩
  | .hbm, ⟨25, _⟩ => ⟨S3288x128, .f32⟩
  | .hbm, ⟨26, _⟩ => ⟨S3288x128, .f32⟩
  | .hbm, ⟨27, _⟩ => ⟨S3288x128, .f32⟩
  | .hbm, ⟨28, _⟩ => ⟨S_, .f32⟩
  | .hbm, ⟨29, _⟩ => ⟨S3288x128, .f32⟩
  | .hbm, ⟨30, _⟩ => ⟨S3288x128, .f32⟩
  | .hbm, ⟨31, _⟩ => ⟨S3288x128, .f32⟩
  | .hbm, ⟨32, _⟩ => ⟨S_, .f32⟩
  | .hbm, ⟨33, _⟩ => ⟨S3288x128, .f32⟩
  | .hbm, ⟨34, _⟩ => ⟨S3288x128, .f32⟩
  | .hbm, ⟨35, _⟩ => ⟨S3288x128, .f32⟩
  | .hbm, ⟨36, _⟩ => ⟨S_, .f32⟩
  | .hbm, ⟨37, _⟩ => ⟨S3288x128, .f32⟩
  | .hbm, ⟨38, _⟩ => ⟨S3288x128, .f32⟩
  | _, _ => ⟨S1x3288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S8x3344x128 : Shape := ⟨3, ![8, 3344, 128]⟩
abbrev S3344x128 : Shape := ⟨2, ![3344, 128]⟩
abbrev S8x1672x128 : Shape := ⟨3, ![8, 1672, 128]⟩
abbrev S1672x128 : Shape := ⟨2, ![1672, 128]⟩
abbrev S1x1672x128 : Shape := ⟨3, ![1, 1672, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x3344x128, .f32⟩
  | .hbm, ⟨1, _⟩ => ⟨S3344x128, .f32⟩
  | .local _ .vmem, ⟨0, _⟩ => ⟨S8x1672x128, .f32⟩
  | .local _ .vmem, ⟨1, _⟩ => ⟨S8x1672x128, .f32⟩
  | .local _ .vmem, ⟨2, _⟩ => ⟨S1672x128, .f32⟩
  | .local _ .vmem, ⟨3, _⟩ => ⟨S1672x128, .f32⟩
  | _, _ => ⟨S8x3344x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1672x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1672x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference25Ideal.lean ====
abbrev S8x3344x128 : Shape := ⟨3, ![8, 3344, 128]⟩
abbrev S_ : Shape := ⟨0, ![]⟩
abbrev S3344x128 : Shape := ⟨2, ![3344, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x3344x128, .f32⟩
  | .hbm, ⟨1, _⟩ => ⟨S_, .f32⟩
  | .hbm, ⟨2, _⟩ => ⟨S3344x128, .f32⟩
  | _, _ => ⟨S8x3344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S2048x1024 : Shape := ⟨2, ![2048, 1024]⟩
abbrev S1x1 : Shape := ⟨2, ![1, 1]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.MergeSpec.lean ====
/- What the backward pass of the branch merge computes, as plain formulas over the extended reals: one row of tokens
   at a time, for rows of 1024 channels and branches of 256 channels. -/
module

public import Idealize.ShloMosaic.Lib.Pointwise

@[expose] public section

noncomputable section

namespace Cert.MergeSpec

open Idealize.ShloMosaic

/-- A row of the model's 1024 channels. -/
abbrev Row := Fin 1024 → EReal

/-- The number 1024, as both programs write it. -/
def width : EReal := Ideal.ofBits .f32 0x44800000#32

/-- The norm's small constant, as both programs write it. -/
def eps : EReal := Ideal.ofBits .f32 0x358637BD#32

/-- The reciprocal root mean square of a row. -/
def inv (y : Row) : EReal := Ideal.rsqrt (Ideal.div (∑ e, y e * y e) width + eps)

/-- The gradient of the norm `y * inv y * g` in `y`, as the kernel writes it. -/
def dy (dx y g : Row) : Row := fun e =>
  inv y * (dx e * g e - y e * inv y * Ideal.div (∑ k, dx k * g k * (y k * inv y)) width)

/-- The number −1/2, as the reference writes it. -/
def negHalf : EReal := Ideal.ofBits .f32 0xBF000000#32

/-- The mean square of a row plus the small constant. -/
def ms (y : Row) : EReal := Ideal.div (∑ e, y e * y e) width + eps

/-- The part of the norm's gradient that comes through the root mean square, as the reference writes it. -/
def thru (dx y g : Row) : EReal :=
  Ideal.div ((∑ k, y k * (dx k * g k)) * (negHalf * Ideal.div (inv y) (ms y))) width

/-- The gradient of the norm in `y`, as the reference writes it. -/
def dyRef (dx y g : Row) : Row := fun e => dx e * g e * inv y + y e * thru dx y g + thru dx y g * y e

/-- One row's part of the gradient in the norm's gain. -/
def dgain (dx y : Row) : Row := fun e => dx e * (y e * inv y)

/-- The gradient in the merged row: the row `dy` against the output projection's rows. -/
def dmerged (v : Row) (wo : Fin 1024 → Row) : Row := fun d => ∑ e, v e * wo d e

/-- One branch's row projected to the model's channels. -/
def proj (o : Fin 256 → EReal) (w : Fin 256 → Row) : Row := fun d => ∑ k, o k * w k d

/-- The gradient in a branch's projection. -/
def dproj (v : Row) (wo : Fin 1024 → Row) (z : Row) : Row := fun d => dmerged v wo d * Ideal.logistic (z d)

/-- The gradient in a branch's gate logits. -/
def dgate (v : Row) (wo : Fin 1024 → Row) (z : Row) (o : Fin 256 → EReal) (w : Fin 256 → Row) : Row := fun d =>
  dmerged v wo d * proj o w d * Ideal.logistic (z d) * (1 - Ideal.logistic (z d))

/-- The gradient in a branch's output. -/
def dout (v : Row) (wo : Fin 1024 → Row) (z : Row) (w : Fin 256 → Row) : Fin 256 → EReal := fun k =>
  ∑ d, dproj v wo z d * w k d

/-- The merged row before the output projection: the four branches' projections, each times its gate. -/
def merged (z : Fin 4 → Row) (o : Fin 4 → Fin 256 → EReal) (w : Fin 4 → Fin 256 → Row) : Row := fun d =>
  ∑ n, Ideal.logistic (z n d) * proj (o n) (w n) d

/-- The merged row through the output projection. -/
def outRow (z : Fin 4 → Row) (o : Fin 4 → Fin 256 → EReal) (w : Fin 4 → Fin 256 → Row) (wo : Fin 1024 → Row) : Row :=
  fun e => ∑ d, merged z o w d * wo d e

end Cert.MergeSpec

end
-- ==== Proof.MergeReal.lean ====
/- Real rows: the two spellings of the norm's gradient agree where every entry is a real number. -/
module

public import proofs.«01_k».proof.Proof.MergeSpec

@[expose] public section

set_option maxRecDepth 16384

noncomputable section

namespace Cert.MergeReal

open Idealize.ShloMosaic Cert.MergeSpec

/-- An extended real that is a real number. -/
def IsNum (x : EReal) : Prop := ∃ r : ℝ, x = (r : EReal)

/-- A product of two numbers is a number. -/
theorem IsNum.mul {x y : EReal} (hx : IsNum x) (hy : IsNum y) : IsNum (x * y) := by
  obtain ⟨a, rfl⟩ := hx
  obtain ⟨b, rfl⟩ := hy
  exact ⟨a * b, (EReal.coe_mul a b).symm⟩

/-- A sum of numbers, as the sum of the reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of numbers is a number. -/
theorem IsNum.sum {ι : Type*} (s : Finset ι) {f : ι → EReal} (h : ∀ i, IsNum (f i)) : IsNum (∑ i ∈ s, f i) := by
  choose g hg using h
  exact ⟨∑ i ∈ s, g i, by rw [coe_sum]; exact Finset.sum_congr rfl fun i _ => hg i⟩

/-- A gate is a number, whatever its logit. -/
theorem isNum_logistic (x : EReal) : IsNum (Ideal.logistic x) := by
  induction x using EReal.rec with
  | bot => exact ⟨0, by simp⟩
  | coe r => exact ⟨_, Ideal.logistic_coe r⟩
  | top => exact ⟨1, by simp⟩

/-- The width is the number 1024. -/
theorem width_eq : width = ((1024 : ℝ) : EReal) := by
  unfold width
  simp [Ideal.ofBits, Ideal.ieee, -EReal.coe_mul]
  norm_num

/-- The reference's factor is the number −1/2. -/
theorem negHalf_eq : negHalf = ((-(1 / 2) : ℝ) : EReal) := by
  unfold negHalf
  simp [Ideal.ofBits, Ideal.ieee, -EReal.coe_mul]
  norm_num

/-- The small constant is a positive number. -/
theorem eps_eq : ∃ r : ℝ, 0 < r ∧ eps = (r : EReal) := by
  refine ⟨(8796093 / 2 ^ 43 : ℝ), by norm_num, ?_⟩
  unfold eps
  simp [Ideal.ofBits, Ideal.ieee, -EReal.coe_mul]
  norm_num

/-- The norm's gradient as the reference writes it is the norm's gradient as the kernel writes it, on real rows. -/
theorem dyRef_eq (dx y g : Row) (hdx : ∀ e, IsNum (dx e)) (hy : ∀ e, IsNum (y e)) (hg : ∀ e, IsNum (g e)) :
    dyRef dx y g = dy dx y g := by
  choose a ha using hdx
  choose b hb using hy
  choose w hw using hg
  obtain rfl : dx = fun e => (a e : EReal) := funext ha
  obtain rfl : y = fun e => (b e : EReal) := funext hb
  obtain rfl : g = fun e => (w e : EReal) := funext hw
  obtain ⟨p, hp, hpe⟩ := eps_eq
  have hS : 0 ≤ ∑ e, b e * b e := Finset.sum_nonneg fun e _ => mul_self_nonneg _
  set M : ℝ := (∑ e, b e * b e) * (1 / 1024) + p with hM
  have hMpos : 0 < M := by positivity
  have hms : ms (fun e => (b e : EReal)) = (M : EReal) := by
    unfold ms
    rw [width_eq, hpe, Ideal.div_coe (by norm_num)]
    simp only [← EReal.coe_mul, ← coe_sum, ← EReal.coe_add]
    rfl
  have hr : Cert.MergeSpec.inv (fun e => (b e : EReal)) = (((Real.sqrt M)⁻¹ : ℝ) : EReal) := by
    have : Cert.MergeSpec.inv (fun e => (b e : EReal)) = Ideal.rsqrt (ms (fun e => (b e : EReal))) := rfl
    rw [this, hms, Ideal.rsqrt_coe, if_neg (not_lt.mpr hMpos.le), if_neg hMpos.ne']
  set r : ℝ := (Real.sqrt M)⁻¹ with hrd
  have hrr : r * r = 1 / M := by
    rw [hrd, ← mul_inv, Real.mul_self_sqrt hMpos.le, one_div]
  funext e
  unfold dyRef thru dy
  rw [hr, hms, width_eq, negHalf_eq, Ideal.div_coe hMpos.ne', Ideal.div_coe (by norm_num), Ideal.div_coe (by norm_num)]
  simp only [← EReal.coe_mul, ← coe_sum, ← EReal.coe_add, ← EReal.coe_sub]
  refine congrArg Real.toEReal ?_
  have h1 : ∑ k, a k * w k * (b k * r) = (∑ k, b k * (a k * w k)) * r := by
    rw [Finset.sum_mul]
    exact Finset.sum_congr rfl fun k _ => by ring
  rw [h1, ← hrr]
  ring

/-- The merged rows of real branch outputs and weights are real, whatever the gates. -/
theorem isNum_outRow (z : Fin 4 → Row) (o : Fin 4 → Fin 256 → EReal) (w : Fin 4 → Fin 256 → Row) (wo : Fin 1024 → Row)
    (ho : ∀ n k, IsNum (o n k)) (hw : ∀ n k d, IsNum (w n k d)) (hwo : ∀ d e, IsNum (wo d e)) (e : Fin 1024) :
    IsNum (outRow z o w wo e) :=
  IsNum.sum _ fun d => (IsNum.sum _ fun n => (isNum_logistic _).mul (IsNum.sum _ fun k => (ho n k).mul (hw n k d))).mul (hwo d e)

end Cert.MergeReal

end
-- ==== Proof.MergePre.lean ====
/- What the precondition says, entry by entry: every argument but the gates' logits is a real number. -/
module

public import proofs.«01_k».proof.Defs
public import proofs.«01_k».proof.Proof.Gen.Pre_finite
public import proofs.«01_k».proof.Proof.MergeReal

@[expose] public section

set_option maxRecDepth 16384

noncomputable section

namespace Cert.MergePre

open Idealize.ShloMosaic Idealize.SL.Sem Cert.MergeReal Cert.Pre_finite

/-- An extended real whose absolute value is below infinity is a number. -/
theorem isNum_of_lt {x : EReal} (h : max x (-x) < ⊤) : IsNum x := by
  induction x using EReal.rec with
  | bot => simp at h
  | coe r => exact ⟨r, rfl⟩
  | top => simp at h

/-- The comparison of the single-precision arguments: it is true of numbers only. -/
theorem isNum_f32 {x : EReal} (h : BitVec.ofBool (decide (max x (-x) < Ideal.ofBits .f32 0x7F800000#32)) = 1#1) : IsNum x := by
  have htop : Ideal.ofBits .f32 0x7F800000#32 = ⊤ := by simp [Ideal.ofBits, Ideal.ieee]
  rw [htop] at h
  by_cases hx : max x (-x) < ⊤
  · exact isNum_of_lt hx
  · simp [hx] at h

/-- The comparison of the half-precision arguments: it is true of numbers only. -/
theorem isNum_bf16 {x : EReal} (h : BitVec.ofBool (decide (max x (-x) < Ideal.ofBits .bf16 0x7F80#16)) = 1#1) : IsNum x := by
  have htop : Ideal.ofBits .bf16 0x7F80#16 = ⊤ := by simp [Ideal.ofBits, Ideal.ieee]
  rw [htop] at h
  by_cases hx : max x (-x) < ⊤
  · exact isNum_of_lt hx
  · simp [hx] at h

variable (x0 : FVec Ideal S2048x1024 .f32) (x1 : FVec Ideal S1x1024 .f32) (x2 x3 x4 x5 : FVec Ideal S2048x256 .bf16)
  (x6 : FVec Ideal S2048x4096 .f32) (x7 : FVec Ideal S4x256x1024 .bf16) (x8 : FVec Ideal S1024x1024 .bf16)

/-- The gradient that comes in: all numbers. -/
theorem num0 (h : (fn (F := Ideal) x0 x1 x2 x3 x4 x5 x6 x7 x8).1 = fun _ => 1#1) (i : S2048x1024.Idx) : IsNum (x0 i) := by
  have h1 := congrFun h i
  pointwise [fn, fn_part1] at h1
  exact isNum_f32 h1

/-- The norm's gain: all numbers. -/
theorem num1 (h : (fn (F := Ideal) x0 x1 x2 x3 x4 x5 x6 x7 x8).2.1 = fun _ => 1#1) (i : S1x1024.Idx) : IsNum (x1 i) := by
  have h1 := congrFun h i
  pointwise [fn, fn_part1] at h1
  exact isNum_f32 h1

/-- The first branch: all numbers. -/
theorem num2 (h : (fn (F := Ideal) x0 x1 x2 x3 x4 x5 x6 x7 x8).2.2.1 = fun _ => 1#1) (i : S2048x256.Idx) : IsNum (x2 i) := by
  have h1 := congrFun h i
  pointwise [fn, fn_part1] at h1
  exact isNum_bf16 h1

/-- The second branch: all numbers. -/
theorem num3 (h : (fn (F := Ideal) x0 x1 x2 x3 x4 x5 x6 x7 x8).2.2.2.1 = fun _ => 1#1) (i : S2048x256.Idx) : IsNum (x3 i) := by
  have h1 := congrFun h i
  pointwise [fn, fn_part1] at h1
  exact isNum_bf16 h1

/-- The third branch: all numbers. -/
theorem num4 (h : (fn (F := Ideal) x0 x1 x2 x3 x4 x5 x6 x7 x8).2.2.2.2.1 = fun _ => 1#1) (i : S2048x256.Idx) : IsNum (x4 i) := by
  have h1 := congrFun h i
  pointwise [fn, fn_part1] at h1
  exact isNum_bf16 h1

/-- The fourth branch: all numbers. -/
theorem num5 (h : (fn (F := Ideal) x0 x1 x2 x3 x4 x5 x6 x7 x8).2.2.2.2.2.1 = fun _ => 1#1) (i : S2048x256.Idx) : IsNum (x5 i) := by
  have h1 := congrFun h i
  pointwise [fn, fn_part1] at h1
  exact isNum_bf16 h1

/-- The branches' projections: all numbers. -/
theorem num7 (h : (fn (F := Ideal) x0 x1 x2 x3 x4 x5 x6 x7 x8).2.2.2.2.2.2.1 = fun _ => 1#1) (i : S4x256x1024.Idx) : IsNum (x7 i) := by
  have h1 := congrFun h i
  pointwise [fn, fn_part1] at h1
  exact isNum_bf16 h1

/-- The output projection: all numbers. -/
theorem num8 (h : (fn (F := Ideal) x0 x1 x2 x3 x4 x5 x6 x7 x8).2.2.2.2.2.2.2 = fun _ => 1#1) (i : S1024x1024.Idx) : IsNum (x8 i) := by
  have h1 := congrFun h i
  pointwise [fn, fn_part1] at h1
  exact isNum_bf16 h1

end Cert.MergePre

end
-- ==== Proof.MergePay.lean ====
/- The values that the merge kernel's body stores at a grid point, read at an index. -/
module

public import proofs.«01_k».proof.Proof.MergeSpec
public import proofs.«01_k».proof.Proof.Gen.KernelIdeal.Value

@[expose] public section

set_option maxRecDepth 16384

noncomputable section

namespace Cert.MergePay

open Cert.KernelIdeal Cert.KernelIdeal.Gen Idealize.ShloMosaic Cert.MergeSpec

/-- The stored `dy` block. -/
theorem pay11_at (y : FVec Ideal S256x1024 .f32) (g : FVec Ideal S1x1024 .f32) (dx : FVec Ideal S256x1024 .f32)
    (r : Fin 256) (e : Fin 1024) :
    k0_pay11 (F := Ideal) y g dx (ix2 r e)
      = dy (fun k => dx (ix2 r k)) (fun k => y (ix2 r k)) (fun k => g (ix2 0 k)) e := by
  unfold_payloads
  pointwise [dy, Cert.MergeSpec.inv, width, eps]

/-- Branch 0: the stored gradient in the projection. -/
theorem dproj0_at (P : FVec Ideal S256x1024 .bf16) (wo : FVec Ideal S1024x1024 .bf16)
    (z : FVec Ideal S256x1024 .f32) (r : Fin 256) (d : Fin 1024) :
    k0_pay14 (F := Ideal) P wo z (ix2 r d)
      = dproj (fun e => P (ix2 r e)) (fun d e => wo (ix2 d e)) (fun d => z (ix2 r d)) d := by
  unfold_payloads
  pointwise [dproj, dmerged]

/-- Branch 0: the stored gradient in the gate's logits. -/
theorem dgate0_at (P : FVec Ideal S256x1024 .bf16) (wo : FVec Ideal S1024x1024 .bf16)
    (z : FVec Ideal S256x1024 .f32) (o : FVec Ideal S256x256 .bf16) (w : FVec Ideal S1x256x1024 .bf16)
    (r : Fin 256) (d : Fin 1024) :
    k0_pay15 (F := Ideal) P wo z o w (ix2 r d)
      = dgate (fun e => P (ix2 r e)) (fun d e => wo (ix2 d e)) (fun d => z (ix2 r d)) (fun k => o (ix2 r k)) (fun k d => w (ix3 0 k d)) d := by
  unfold_payloads
  pointwise [dgate, dmerged, proj]

/-- Branch 0: the stored gradient in the branch's output. -/
theorem dout0_at (P : FVec Ideal S256x1024 .bf16) (wo : FVec Ideal S1024x1024 .bf16)
    (z : FVec Ideal S256x1024 .f32) (w : FVec Ideal S1x256x1024 .bf16) (r : Fin 256) (k : Fin 256) :
    k0_pay16 (F := Ideal) P wo z w (ix2 r k)
      = dout (fun e => P (ix2 r e)) (fun d e => wo (ix2 d e)) (fun d => z (ix2 r d)) (fun k d => w (ix3 0 k d)) k := by
  unfold_payloads
  pointwise [dout, dproj, dmerged]

/-- Branch 1: the stored gradient in the projection. -/
theorem dproj1_at (P : FVec Ideal S256x1024 .bf16) (wo : FVec Ideal S1024x1024 .bf16)
    (z : FVec Ideal S256x1024 .f32) (r : Fin 256) (d : Fin 1024) :
    k0_pay18 (F := Ideal) (k0_pay12 P wo) (k0_pay17 z) (ix2 r d)
      = dproj (fun e => P (ix2 r e)) (fun d e => wo (ix2 d e)) (fun d => z (ix2 r d)) d := by
  unfold_payloads
  pointwise [dproj, dmerged]

/-- Branch 1: the stored gradient in the gate's logits. -/
theorem dgate1_at (P : FVec Ideal S256x1024 .bf16) (wo : FVec Ideal S1024x1024 .bf16)
    (z : FVec Ideal S256x1024 .f32) (o : FVec Ideal S256x256 .bf16) (w : FVec Ideal S1x256x1024 .bf16)
    (r : Fin 256) (d : Fin 1024) :
    k0_pay19 (F := Ideal) (k0_pay12 P wo) (k0_pay17 z) o w (ix2 r d)
      = dgate (fun e => P (ix2 r e)) (fun d e => wo (ix2 d e)) (fun d => z (ix2 r d)) (fun k => o (ix2 r k)) (fun k d => w (ix3 0 k d)) d := by
  unfold_payloads
  pointwise [dgate, dmerged, proj]

/-- Branch 1: the stored gradient in the branch's output. -/
theorem dout1_at (P : FVec Ideal S256x1024 .bf16) (wo : FVec Ideal S1024x1024 .bf16)
    (z : FVec Ideal S256x1024 .f32) (w : FVec Ideal S1x256x1024 .bf16) (r : Fin 256) (k : Fin 256) :
    k0_pay20 (F := Ideal) (k0_pay12 P wo) (k0_pay17 z) w (ix2 r k)
      = dout (fun e => P (ix2 r e)) (fun d e => wo (ix2 d e)) (fun d => z (ix2 r d)) (fun k d => w (ix3 0 k d)) k := by
  unfold_payloads
  pointwise [dout, dproj, dmerged]

/-- Branch 2: the stored gradient in the projection. -/
theorem dproj2_at (P : FVec Ideal S256x1024 .bf16) (wo : FVec Ideal S1024x1024 .bf16)
    (z : FVec Ideal S256x1024 .f32) (r : Fin 256) (d : Fin 1024) :
    k0_pay22 (F := Ideal) (k0_pay12 P wo) z (ix2 r d)
      = dproj (fun e => P (ix2 r e)) (fun d e => wo (ix2 d e)) (fun d => z (ix2 r d)) d := by
  unfold_payloads
  pointwise [dproj, dmerged]

/-- Branch 2: the stored gradient in the gate's logits. -/
theorem dgate2_at (P : FVec Ideal S256x1024 .bf16) (wo : FVec Ideal S1024x1024 .bf16)
    (z : FVec Ideal S256x1024 .f32) (o : FVec Ideal S256x256 .bf16) (w : FVec Ideal S1x256x1024 .bf16)
    (r : Fin 256) (d : Fin 1024) :
    k0_pay23 (F := Ideal) (k0_pay12 P wo) z o w (ix2 r d)
      = dgate (fun e => P (ix2 r e)) (fun d e => wo (ix2 d e)) (fun d => z (ix2 r d)) (fun k => o (ix2 r k)) (fun k d => w (ix3 0 k d)) d := by
  unfold_payloads
  pointwise [dgate, dmerged, proj]

/-- Branch 2: the stored gradient in the branch's output. -/
theorem dout2_at (P : FVec Ideal S256x1024 .bf16) (wo : FVec Ideal S1024x1024 .bf16)
    (z : FVec Ideal S256x1024 .f32) (w : FVec Ideal S1x256x1024 .bf16) (r : Fin 256) (k : Fin 256) :
    k0_pay1 (F := Ideal) (k0_pay22 (k0_pay12 P wo) z) w (ix2 r k)
      = dout (fun e => P (ix2 r e)) (fun d e => wo (ix2 d e)) (fun d => z (ix2 r d)) (fun k d => w (ix3 0 k d)) k := by
  unfold_payloads
  pointwise [dout, dproj, dmerged]

/-- Branch 3: the stored gradient in the projection. -/
theorem dproj3_at (P : FVec Ideal S256x1024 .bf16) (wo : FVec Ideal S1024x1024 .bf16)
    (z : FVec Ideal S256x1024 .f32) (r : Fin 256) (d : Fin 1024) :
    k0_pay3 (F := Ideal) (k0_pay12 P wo) z (ix2 r d)
      = dproj (fun e => P (ix2 r e)) (fun d e => wo (ix2 d e)) (fun d => z (ix2 r d)) d := by
  unfold_payloads
  pointwise [dproj, dmerged]

/-- Branch 3: the stored gradient in the gate's logits. -/
theorem dgate3_at (P : FVec Ideal S256x1024 .bf16) (wo : FVec Ideal S1024x1024 .bf16)
    (z : FVec Ideal S256x1024 .f32) (o : FVec Ideal S256x256 .bf16) (w : FVec Ideal S1x256x1024 .bf16)
    (r : Fin 256) (d : Fin 1024) :
    k0_pay4 (F := Ideal) (k0_pay12 P wo) z o w (ix2 r d)
      = dgate (fun e => P (ix2 r e)) (fun d e => wo (ix2 d e)) (fun d => z (ix2 r d)) (fun k => o (ix2 r k)) (fun k d => w (ix3 0 k d)) d := by
  unfold_payloads
  pointwise [dgate, dmerged, proj]

/-- Branch 3: the stored gradient in the branch's output. -/
theorem dout3_at (P : FVec Ideal S256x1024 .bf16) (wo : FVec Ideal S1024x1024 .bf16)
    (z : FVec Ideal S256x1024 .f32) (w : FVec Ideal S1x256x1024 .bf16) (r : Fin 256) (k : Fin 256) :
    k0_pay5 (F := Ideal) (k0_pay12 P wo) z w (ix2 r k)
      = dout (fun e => P (ix2 r e)) (fun d e => wo (ix2 d e)) (fun d => z (ix2 r d)) (fun k d => w (ix3 0 k d)) k := by
  unfold_payloads
  pointwise [dout, dproj, dmerged]

/-- The zero block that the norm gain's gradient starts from. -/
theorem zero_at (j : S1x1024.Idx) : k0_pay6 (F := Ideal) j = 0 := by
  unfold_payloads
  pointwise

/-- One step of the norm gain's gradient: the carried block plus the point's 256 rows. -/
theorem step_at (y : FVec Ideal S256x1024 .f32) (dx : FVec Ideal S256x1024 .f32) (acc : FVec Ideal S1x1024 .f32)
    (e : Fin 1024) :
    k0_pay10 (F := Ideal) y dx acc (ix2 0 e)
      = acc (ix2 0 e) + ∑ r : Fin 256, dgain (fun k => dx (ix2 r k)) (fun k => y (ix2 r k)) e := by
  unfold_payloads
  pointwise [dgain, Cert.MergeSpec.inv, width, eps]

end Cert.MergePay

end
-- ==== Proof.MergeBlock.lean ====
/- The arrays that the merge kernel leaves: every result at an index, over the argument arrays and the saved forward
   row `y`. -/
module

public import proofs.«01_k».proof.Proof.MergePay
public import proofs.«01_k».proof.Proof.Gen.KernelIdeal.Value
public import Idealize.ShloMosaic.Lib.Pipeline.ValueKit

@[expose] public section

set_option maxRecDepth 16384

noncomputable section

namespace Cert.MergeBlock

open Cert.KernelIdeal Cert.KernelIdeal.Gen Cert.KernelIdeal.Value Idealize.ShloMosaic Idealize.ShloMosaic.TcCoe Cert.MergeSpec
open Idealize.SL.Sem

variable (m : (ℓ : Loc nD τ sig) → Buf (Elt Ideal) ℓ) (c : Dev nD)

/-- The upstream gradient, by token. -/
def dxK (s : Fin 2048) : Row := fun e => m ((c : Thread nD τ).loc main_arg0) (ix2 s e)

/-- The merged rows that the host part computes for the kernel, by token. -/
def yK (s : Fin 2048) : Row := fun e => V m c main_v58 (ix2 s e)

/-- The norm's gain. -/
def gK : Row := fun e => m ((c : Thread nD τ).loc main_arg1) (ix2 0 e)

/-- The first branch's output, by token. -/
def o0K (s : Fin 2048) : Fin 256 → EReal := fun k => m ((c : Thread nD τ).loc main_arg2) (ix2 s k)

/-- The second branch's output, by token. -/
def o1K (s : Fin 2048) : Fin 256 → EReal := fun k => m ((c : Thread nD τ).loc main_arg3) (ix2 s k)

/-- The third branch's output, by token. -/
def o2K (s : Fin 2048) : Fin 256 → EReal := fun k => m ((c : Thread nD τ).loc main_arg4) (ix2 s k)

/-- The fourth branch's output, by token. -/
def o3K (s : Fin 2048) : Fin 256 → EReal := fun k => m ((c : Thread nD τ).loc main_arg5) (ix2 s k)

/-- The four branches' outputs, by branch and token. -/
def oK (n : Fin 4) (s : Fin 2048) : Fin 256 → EReal := ![o0K m c s, o1K m c s, o2K m c s, o3K m c s] n

/-- The gates' logits, by branch and token. -/
def zK (n : Fin 4) (s : Fin 2048) : Row := fun d =>
  m ((c : Thread nD τ).loc main_arg6) (ix2 s ⟨n.val * 1024 + d.val, by have := n.isLt; have := d.isLt; omega⟩)

/-- The branches' projection weights. -/
def wK (n : Fin 4) (k : Fin 256) : Row := fun d => m ((c : Thread nD τ).loc main_arg7) (ix3 n k d)

/-- The output projection's weights. -/
def woK (d : Fin 1024) : Row := fun e => m ((c : Thread nD τ).loc main_arg8) (ix2 d e)

/-- The gradient in the merged rows, by token. -/
def dyK (s : Fin 2048) : Row := dy (dxK m c s) (yK m c s) (gK m c)

/-- The token of row `r` of the block at grid point `t`. -/
def tok (t : Fin cfg0.N) (r : Fin 256) : Fin 2048 :=
  ⟨t.val * 256 + r.val, by have := t.isLt; have : cfg0.N = 8 := N_0; have := r.isLt; omega⟩

/-- Every window's block index at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0, 0]
    ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![0, 0] :=
  (by decide +kernel : ∀ t : Fin grid0.N, _)

/-- The upstream gradient's block. -/
theorem blk_dx (t : Fin cfg0.N) (r : Fin 256) (e : Fin 1024) : iblk m c 0 t (ix2 r e) = dxK m c (tok t r) e := by
  unfold dxK tok
  blk_ext [iblk, V, idx t]

/-- The merged rows' block. -/
theorem blk_y (t : Fin cfg0.N) (r : Fin 256) (e : Fin 1024) : iblk m c 1 t (ix2 r e) = yK m c (tok t r) e := by
  unfold yK tok
  blk_ext [iblk, idx t]

/-- The gain's block. -/
theorem blk_g (t : Fin cfg0.N) (e : Fin 1024) : iblk m c 2 t (ix2 0 e) = gK m c e := by
  unfold gK
  blk_ext [iblk, V, idx t]

/-- The first branch's block. -/
theorem blk_o0 (t : Fin cfg0.N) (r : Fin 256) (k : Fin 256) : iblk m c 3 t (ix2 r k) = o0K m c (tok t r) k := by
  unfold o0K tok
  blk_ext [iblk, V, idx t]

/-- The second branch's block. -/
theorem blk_o1 (t : Fin cfg0.N) (r : Fin 256) (k : Fin 256) : iblk m c 4 t (ix2 r k) = o1K m c (tok t r) k := by
  unfold o1K tok
  blk_ext [iblk, V, idx t]

/-- The third branch's block. -/
theorem blk_o2 (t : Fin cfg0.N) (r : Fin 256) (k : Fin 256) : iblk m c 5 t (ix2 r k) = o2K m c (tok t r) k := by
  unfold o2K tok
  blk_ext [iblk, V, idx t]

/-- The fourth branch's block. -/
theorem blk_o3 (t : Fin cfg0.N) (r : Fin 256) (k : Fin 256) : iblk m c 6 t (ix2 r k) = o3K m c (tok t r) k := by
  unfold o3K tok
  blk_ext [iblk, V, idx t]

/-- The output projection's block. -/
theorem blk_wo (t : Fin cfg0.N) (d : Fin 1024) (e : Fin 1024) : iblk m c 9 t (ix2 d e) = woK m c d e := by
  unfold woK
  blk_ext [iblk, V, idx t]

/-- The `dy` block at a point holds the rows' gradients. -/
theorem blk_dy (t : Fin cfg0.N) (r : Fin 256) (e : Fin 1024) :
    k0_pay11 (F := Ideal) (iblk m c 1 t) (iblk m c 2 t) (iblk m c 0 t) (ix2 r e) = dyK m c (tok t r) e := by
  rw [MergePay.pay11_at]
  simp only [blk_dx, blk_y, blk_g]
  rfl

/-- The first branch's gate logits, read from their block. -/
theorem ld_z0 (t : Fin cfg0.N) (r : Fin 256) (d : Fin 1024) :
    View.ld (iblk m c 7 t) (Rect.unit ![0, 0] ![256, 1024] inb_S256x4096_S256x1024_0_0) (ix2 r d) = zK m c 0 (tok t r) d := by
  unfold zK tok
  pointwise
  blk_ext [iblk, V, idx t]

/-- The first branch's weights, read from their block. -/
theorem ld_w0 (t : Fin cfg0.N) (k : Fin 256) (d : Fin 1024) :
    View.ld (iblk m c 8 t) (Rect.unit ![0, 0, 0] ![1, 256, 1024] inb_S4x256x1024_S1x256x1024_0_0_0) (ix3 0 k d) = wK m c 0 k d := by
  unfold wK
  pointwise
  blk_ext [iblk, V, idx t]

/-- The second branch's gate logits, read from their block. -/
theorem ld_z1 (t : Fin cfg0.N) (r : Fin 256) (d : Fin 1024) :
    View.ld (iblk m c 7 t) (Rect.unit ![0, 1024] ![256, 1024] inb_S256x4096_S256x1024_0_1024) (ix2 r d) = zK m c 1 (tok t r) d := by
  unfold zK tok
  pointwise
  blk_ext [iblk, V, idx t]

/-- The second branch's weights, read from their block. -/
theorem ld_w1 (t : Fin cfg0.N) (k : Fin 256) (d : Fin 1024) :
    View.ld (iblk m c 8 t) (Rect.unit ![1, 0, 0] ![1, 256, 1024] inb_S4x256x1024_S1x256x1024_1_0_0) (ix3 0 k d) = wK m c 1 k d := by
  unfold wK
  pointwise
  blk_ext [iblk, V, idx t]

/-- The third branch's gate logits, read from their block. -/
theorem ld_z2 (t : Fin cfg0.N) (r : Fin 256) (d : Fin 1024) :
    View.ld (iblk m c 7 t) (Rect.unit ![0, 2048] ![256, 1024] inb_S256x4096_S256x1024_0_2048) (ix2 r d) = zK m c 2 (tok t r) d := by
  unfold zK tok
  pointwise
  blk_ext [iblk, V, idx t]

/-- The third branch's weights, read from their block. -/
theorem ld_w2 (t : Fin cfg0.N) (k : Fin 256) (d : Fin 1024) :
    View.ld (iblk m c 8 t) (Rect.unit ![2, 0, 0] ![1, 256, 1024] inb_S4x256x1024_S1x256x1024_2_0_0) (ix3 0 k d) = wK m c 2 k d := by
  unfold wK
  pointwise
  blk_ext [iblk, V, idx t]

/-- The fourth branch's gate logits, read from their block. -/
theorem ld_z3 (t : Fin cfg0.N) (r : Fin 256) (d : Fin 1024) :
    View.ld (iblk m c 7 t) (Rect.unit ![0, 3072] ![256, 1024] inb_S256x4096_S256x1024_0_3072) (ix2 r d) = zK m c 3 (tok t r) d := by
  unfold zK tok
  pointwise
  blk_ext [iblk, V, idx t]

/-- The fourth branch's weights, read from their block. -/
theorem ld_w3 (t : Fin cfg0.N) (k : Fin 256) (d : Fin 1024) :
    View.ld (iblk m c 8 t) (Rect.unit ![3, 0, 0] ![1, 256, 1024] inb_S4x256x1024_S1x256x1024_3_0_0) (ix3 0 k d) = wK m c 3 k d := by
  unfold wK
  pointwise
  blk_ext [iblk, V, idx t]

end Cert.MergeBlock

end
-- ==== Proof.MergeGain.lean ====
/- The gradient of the norm's gain, which the merge kernel adds up over its grid points. -/
module

public import proofs.«01_k».proof.Proof.MergeBlock

@[expose] public section

set_option maxRecDepth 16384

noncomputable section

namespace Cert.MergeGain

open Cert.KernelIdeal Cert.KernelIdeal.Gen Cert.KernelIdeal.Value Idealize.ShloMosaic Idealize.ShloMosaic.TcCoe Cert.MergeSpec
open Idealize.SL.Sem Cert.MergeBlock

variable (m : (ℓ : Loc nD τ sig) → Buf (Elt Ideal) ℓ) (c : Dev nD)

/-- The array of the gain's gradient: the tokens' parts, added up. -/
def dgainArr (i : S1x1024.Idx) : EReal := ∑ s : Fin 2048, dgain (dxK m c s) (yK m c s) (i 1)

/-- One grid point's step of the gain's gradient, over the argument arrays. -/
theorem step_blk (t : Fin cfg0.N) (acc : FVec Ideal S1x1024 .f32) (j : S1x1024.Idx) :
    k0_pay10 (F := Ideal) (iblk m c 1 t) (iblk m c 0 t) acc j
      = acc j + ∑ r : Fin 256, dgain (dxK m c (tok t r)) (yK m c (tok t r)) (j 1) := by
  obtain ⟨e, rfl⟩ : ∃ e : Fin 1024, j = ix2 0 e := ⟨j 1, by idx_vars j; blk_ext⟩
  rw [MergePay.step_at]
  simp only [blk_dx, blk_y]
  rfl

/-- Window 17 leaves the gain's gradient. -/
theorem arr17 : (dats m 0 c).arrAt 17 (cfgs 0).N = dgainArr m c := by
  refine (dats m 0 c).arrAt_eq_of_after_last 17 t0_7 (by decide +kernel) _ fun j => ?_
  blk_simp
  rw [after0_17, Pipeline.eq_sum_fin_of_reset_step_apply_last (fun n h => (outsAt0 m c n h).2.2.2.2.2.2.2) 8 (fun _ => 0)
    (fun p j => ∑ r : Fin 256, dgain (dxK m c (tok p r)) (yK m c (tok p r)) (j 1))
    (fun t h j => ?_) (fun t h j => ?_) (le_of_eq N_0) t0_7 rfl j, zero_add]
  · unfold dgainArr
    refine Fin.sum_mul_add_congr fun s k hl => ?_
    rfl
  · rw [outsAt0_A m c t h]
    frame_out
    refine (step_blk m c t _ j).trans ?_
    rw [MergePay.zero_at]
  · rw [outsAt0_B m c t h]
    frame_out
    exact step_blk m c t _ j

end Cert.MergeGain

end
-- ==== Proof.MergePoint.lean ====
/- What each store of the merge kernel holds at a grid point, over the argument arrays. -/
module

public import proofs.«01_k».proof.Proof.MergeBlock

@[expose] public section

set_option maxRecDepth 16384

noncomputable section

namespace Cert.MergePoint

open Cert.KernelIdeal Cert.KernelIdeal.Gen Cert.KernelIdeal.Value Idealize.ShloMosaic Idealize.ShloMosaic.TcCoe Cert.MergeSpec
open Idealize.SL.Sem Cert.MergeBlock

variable (m : (ℓ : Loc nD τ sig) → Buf (Elt Ideal) ℓ) (c : Dev nD)

/-- The first branch's stored gradient in the projection. -/
theorem dproj0 (t : Fin cfg0.N) (r : Fin 256) (d : Fin 1024) :
    k0_pay14 (F := Ideal) (k0_pay11 (iblk m c 1 t) (iblk m c 2 t) (iblk m c 0 t)) (iblk m c 9 t) (View.ld (iblk m c 7 t) (Rect.unit ![0, 0] ![256, 1024] inb_S256x4096_S256x1024_0_0))
        (ix2 r d)
      = dproj (dyK m c (tok t r)) (woK m c) (zK m c 0 (tok t r)) d := by
  rw [MergePay.dproj0_at]
  simp only [blk_dy, blk_wo, ld_z0]

/-- The first branch's stored gradient in the gate's logits. -/
theorem dgate0 (t : Fin cfg0.N) (r : Fin 256) (d : Fin 1024) :
    k0_pay15 (F := Ideal) (k0_pay11 (iblk m c 1 t) (iblk m c 2 t) (iblk m c 0 t)) (iblk m c 9 t) (View.ld (iblk m c 7 t) (Rect.unit ![0, 0] ![256, 1024] inb_S256x4096_S256x1024_0_0)) (iblk m c 3 t) (View.ld (iblk m c 8 t) (Rect.unit ![0, 0, 0] ![1, 256, 1024] inb_S4x256x1024_S1x256x1024_0_0_0))
        (ix2 r d)
      = dgate (dyK m c (tok t r)) (woK m c) (zK m c 0 (tok t r)) (oK m c 0 (tok t r)) (wK m c 0) d := by
  rw [MergePay.dgate0_at]
  simp only [blk_dy, blk_wo, ld_z0, ld_w0, blk_o0]
  rfl

/-- The first branch's stored gradient in the branch's output. -/
theorem dout0 (t : Fin cfg0.N) (r : Fin 256) (k : Fin 256) :
    k0_pay16 (F := Ideal) (k0_pay11 (iblk m c 1 t) (iblk m c 2 t) (iblk m c 0 t)) (iblk m c 9 t) (View.ld (iblk m c 7 t) (Rect.unit ![0, 0] ![256, 1024] inb_S256x4096_S256x1024_0_0)) (View.ld (iblk m c 8 t) (Rect.unit ![0, 0, 0] ![1, 256, 1024] inb_S4x256x1024_S1x256x1024_0_0_0))
        (ix2 r k)
      = dout (dyK m c (tok t r)) (woK m c) (zK m c 0 (tok t r)) (wK m c 0) k := by
  rw [MergePay.dout0_at]
  simp only [blk_dy, blk_wo, ld_z0, ld_w0]

/-- The second branch's stored gradient in the projection. -/
theorem dproj1 (t : Fin cfg0.N) (r : Fin 256) (d : Fin 1024) :
    k0_pay18 (F := Ideal) (k0_pay12 (k0_pay11 (iblk m c 1 t) (iblk m c 2 t) (iblk m c 0 t)) (iblk m c 9 t)) (k0_pay17 (View.ld (iblk m c 7 t) (Rect.unit ![0, 1024] ![256, 1024] inb_S256x4096_S256x1024_0_1024)))
        (ix2 r d)
      = dproj (dyK m c (tok t r)) (woK m c) (zK m c 1 (tok t r)) d := by
  rw [MergePay.dproj1_at]
  simp only [blk_dy, blk_wo, ld_z1]

/-- The second branch's stored gradient in the gate's logits. -/
theorem dgate1 (t : Fin cfg0.N) (r : Fin 256) (d : Fin 1024) :
    k0_pay19 (F := Ideal) (k0_pay12 (k0_pay11 (iblk m c 1 t) (iblk m c 2 t) (iblk m c 0 t)) (iblk m c 9 t)) (k0_pay17 (View.ld (iblk m c 7 t) (Rect.unit ![0, 1024] ![256, 1024] inb_S256x4096_S256x1024_0_1024))) (iblk m c 4 t) (View.ld (iblk m c 8 t) (Rect.unit ![1, 0, 0] ![1, 256, 1024] inb_S4x256x1024_S1x256x1024_1_0_0))
        (ix2 r d)
      = dgate (dyK m c (tok t r)) (woK m c) (zK m c 1 (tok t r)) (oK m c 1 (tok t r)) (wK m c 1) d := by
  rw [MergePay.dgate1_at]
  simp only [blk_dy, blk_wo, ld_z1, ld_w1, blk_o1]
  rfl

/-- The second branch's stored gradient in the branch's output. -/
theorem dout1 (t : Fin cfg0.N) (r : Fin 256) (k : Fin 256) :
    k0_pay20 (F := Ideal) (k0_pay12 (k0_pay11 (iblk m c 1 t) (iblk m c 2 t) (iblk m c 0 t)) (iblk m c 9 t)) (k0_pay17 (View.ld (iblk m c 7 t) (Rect.unit ![0, 1024] ![256, 1024] inb_S256x4096_S256x1024_0_1024))) (View.ld (iblk m c 8 t) (Rect.unit ![1, 0, 0] ![1, 256, 1024] inb_S4x256x1024_S1x256x1024_1_0_0))
        (ix2 r k)
      = dout (dyK m c (tok t r)) (woK m c) (zK m c 1 (tok t r)) (wK m c 1) k := by
  rw [MergePay.dout1_at]
  simp only [blk_dy, blk_wo, ld_z1, ld_w1]

/-- The third branch's stored gradient in the projection. -/
theorem dproj2 (t : Fin cfg0.N) (r : Fin 256) (d : Fin 1024) :
    k0_pay22 (F := Ideal) (k0_pay12 (k0_pay11 (iblk m c 1 t) (iblk m c 2 t) (iblk m c 0 t)) (iblk m c 9 t)) (View.ld (iblk m c 7 t) (Rect.unit ![0, 2048] ![256, 1024] inb_S256x4096_S256x1024_0_2048))
        (ix2 r d)
      = dproj (dyK m c (tok t r)) (woK m c) (zK m c 2 (tok t r)) d := by
  rw [MergePay.dproj2_at]
  simp only [blk_dy, blk_wo, ld_z2]

/-- The third branch's stored gradient in the gate's logits. -/
theorem dgate2 (t : Fin cfg0.N) (r : Fin 256) (d : Fin 1024) :
    k0_pay23 (F := Ideal) (k0_pay12 (k0_pay11 (iblk m c 1 t) (iblk m c 2 t) (iblk m c 0 t)) (iblk m c 9 t)) (View.ld (iblk m c 7 t) (Rect.unit ![0, 2048] ![256, 1024] inb_S256x4096_S256x1024_0_2048)) (iblk m c 5 t) (View.ld (iblk m c 8 t) (Rect.unit ![2, 0, 0] ![1, 256, 1024] inb_S4x256x1024_S1x256x1024_2_0_0))
        (ix2 r d)
      = dgate (dyK m c (tok t r)) (woK m c) (zK m c 2 (tok t r)) (oK m c 2 (tok t r)) (wK m c 2) d := by
  rw [MergePay.dgate2_at]
  simp only [blk_dy, blk_wo, ld_z2, ld_w2, blk_o2]
  rfl

/-- The third branch's stored gradient in the branch's output. -/
theorem dout2 (t : Fin cfg0.N) (r : Fin 256) (k : Fin 256) :
    k0_pay1 (F := Ideal) (k0_pay22 (k0_pay12 (k0_pay11 (iblk m c 1 t) (iblk m c 2 t) (iblk m c 0 t)) (iblk m c 9 t)) (View.ld (iblk m c 7 t) (Rect.unit ![0, 2048] ![256, 1024] inb_S256x4096_S256x1024_0_2048))) (View.ld (iblk m c 8 t) (Rect.unit ![2, 0, 0] ![1, 256, 1024] inb_S4x256x1024_S1x256x1024_2_0_0))
        (ix2 r k)
      = dout (dyK m c (tok t r)) (woK m c) (zK m c 2 (tok t r)) (wK m c 2) k := by
  rw [MergePay.dout2_at]
  simp only [blk_dy, blk_wo, ld_z2, ld_w2]

/-- The fourth branch's stored gradient in the projection. -/
theorem dproj3 (t : Fin cfg0.N) (r : Fin 256) (d : Fin 1024) :
    k0_pay3 (F := Ideal) (k0_pay12 (k0_pay11 (iblk m c 1 t) (iblk m c 2 t) (iblk m c 0 t)) (iblk m c 9 t)) (View.ld (iblk m c 7 t) (Rect.unit ![0, 3072] ![256, 1024] inb_S256x4096_S256x1024_0_3072))
        (ix2 r d)
      = dproj (dyK m c (tok t r)) (woK m c) (zK m c 3 (tok t r)) d := by
  rw [MergePay.dproj3_at]
  simp only [blk_dy, blk_wo, ld_z3]

/-- The fourth branch's stored gradient in the gate's logits. -/
theorem dgate3 (t : Fin cfg0.N) (r : Fin 256) (d : Fin 1024) :
    k0_pay4 (F := Ideal) (k0_pay12 (k0_pay11 (iblk m c 1 t) (iblk m c 2 t) (iblk m c 0 t)) (iblk m c 9 t)) (View.ld (iblk m c 7 t) (Rect.unit ![0, 3072] ![256, 1024] inb_S256x4096_S256x1024_0_3072)) (iblk m c 6 t) (View.ld (iblk m c 8 t) (Rect.unit ![3, 0, 0] ![1, 256, 1024] inb_S4x256x1024_S1x256x1024_3_0_0))
        (ix2 r d)
      = dgate (dyK m c (tok t r)) (woK m c) (zK m c 3 (tok t r)) (oK m c 3 (tok t r)) (wK m c 3) d := by
  rw [MergePay.dgate3_at]
  simp only [blk_dy, blk_wo, ld_z3, ld_w3, blk_o3]
  rfl

/-- The fourth branch's stored gradient in the branch's output. -/
theorem dout3 (t : Fin cfg0.N) (r : Fin 256) (k : Fin 256) :
    k0_pay5 (F := Ideal) (k0_pay12 (k0_pay11 (iblk m c 1 t) (iblk m c 2 t) (iblk m c 0 t)) (iblk m c 9 t)) (View.ld (iblk m c 7 t) (Rect.unit ![0, 3072] ![256, 1024] inb_S256x4096_S256x1024_0_3072)) (View.ld (iblk m c 8 t) (Rect.unit ![3, 0, 0] ![1, 256, 1024] inb_S4x256x1024_S1x256x1024_3_0_0))
        (ix2 r k)
      = dout (dyK m c (tok t r)) (woK m c) (zK m c 3 (tok t r)) (wK m c 3) k := by
  rw [MergePay.dout3_at]
  simp only [blk_dy, blk_wo, ld_z3, ld_w3]

end Cert.MergePoint

end
-- ==== Proof.MergeWide.lean ====
/- The merge kernel's two wide results as arrays: the four branches' gradients side by side. -/
module

public import proofs.«01_k».proof.Proof.MergePoint

@[expose] public section

set_option maxRecDepth 16384

noncomputable section

namespace Cert.MergeWide

open Cert.KernelIdeal Cert.KernelIdeal.Gen Cert.KernelIdeal.Value Idealize.ShloMosaic Idealize.ShloMosaic.TcCoe Cert.MergeSpec
open Idealize.SL.Sem Cert.MergeBlock

variable (m : (ℓ : Loc nD τ sig) → Buf (Elt Ideal) ℓ) (c : Dev nD)

/-- The array of the gradient in the projections, the four branches side by side. -/
def dprojArr (i : S2048x4096.Idx) : EReal :=
  dproj (dyK m c (i 0)) (woK m c) (zK m c ⟨(i 1).val / 1024, by have : (i 1).val < 4096 := (i 1).isLt; omega⟩ (i 0))
    ⟨(i 1).val % 1024, by omega⟩

/-- The gradient in the projections at an index known by its coordinates. -/
theorem dprojArr_at (n : Fin 4) (t : Fin cfg0.N) (r : Fin 256) (d : Fin 1024) (i : S2048x4096.Idx)
    (h0 : (i 0).val = t.val * 256 + r.val) (h1 : (i 1).val = n.val * 1024 + d.val) :
    dprojArr m c i = dproj (dyK m c (tok t r)) (woK m c) (zK m c n (tok t r)) d := by
  have hd := d.isLt
  unfold dprojArr
  rw [show i 0 = tok t r from Fin.ext h0, show (⟨(i 1).val / 1024, _⟩ : Fin 4) = n from Fin.ext (by show (i 1).val / 1024 = _; omega),
    show (⟨(i 1).val % 1024, _⟩ : Fin 1024) = d from Fin.ext (by show (i 1).val % 1024 = _; omega)]

/-- The array of the gradient in the gates' logits, the four branches side by side. -/
def dgateArr (i : S2048x4096.Idx) : EReal :=
  dgate (dyK m c (i 0)) (woK m c) (zK m c ⟨(i 1).val / 1024, by have : (i 1).val < 4096 := (i 1).isLt; omega⟩ (i 0))
    (oK m c ⟨(i 1).val / 1024, by have : (i 1).val < 4096 := (i 1).isLt; omega⟩ (i 0))
    (wK m c ⟨(i 1).val / 1024, by have : (i 1).val < 4096 := (i 1).isLt; omega⟩) ⟨(i 1).val % 1024, by omega⟩

/-- The gradient in the gates' logits at an index known by its coordinates. -/
theorem dgateArr_at (n : Fin 4) (t : Fin cfg0.N) (r : Fin 256) (d : Fin 1024) (i : S2048x4096.Idx)
    (h0 : (i 0).val = t.val * 256 + r.val) (h1 : (i 1).val = n.val * 1024 + d.val) :
    dgateArr m c i
      = dgate (dyK m c (tok t r)) (woK m c) (zK m c n (tok t r)) (oK m c n (tok t r)) (wK m c n) d := by
  have hd := d.isLt
  unfold dgateArr
  rw [show i 0 = tok t r from Fin.ext h0, show (⟨(i 1).val / 1024, _⟩ : Fin 4) = n from Fin.ext (by show (i 1).val / 1024 = _; omega),
    show (⟨(i 1).val % 1024, _⟩ : Fin 1024) = d from Fin.ext (by show (i 1).val % 1024 = _; omega)]

set_option maxHeartbeats 1000000 in
/-- Window 14 leaves the gradient in the gates' logits. -/
theorem arr14 : (dats m 0 c).arrAt 14 (cfgs 0).N = dgateArr m c := by
  refine (dats m 0 c).arrAt_eq_of_covers 14 _ (by decide +kernel) fun t hf y => ?_
  blk_simp
  rw [after0_14]
  have e0 : ((((View.whole main_v59_4).slice (win0_14.rect t)).emb y) 0).val = t.val * 256 + (y 0).val := by
    blk_simp [idx t]
  have e1 : ((((View.whole main_v59_4).slice (win0_14.rect t)).emb y) 1).val = (y 1).val := by
    blk_simp [idx t]
  by_cases hm : t.val % 8 = 0
  · rw [outsAt0_A m c t hm]
    frame_out
    clear hm hf
    canon_tiles x h
    · idx_vars x
      exact (MergePoint.dgate3 m c t x0 x1).trans
        (dgateArr_at m c 3 t x0 x1 _ (e0.trans (by omega)) (e1.trans (by omega))).symm
    · idx_vars x
      exact (MergePoint.dgate2 m c t x0 x1).trans
        (dgateArr_at m c 2 t x0 x1 _ (e0.trans (by omega)) (e1.trans (by omega))).symm
    · idx_vars x
      exact (MergePoint.dgate1 m c t x0 x1).trans
        (dgateArr_at m c 1 t x0 x1 _ (e0.trans (by omega)) (e1.trans (by omega))).symm
    · idx_vars x
      exact (MergePoint.dgate0 m c t x0 x1).trans
        (dgateArr_at m c 0 t x0 x1 _ (e0.trans (by omega)) (e1.trans (by omega))).symm
  · rw [outsAt0_B m c t hm]
    frame_out
    clear hm hf
    canon_tiles x h
    · idx_vars x
      exact (MergePoint.dgate3 m c t x0 x1).trans
        (dgateArr_at m c 3 t x0 x1 _ (e0.trans (by omega)) (e1.trans (by omega))).symm
    · idx_vars x
      exact (MergePoint.dgate2 m c t x0 x1).trans
        (dgateArr_at m c 2 t x0 x1 _ (e0.trans (by omega)) (e1.trans (by omega))).symm
    · idx_vars x
      exact (MergePoint.dgate1 m c t x0 x1).trans
        (dgateArr_at m c 1 t x0 x1 _ (e0.trans (by omega)) (e1.trans (by omega))).symm
    · idx_vars x
      exact (MergePoint.dgate0 m c t x0 x1).trans
        (dgateArr_at m c 0 t x0 x1 _ (e0.trans (by omega)) (e1.trans (by omega))).symm

set_option maxHeartbeats 1000000 in
/-- Window 15 leaves the gradient in the projections. -/
theorem arr15 : (dats m 0 c).arrAt 15 (cfgs 0).N = dprojArr m c := by
  refine (dats m 0 c).arrAt_eq_of_covers 15 _ (by decide +kernel) fun t hf y => ?_
  blk_simp
  rw [after0_15]
  have e0 : ((((View.whole main_v59_5).slice (win0_15.rect t)).emb y) 0).val = t.val * 256 + (y 0).val := by
    blk_simp [idx t]
  have e1 : ((((View.whole main_v59_5).slice (win0_15.rect t)).emb y) 1).val = (y 1).val := by
    blk_simp [idx t]
  by_cases hm : t.val % 8 = 0
  · rw [outsAt0_A m c t hm]
    frame_out
    clear hm hf
    canon_tiles x h
    · idx_vars x
      exact (MergePoint.dproj3 m c t x0 x1).trans
        (dprojArr_at m c 3 t x0 x1 _ (e0.trans (by omega)) (e1.trans (by omega))).symm
    · idx_vars x
      exact (MergePoint.dproj2 m c t x0 x1).trans
        (dprojArr_at m c 2 t x0 x1 _ (e0.trans (by omega)) (e1.trans (by omega))).symm
    · idx_vars x
      exact (MergePoint.dproj1 m c t x0 x1).trans
        (dprojArr_at m c 1 t x0 x1 _ (e0.trans (by omega)) (e1.trans (by omega))).symm
    · idx_vars x
      exact (MergePoint.dproj0 m c t x0 x1).trans
        (dprojArr_at m c 0 t x0 x1 _ (e0.trans (by omega)) (e1.trans (by omega))).symm
  · rw [outsAt0_B m c t hm]
    frame_out
    clear hm hf
    canon_tiles x h
    · idx_vars x
      exact (MergePoint.dproj3 m c t x0 x1).trans
        (dprojArr_at m c 3 t x0 x1 _ (e0.trans (by omega)) (e1.trans (by omega))).symm
    · idx_vars x
      exact (MergePoint.dproj2 m c t x0 x1).trans
        (dprojArr_at m c 2 t x0 x1 _ (e0.trans (by omega)) (e1.trans (by omega))).symm
    · idx_vars x
      exact (MergePoint.dproj1 m c t x0 x1).trans
        (dprojArr_at m c 1 t x0 x1 _ (e0.trans (by omega)) (e1.trans (by omega))).symm
    · idx_vars x
      exact (MergePoint.dproj0 m c t x0 x1).trans
        (dprojArr_at m c 0 t x0 x1 _ (e0.trans (by omega)) (e1.trans (by omega))).symm

end Cert.MergeWide

end
-- ==== Proof.MergeArr.lean ====
/- The merge kernel's results as arrays: each written-back window, over the argument arrays. -/
module

public import proofs.«01_k».proof.Proof.MergePoint

@[expose] public section

set_option maxRecDepth 16384

noncomputable section

namespace Cert.MergeArr

open Cert.KernelIdeal Cert.KernelIdeal.Gen Cert.KernelIdeal.Value Idealize.ShloMosaic Idealize.ShloMosaic.TcCoe Cert.MergeSpec
open Idealize.SL.Sem Cert.MergeBlock

variable (m : (ℓ : Loc nD τ sig) → Buf (Elt Ideal) ℓ) (c : Dev nD)

/-- The array of `dy`. -/
def dyArr (i : S2048x1024.Idx) : EReal := dyK m c (i 0) (i 1)

/-- Window 16 leaves `dy`. -/
theorem arr16 : (dats m 0 c).arrAt 16 (cfgs 0).N = dyArr m c := by
  refine (dats m 0 c).arrAt_eq_of_covers 16 _ (by decide +kernel) fun t hf y => ?_
  blk_simp
  rw [after0_16]
  idx_vars y
  have key : ∀ i : S2048x1024.Idx, (i 0).val = t.val * 256 + y0.val → (i 1).val = y1.val → dyArr m c i = dyK m c (tok t y0) y1 := by
    intro i h0 h1
    unfold dyArr
    rw [show i 0 = tok t y0 from Fin.ext h0, show i 1 = y1 from Fin.ext h1]
  have fin : k0_pay11 (F := Ideal) (iblk m c 1 t) (iblk m c 2 t) (iblk m c 0 t) (ix2 y0 y1) = dyArr m c (((View.whole main_v59_6).slice (win0_16.rect t)).emb (ix2 y0 y1)) := by
    refine (blk_dy m c t y0 y1).trans (key _ ?_ ?_).symm
    · blk_simp [idx t]
    · blk_simp [idx t]
  by_cases h : t.val % 8 = 0
  · rw [outsAt0_A m c t h]; frame_out; exact fin
  · rw [outsAt0_B m c t h]; frame_out; exact fin

/-- The array of a branch's output gradient. -/
def doutArr (n : Fin 4) (i : S2048x256.Idx) : EReal := dout (dyK m c (i 0)) (woK m c) (zK m c n (i 0)) (wK m c n) (i 1)

/-- A branch's output gradient at an index known by its coordinates. -/
theorem doutArr_at (n : Fin 4) (t : Fin cfg0.N) (r : Fin 256) (k : Fin 256) (i : S2048x256.Idx)
    (h0 : (i 0).val = t.val * 256 + r.val) (h1 : (i 1).val = k.val) :
    doutArr m c n i = dout (dyK m c (tok t r)) (woK m c) (zK m c n (tok t r)) (wK m c n) k := by
  unfold doutArr
  rw [show i 0 = tok t r from Fin.ext h0, show i 1 = k from Fin.ext h1]

/-- Window 10 leaves the first branch's output gradient. -/
theorem arr10 : (dats m 0 c).arrAt 10 (cfgs 0).N = doutArr m c 0 := by
  refine (dats m 0 c).arrAt_eq_of_covers 10 _ (by decide +kernel) fun t hf y => ?_
  blk_simp
  rw [after0_10]
  idx_vars y
  have key := doutArr_at m c 0 t y0 y1 (((View.whole main_v59_0).slice (win0_10.rect t)).emb (ix2 y0 y1))
    (by blk_simp [idx t]) (by blk_simp [idx t])
  by_cases h : t.val % 8 = 0
  · rw [outsAt0_A m c t h]
    frame_out
    exact (MergePoint.dout0 m c t y0 y1).trans key.symm
  · rw [outsAt0_B m c t h]
    frame_out
    exact (MergePoint.dout0 m c t y0 y1).trans key.symm

/-- Window 11 leaves the second branch's output gradient. -/
theorem arr11 : (dats m 0 c).arrAt 11 (cfgs 0).N = doutArr m c 1 := by
  refine (dats m 0 c).arrAt_eq_of_covers 11 _ (by decide +kernel) fun t hf y => ?_
  blk_simp
  rw [after0_11]
  idx_vars y
  have key := doutArr_at m c 1 t y0 y1 (((View.whole main_v59_1).slice (win0_11.rect t)).emb (ix2 y0 y1))
    (by blk_simp [idx t]) (by blk_simp [idx t])
  by_cases h : t.val % 8 = 0
  · rw [outsAt0_A m c t h]
    frame_out
    exact (MergePoint.dout1 m c t y0 y1).trans key.symm
  · rw [outsAt0_B m c t h]
    frame_out
    exact (MergePoint.dout1 m c t y0 y1).trans key.symm

/-- Window 12 leaves the third branch's output gradient. -/
theorem arr12 : (dats m 0 c).arrAt 12 (cfgs 0).N = doutArr m c 2 := by
  refine (dats m 0 c).arrAt_eq_of_covers 12 _ (by decide +kernel) fun t hf y => ?_
  blk_simp
  rw [after0_12]
  idx_vars y
  have key := doutArr_at m c 2 t y0 y1 (((View.whole main_v59_2).slice (win0_12.rect t)).emb (ix2 y0 y1))
    (by blk_simp [idx t]) (by blk_simp [idx t])
  by_cases h : t.val % 8 = 0
  · rw [outsAt0_A m c t h]
    frame_out
    exact (MergePoint.dout2 m c t y0 y1).trans key.symm
  · rw [outsAt0_B m c t h]
    frame_out
    exact (MergePoint.dout2 m c t y0 y1).trans key.symm

/-- Window 13 leaves the fourth branch's output gradient. -/
theorem arr13 : (dats m 0 c).arrAt 13 (cfgs 0).N = doutArr m c 3 := by
  refine (dats m 0 c).arrAt_eq_of_covers 13 _ (by decide +kernel) fun t hf y => ?_
  blk_simp
  rw [after0_13]
  idx_vars y
  have key := doutArr_at m c 3 t y0 y1 (((View.whole main_v59_3).slice (win0_13.rect t)).emb (ix2 y0 y1))
    (by blk_simp [idx t]) (by blk_simp [idx t])
  by_cases h : t.val % 8 = 0
  · rw [outsAt0_A m c t h]
    frame_out
    exact (MergePoint.dout3 m c t y0 y1).trans key.symm
  · rw [outsAt0_B m c t h]
    frame_out
    exact (MergePoint.dout3 m c t y0 y1).trans key.symm

end Cert.MergeArr

end
-- ==== Proof.MergeHost.lean ====
/- The merged rows that the host part hands to the merge kernel. -/
module

public import proofs.«01_k».proof.Proof.MergeBlock

@[expose] public section

set_option maxRecDepth 16384

noncomputable section

namespace Cert.MergeHost

open Cert.KernelIdeal Cert.KernelIdeal.Gen Cert.KernelIdeal.Value Idealize.ShloMosaic Idealize.ShloMosaic.TcCoe Cert.MergeSpec
open Idealize.SL.Sem Cert.MergeBlock

variable (m : (ℓ : Loc nD τ sig) → Buf (Elt Ideal) ℓ) (c : Dev nD)

/-- The rows `y` are the four gated projections, added up and put through the output projection. -/
theorem yK_eq (s : Fin 2048) :
    yK m c s = outRow (fun n => zK m c n s) (fun n => oK m c n s) (wK m c) (woK m c) := by
  funext e
  unfold yK
  entry_read
  pointwise
  unfold outRow merged
  refine Finset.sum_congr rfl fun d _ => congrArg (· * woK m c d e) ?_
  rw [Fin.sum_univ_four]
  have z (n : Fin 4) (i : Fin 4096) (h : i.val = n.val * 1024 + d.val) :
      m ((c : Thread nD τ).loc main_arg6) (ix2 s i) = zK m c n s d := by
    unfold zK
    exact congrArg (fun j => m ((c : Thread nD τ).loc main_arg6) (ix2 s j)) (Fin.ext h)
  refine congr (congrArg HAdd.hAdd (congr (congrArg HAdd.hAdd (congr (congrArg HAdd.hAdd ?_) ?_)) ?_)) ?_
  · exact congrArg (fun v => Ideal.logistic v * proj (oK m c 0 s) (wK m c 0) d) (z 0 _ (by simp))
  · exact congrArg (fun v => Ideal.logistic v * proj (oK m c 1 s) (wK m c 1) d) (z 1 _ (by simp))
  · exact congrArg (fun v => Ideal.logistic v * proj (oK m c 2 s) (wK m c 2) d) (z 2 _ (by simp))
  · exact congrArg (fun v => Ideal.logistic v * proj (oK m c 3 s) (wK m c 3) d) (z 3 _ (by simp))

end Cert.MergeHost

end
-- ==== Proof.MergeRef.lean ====
/- What the reference's operations hold at an index: its rows, by token and branch. -/
module

public import proofs.«01_k».proof.Proof.MergeSpec
public import proofs.«01_k».proof.Proof.Gen.ReferenceIdeal.Read

@[expose] public section

set_option maxRecDepth 16384

noncomputable section

namespace Cert.MergeRef

open Cert.ReferenceIdeal Cert.ReferenceIdeal.Gen Cert.ReferenceIdeal.Read Idealize.ShloMosaic Cert.MergeSpec

variable (x0 : (⟨S2048x1024, .f32⟩ : BufTy).Contents (Elt Ideal)) (x1 : (⟨S1x1024, .f32⟩ : BufTy).Contents (Elt Ideal))
  (x2 x3 x4 x5 : (⟨S2048x256, .bf16⟩ : BufTy).Contents (Elt Ideal))
  (x6 : (⟨S2048x4096, .f32⟩ : BufTy).Contents (Elt Ideal)) (x7 : (⟨S4x256x1024, .bf16⟩ : BufTy).Contents (Elt Ideal))
  (x8 : (⟨S1024x1024, .bf16⟩ : BufTy).Contents (Elt Ideal))

/-- The upstream gradient, by token. -/
def dxR (s : Fin 2048) : Row := fun e => x0 (ix2 s e)

/-- The norm's gain. -/
def gR : Row := fun e => x1 (ix2 0 e)

/-- The four branches' outputs, by branch and token. -/
def oR (n : Fin 4) (s : Fin 2048) : Fin 256 → EReal :=
  ![fun k => x2 (ix2 s k), fun k => x3 (ix2 s k), fun k => x4 (ix2 s k), fun k => x5 (ix2 s k)] n

/-- The gates' logits, by branch and token. -/
def zR (n : Fin 4) (s : Fin 2048) : Row := fun d =>
  x6 (ix2 s ⟨n.val * 1024 + d.val, by have := n.isLt; have := d.isLt; omega⟩)

/-- The branches' projection weights. -/
def wR (n : Fin 4) (k : Fin 256) : Row := fun d => x7 (ix3 n k d)

/-- The output projection's weights. -/
def woR (d : Fin 1024) : Row := fun e => x8 (ix2 d e)

/-- The merged rows, by token. -/
def yR (s : Fin 2048) : Row :=
  outRow (fun n => zR x6 n s) (fun n => oR x2 x3 x4 x5 n s) (wR x7) (woR x8)

/-- The stacked branch outputs. -/
theorem stack_at (s : Fin 2048) (n : Fin 4) (k : Fin 256) :
    val_main_v10 (F := Ideal) x2 x3 x4 x5 (ix3 s n k) = oR x2 x3 x4 x5 n s k := by
  unfold oR
  pointwise [val_main_v10, val_main_v9, val_main_v8, val_main_v7, val_main_v6, val_main_v3, val_main_v2, val_main_v1, val_main_v0]
  fin_vals n with hn
  · obtain rfl : n = 0 := Fin.ext hn
    rfl
  · obtain rfl : n = 1 := Fin.ext hn
    rfl
  · obtain rfl : n = 2 := Fin.ext hn
    rfl
  · obtain rfl : n = 3 := Fin.ext hn
    rfl

/-- The branches' projections. -/
theorem proj_at (s : Fin 2048) (n : Fin 4) (d : Fin 1024) :
    val_main_v12 (F := Ideal) x2 x3 x4 x5 x7 (ix3 s n d) = proj (oR x2 x3 x4 x5 n s) (wR x7 n) d := by
  pointwise [val_main_v12, val_main_v11, val_main_v4, stack_at]
  unfold proj wR
  exact Finset.sum_congr rfl fun k _ => mul_comm _ _

/-- The gates. -/
theorem gate_at (s : Fin 2048) (n : Fin 4) (d : Fin 1024) :
    val_main_v19 (F := Ideal) x6 (ix3 s n d) = Ideal.logistic (zR x6 n s d) := by
  pointwise [val_main_v19, val_main_v18, val_main_v17, val_main_v16, val_main_v15, val_main_v14, val_main_v13, val_main_cst, val_main_cst_0, zR]
  rfl

/-- The merged rows. -/
theorem y_at (s : Fin 2048) (e : Fin 1024) :
    val_main_v25 (F := Ideal) x2 x3 x4 x5 x6 x7 x8 (ix2 s e) = yR x2 x3 x4 x5 x6 x7 x8 s e := by
  pointwise [val_main_v25, val_main_v24, val_main_v23, val_main_v5, val_main_cst_2]
  simp only [gate_at, proj_at]
  unfold yR outRow merged woR
  rfl

/-- The gradient in the merged rows. -/
theorem dy_at (s : Fin 2048) (e : Fin 1024) :
    val_main_v59 (F := Ideal) x0 x1 x2 x3 x4 x5 x6 x7 x8 (ix2 s e)
      = dyRef (dxR x0 s) (yR x2 x3 x4 x5 x6 x7 x8 s) (gR x1) e := by
  pointwise [val_main_v59, val_main_v58, val_main_v57, val_main_v56, val_main_v55, val_main_v54, val_main_v53, val_main_v52,
    val_main_v51, val_main_v50, val_main_v49, val_main_v48, val_main_v47, val_main_v46, val_main_v45, val_main_v44,
    val_main_v36, val_main_v35, val_main_v34, val_main_v33, val_main_v32, val_main_v31, val_main_v30, val_main_v29,
    val_main_v28, val_main_v27, val_main_v26, val_main_cst_3, val_main_cst_4, val_main_cst_5, val_main_cst_6,
    val_main_cst_8, val_main_cst_9, val_main_cst_10]
  simp only [y_at]
  unfold dyRef thru ms Cert.MergeSpec.inv negHalf width eps dxR gR
  simp only [Finset.univ_unique, Finset.sum_singleton]

/-- The gradient in the gain. -/
theorem dgain_at (e : Fin 1024) :
    val_main_v43 (F := Ideal) x0 x2 x3 x4 x5 x6 x7 x8 (ix2 0 e)
      = ∑ s, dgain (dxR x0 s) (yR x2 x3 x4 x5 x6 x7 x8 s) e := by
  pointwise [val_main_v43, val_main_v42, val_main_v41, val_main_v38, val_main_v37, val_main_v33, val_main_v32, val_main_v31,
    val_main_v30, val_main_v29, val_main_v28, val_main_v27, val_main_v26, val_main_cst_3, val_main_cst_4, val_main_cst_5,
    val_main_cst_7]
  simp only [y_at]
  unfold dgain Cert.MergeSpec.inv width eps dxR
  exact Finset.sum_congr rfl fun s _ => mul_comm _ _

/-- The gradient in the merged rows before the output projection. -/
theorem dmerged_at (s : Fin 2048) (d : Fin 1024) :
    val_main_v60 (F := Ideal) x0 x1 x2 x3 x4 x5 x6 x7 x8 (ix2 s d)
      = dmerged (dyRef (dxR x0 s) (yR x2 x3 x4 x5 x6 x7 x8 s) (gR x1)) (woR x8) d := by
  pointwise [val_main_v60, val_main_v5]
  simp only [dy_at]
  rfl

/-- The gradient in the projections. -/
theorem dproj_at (s : Fin 2048) (n : Fin 4) (d : Fin 1024) :
    val_main_v62 (F := Ideal) x0 x1 x2 x3 x4 x5 x6 x7 x8 (ix3 s n d)
      = dproj (dyRef (dxR x0 s) (yR x2 x3 x4 x5 x6 x7 x8 s) (gR x1)) (woR x8) (zR x6 n s) d := by
  pointwise [val_main_v62, val_main_v61]
  simp only [gate_at, dmerged_at]
  exact mul_comm _ _

/-- The gradient in the gates' logits. -/
theorem dgate_at (s : Fin 2048) (n : Fin 4) (d : Fin 1024) :
    val_main_v64 (F := Ideal) x0 x1 x2 x3 x4 x5 x6 x7 x8 (ix3 s n d)
      = dgate (dyRef (dxR x0 s) (yR x2 x3 x4 x5 x6 x7 x8 s) (gR x1)) (woR x8) (zR x6 n s) (oR x2 x3 x4 x5 n s) (wR x7 n) d := by
  pointwise [val_main_v64, val_main_v63, val_main_v61, val_main_v22, val_main_v21, val_main_v20, val_main_cst_1]
  simp only [gate_at, dmerged_at, proj_at]
  exact (mul_assoc _ _ _).symm

/-- The gradients in the branches' outputs, stacked. -/
theorem dout_at (s : Fin 2048) (n : Fin 4) (k : Fin 256) :
    val_main_v68 (F := Ideal) x0 x1 x2 x3 x4 x5 x6 x7 x8 (ix3 s n k)
      = dout (dyRef (dxR x0 s) (yR x2 x3 x4 x5 x6 x7 x8 s) (gR x1)) (woR x8) (zR x6 n s) (wR x7 n) k := by
  pointwise [val_main_v68, val_main_v67, val_main_v66, val_main_v4]
  simp only [dproj_at]
  rfl

/-- The gradient in the first branch's output. -/
theorem dout0_at (s : Fin 2048) (k : Fin 256) :
    val_main_v70 (F := Ideal) x0 x1 x2 x3 x4 x5 x6 x7 x8 (ix2 s k)
      = dout (dyRef (dxR x0 s) (yR x2 x3 x4 x5 x6 x7 x8 s) (gR x1)) (woR x8) (zR x6 0 s) (wR x7 0) k := by
  pointwise [val_main_v70, val_main_v69]
  exact dout_at x0 x1 x2 x3 x4 x5 x6 x7 x8 s 0 k

/-- The gradient in the second branch's output. -/
theorem dout1_at (s : Fin 2048) (k : Fin 256) :
    val_main_v72 (F := Ideal) x0 x1 x2 x3 x4 x5 x6 x7 x8 (ix2 s k)
      = dout (dyRef (dxR x0 s) (yR x2 x3 x4 x5 x6 x7 x8 s) (gR x1)) (woR x8) (zR x6 1 s) (wR x7 1) k := by
  pointwise [val_main_v72, val_main_v71]
  exact dout_at x0 x1 x2 x3 x4 x5 x6 x7 x8 s 1 k

/-- The gradient in the third branch's output. -/
theorem dout2_at (s : Fin 2048) (k : Fin 256) :
    val_main_v74 (F := Ideal) x0 x1 x2 x3 x4 x5 x6 x7 x8 (ix2 s k)
      = dout (dyRef (dxR x0 s) (yR x2 x3 x4 x5 x6 x7 x8 s) (gR x1)) (woR x8) (zR x6 2 s) (wR x7 2) k := by
  pointwise [val_main_v74, val_main_v73]
  exact dout_at x0 x1 x2 x3 x4 x5 x6 x7 x8 s 2 k

/-- The gradient in the fourth branch's output. -/
theorem dout3_at (s : Fin 2048) (k : Fin 256) :
    val_main_v76 (F := Ideal) x0 x1 x2 x3 x4 x5 x6 x7 x8 (ix2 s k)
      = dout (dyRef (dxR x0 s) (yR x2 x3 x4 x5 x6 x7 x8 s) (gR x1)) (woR x8) (zR x6 3 s) (wR x7 3) k := by
  pointwise [val_main_v76, val_main_v75]
  exact dout_at x0 x1 x2 x3 x4 x5 x6 x7 x8 s 3 k

/-- The gradient in the gates' logits, the four branches side by side. -/
theorem dgates_at (s : Fin 2048) (n : Fin 4) (d : Fin 1024) (j : Fin 4096) (h : j.val = n.val * 1024 + d.val) :
    val_main_v77 (F := Ideal) x0 x1 x2 x3 x4 x5 x6 x7 x8 (ix2 s j)
      = dgate (dyRef (dxR x0 s) (yR x2 x3 x4 x5 x6 x7 x8 s) (gR x1)) (woR x8) (zR x6 n s) (oR x2 x3 x4 x5 n s) (wR x7 n) d := by
  refine Eq.trans ?_ (dgate_at x0 x1 x2 x3 x4 x5 x6 x7 x8 s n d)
  have hd := d.isLt
  have hn := n.isLt
  have hs := s.isLt
  rw [val_main_v77_apply, val_main_v65_apply]
  refine congrArg (val_main_v64 (F := Ideal) x0 x1 x2 x3 x4 x5 x6 x7 x8) ?_
  funext a
  refine Fin.ext ?_
  fin_cases a
  · show (s.val * 4096 + j.val) / 4096 = s.val; omega
  · show ((s.val * 4096 + j.val) / 1024) % 4 = n.val; omega
  · show (s.val * 4096 + j.val) % 1024 = d.val; omega

/-- The gradient in the projections, the four branches side by side. -/
theorem dprojs_at (s : Fin 2048) (n : Fin 4) (d : Fin 1024) (j : Fin 4096) (h : j.val = n.val * 1024 + d.val) :
    val_main_v79 (F := Ideal) x0 x1 x2 x3 x4 x5 x6 x7 x8 (ix2 s j)
      = dproj (dyRef (dxR x0 s) (yR x2 x3 x4 x5 x6 x7 x8 s) (gR x1)) (woR x8) (zR x6 n s) d := by
  refine Eq.trans ?_ (dproj_at x0 x1 x2 x3 x4 x5 x6 x7 x8 s n d)
  have hd := d.isLt
  have hn := n.isLt
  have hs := s.isLt
  rw [val_main_v79_apply, val_main_v78_apply]
  refine congrArg (val_main_v62 (F := Ideal) x0 x1 x2 x3 x4 x5 x6 x7 x8) ?_
  funext a
  refine Fin.ext ?_
  fin_cases a
  · show (s.val * 4096 + j.val) / 4096 = s.val; omega
  · show ((s.val * 4096 + j.val) / 1024) % 4 = n.val; omega
  · show (s.val * 4096 + j.val) % 1024 = d.val; omega

end Cert.MergeRef

end
-- ==== Proof.MergeEq.lean ====
/- The equation: under the precondition every array that the merge kernel leaves is the reference's result. -/
module

public import proofs.«01_k».proof.Proof.MergePre
public import proofs.«01_k».proof.Proof.MergeGain
public import proofs.«01_k».proof.Proof.MergeWide
public import proofs.«01_k».proof.Proof.MergeArr
public import proofs.«01_k».proof.Proof.MergeHost
public import proofs.«01_k».proof.Proof.MergeRef

@[expose] public section

set_option maxRecDepth 16384

noncomputable section

namespace Cert.MergeEq

open Cert.KernelIdeal Cert.KernelIdeal.Gen Idealize.ShloMosaic Idealize.ShloMosaic.TcCoe Cert.MergeSpec Cert.MergeReal
open Cert.MergeBlock Cert.MergeArr Cert.MergeWide Cert.MergeGain Idealize.SL.Sem Cert.ReferenceIdeal.Read

variable (m : (ℓ : Loc nD τ sig) → Buf (Elt Ideal) ℓ) (c : Dev nD)

/-- The rows that the kernel's host part saves are the reference's merged rows. -/
theorem y_row (s : Fin 2048) : yK m c s = MergeRef.yR (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) s :=
  MergeHost.yK_eq m c s

/-- Under the precondition the saved rows are numbers. -/
theorem y_num (h : Cert.Pre_KernelIdeal_finite m) (s : Fin 2048) (e : Fin 1024) : IsNum (yK m c s e) := by
  rw [MergeHost.yK_eq]
  refine isNum_outRow _ _ _ _ (fun n k => ?_) (fun n k d => ?_) (fun d e => ?_) e
  · fin_vals n with hn
    · obtain rfl : n = 0 := Fin.ext hn
      exact MergePre.num2 _ _ _ _ _ _ _ _ _ (h c).2.2.1 _
    · obtain rfl : n = 1 := Fin.ext hn
      exact MergePre.num3 _ _ _ _ _ _ _ _ _ (h c).2.2.2.1 _
    · obtain rfl : n = 2 := Fin.ext hn
      exact MergePre.num4 _ _ _ _ _ _ _ _ _ (h c).2.2.2.2.1 _
    · obtain rfl : n = 3 := Fin.ext hn
      exact MergePre.num5 _ _ _ _ _ _ _ _ _ (h c).2.2.2.2.2.1 _
  · exact MergePre.num7 _ _ _ _ _ _ _ _ _ (h c).2.2.2.2.2.2.1 _
  · exact MergePre.num8 _ _ _ _ _ _ _ _ _ (h c).2.2.2.2.2.2.2 _

/-- Under the precondition the kernel's gradient in the merged rows is the reference's. -/
theorem dy_row (h : Cert.Pre_KernelIdeal_finite m) (s : Fin 2048) :
    dyK m c s = dyRef (MergeRef.dxR (m ((c : Thread nD τ).loc main_arg0)) s) (MergeRef.yR (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) s)
      (MergeRef.gR (m ((c : Thread nD τ).loc main_arg1))) := by
  rw [← y_row]
  refine (dyRef_eq _ _ _ (fun e => ?_) (y_num m c h s) (fun e => ?_)).symm
  · exact MergePre.num0 _ _ _ _ _ _ _ _ _ (h c).1 _
  · exact MergePre.num1 _ _ _ _ _ _ _ _ _ (h c).2.1 _

/-- The gradient in the first branch. -/
theorem dout0 (h : Cert.Pre_KernelIdeal_finite m) :
    doutArr m c 0 = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨s, k, rfl⟩ : ∃ (s : Fin 2048) (k : Fin 256), i = ix2 s k := ⟨i 0, i 1, by idx_vars i; blk_ext⟩
  rw [MergeRef.dout0_at, ← dy_row m c h]
  rfl

/-- The gradient in the second branch. -/
theorem dout1 (h : Cert.Pre_KernelIdeal_finite m) :
    doutArr m c 1 = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨s, k, rfl⟩ : ∃ (s : Fin 2048) (k : Fin 256), i = ix2 s k := ⟨i 0, i 1, by idx_vars i; blk_ext⟩
  rw [MergeRef.dout1_at, ← dy_row m c h]
  rfl

/-- The gradient in the third branch. -/
theorem dout2 (h : Cert.Pre_KernelIdeal_finite m) :
    doutArr m c 2 = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨s, k, rfl⟩ : ∃ (s : Fin 2048) (k : Fin 256), i = ix2 s k := ⟨i 0, i 1, by idx_vars i; blk_ext⟩
  rw [MergeRef.dout2_at, ← dy_row m c h]
  rfl

/-- The gradient in the fourth branch. -/
theorem dout3 (h : Cert.Pre_KernelIdeal_finite m) :
    doutArr m c 3 = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨s, k, rfl⟩ : ∃ (s : Fin 2048) (k : Fin 256), i = ix2 s k := ⟨i 0, i 1, by idx_vars i; blk_ext⟩
  rw [MergeRef.dout3_at, ← dy_row m c h]
  rfl

/-- The gradient in the gates' logits. -/
theorem dgates (h : Cert.Pre_KernelIdeal_finite m) :
    dgateArr m c = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨s, j, rfl⟩ : ∃ (s : Fin 2048) (j : Fin 4096), i = ix2 s j := ⟨i 0, i 1, by idx_vars i; blk_ext⟩
  have hj := j.isLt
  rw [MergeRef.dgates_at _ _ _ _ _ _ _ _ _ s ⟨j.val / 1024, by omega⟩ ⟨j.val % 1024, by omega⟩ j (by simp only; omega), ← dy_row m c h]
  rfl

/-- The gradient in the branches' projections. -/
theorem dprojs (h : Cert.Pre_KernelIdeal_finite m) :
    dprojArr m c = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨s, j, rfl⟩ : ∃ (s : Fin 2048) (j : Fin 4096), i = ix2 s j := ⟨i 0, i 1, by idx_vars i; blk_ext⟩
  have hj := j.isLt
  rw [MergeRef.dprojs_at _ _ _ _ _ _ _ _ _ s ⟨j.val / 1024, by omega⟩ ⟨j.val % 1024, by omega⟩ j (by simp only; omega), ← dy_row m c h]
  rfl

/-- The gradient in the merged rows. -/
theorem dys (h : Cert.Pre_KernelIdeal_finite m) :
    dyArr m c = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨s, e, rfl⟩ : ∃ (s : Fin 2048) (e : Fin 1024), i = ix2 s e := ⟨i 0, i 1, by idx_vars i; blk_ext⟩
  pointwise [val_main_v80]
  rw [MergeRef.dy_at, ← dy_row m c h]
  rfl

/-- The gradient in the norm's gain. -/
theorem dgains :
    dgainArr m c = val_main_v43 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨e, rfl⟩ : ∃ e : Fin 1024, i = ix2 0 e := ⟨i 1, by idx_vars i; blk_ext⟩
  rw [MergeRef.dgain_at]
  simp only [← y_row]
  rfl

end Cert.MergeEq

end
-- ==== Proof.MergeClaim.lean ====
/- The claims about the merge's backward call: the reference's frame and the equality of the two programs' results. -/
module

public import proofs.«01_k».proof.Proof.MergeEq
public import proofs.«01_k».proof.Proof.Gen.ReferenceIdeal.Run
public import Idealize.ShloMosaic.Adequacy
public import Idealize.ShloMosaic.Init

@[expose] public section

set_option maxRecDepth 16384

noncomputable section

namespace Cert.MergeClaim

open Idealize.ShloMosaic Idealize.SL.Sem

/-- The reference runs to its end and leaves its arguments as they were. -/
theorem frame_ri : Cert.quiescent_ReferenceIdeal := fun m ρ _ =>
  (θ_run Cert.ReferenceIdeal.defs _ _).mono (fun r h => ⟨fun c => (h c).2.2.2.2.2.2.2.2,
    Idealize.ShloMosaic.sem_eq_zero_of_no_sems (by decide) r.2⟩) (Cert.ReferenceIdeal.Value.run (F := Ideal) m ρ)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments agree on a device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
     ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
     ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
     ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
     ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
     ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
     ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
     ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
     ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- The reference's gradient in the first branch is the array that the kernel leaves. -/
theorem dout0 (hpre : Cert.Pre_KernelIdeal_finite m) (h : Agree m m' c) :
    Cert.ReferenceIdeal.Value.res_main_v70 m' c = (Cert.KernelIdeal.Gen.dats m 0 c).arrAt 10 Cert.KernelIdeal.cfg0.N := by
  obtain ⟨h0, h1, h2, h3, h4, h5, h6, h7, h8⟩ := h
  refine (Cert.ReferenceIdeal.Read.val_main_v70_eq m' c).trans ?_
  refine Eq.trans ?_ ((Cert.MergeArr.arr10 m c).trans (Cert.MergeEq.dout0 m c hpre)).symm
  rw [h0, h1, h2, h3, h4, h5, h6, h7, h8]

/-- The reference's gradient in the second branch is the array that the kernel leaves. -/
theorem dout1 (hpre : Cert.Pre_KernelIdeal_finite m) (h : Agree m m' c) :
    Cert.ReferenceIdeal.Value.res_main_v72 m' c = (Cert.KernelIdeal.Gen.dats m 0 c).arrAt 11 Cert.KernelIdeal.cfg0.N := by
  obtain ⟨h0, h1, h2, h3, h4, h5, h6, h7, h8⟩ := h
  refine (Cert.ReferenceIdeal.Read.val_main_v72_eq m' c).trans ?_
  refine Eq.trans ?_ ((Cert.MergeArr.arr11 m c).trans (Cert.MergeEq.dout1 m c hpre)).symm
  rw [h0, h1, h2, h3, h4, h5, h6, h7, h8]

/-- The reference's gradient in the third branch is the array that the kernel leaves. -/
theorem dout2 (hpre : Cert.Pre_KernelIdeal_finite m) (h : Agree m m' c) :
    Cert.ReferenceIdeal.Value.res_main_v74 m' c = (Cert.KernelIdeal.Gen.dats m 0 c).arrAt 12 Cert.KernelIdeal.cfg0.N := by
  obtain ⟨h0, h1, h2, h3, h4, h5, h6, h7, h8⟩ := h
  refine (Cert.ReferenceIdeal.Read.val_main_v74_eq m' c).trans ?_
  refine Eq.trans ?_ ((Cert.MergeArr.arr12 m c).trans (Cert.MergeEq.dout2 m c hpre)).symm
  rw [h0, h1, h2, h3, h4, h5, h6, h7, h8]

/-- The reference's gradient in the fourth branch is the array that the kernel leaves. -/
theorem dout3 (hpre : Cert.Pre_KernelIdeal_finite m) (h : Agree m m' c) :
    Cert.ReferenceIdeal.Value.res_main_v76 m' c = (Cert.KernelIdeal.Gen.dats m 0 c).arrAt 13 Cert.KernelIdeal.cfg0.N := by
  obtain ⟨h0, h1, h2, h3, h4, h5, h6, h7, h8⟩ := h
  refine (Cert.ReferenceIdeal.Read.val_main_v76_eq m' c).trans ?_
  refine Eq.trans ?_ ((Cert.MergeArr.arr13 m c).trans (Cert.MergeEq.dout3 m c hpre)).symm
  rw [h0, h1, h2, h3, h4, h5, h6, h7, h8]

/-- The reference's gradient in the gates' logits is the array that the kernel leaves. -/
theorem dgates (hpre : Cert.Pre_KernelIdeal_finite m) (h : Agree m m' c) :
    Cert.ReferenceIdeal.Value.res_main_v77 m' c = (Cert.KernelIdeal.Gen.dats m 0 c).arrAt 14 Cert.KernelIdeal.cfg0.N := by
  obtain ⟨h0, h1, h2, h3, h4, h5, h6, h7, h8⟩ := h
  refine (Cert.ReferenceIdeal.Read.val_main_v77_eq m' c).trans ?_
  refine Eq.trans ?_ ((Cert.MergeWide.arr14 m c).trans (Cert.MergeEq.dgates m c hpre)).symm
  rw [h0, h1, h2, h3, h4, h5, h6, h7, h8]

/-- The reference's gradient in the projections is the array that the kernel leaves. -/
theorem dprojs (hpre : Cert.Pre_KernelIdeal_finite m) (h : Agree m m' c) :
    Cert.ReferenceIdeal.Value.res_main_v79 m' c = (Cert.KernelIdeal.Gen.dats m 0 c).arrAt 15 Cert.KernelIdeal.cfg0.N := by
  obtain ⟨h0, h1, h2, h3, h4, h5, h6, h7, h8⟩ := h
  refine (Cert.ReferenceIdeal.Read.val_main_v79_eq m' c).trans ?_
  refine Eq.trans ?_ ((Cert.MergeWide.arr15 m c).trans (Cert.MergeEq.dprojs m c hpre)).symm
  rw [h0, h1, h2, h3, h4, h5, h6, h7, h8]

/-- The reference's gradient in the merged rows is the array that the kernel leaves. -/
theorem dys (hpre : Cert.Pre_KernelIdeal_finite m) (h : Agree m m' c) :
    Cert.ReferenceIdeal.Value.res_main_v80 m' c = (Cert.KernelIdeal.Gen.dats m 0 c).arrAt 16 Cert.KernelIdeal.cfg0.N := by
  obtain ⟨h0, h1, h2, h3, h4, h5, h6, h7, h8⟩ := h
  refine (Cert.ReferenceIdeal.Read.val_main_v80_eq m' c).trans ?_
  refine Eq.trans ?_ ((Cert.MergeArr.arr16 m c).trans (Cert.MergeEq.dys m c hpre)).symm
  rw [h0, h1, h2, h3, h4, h5, h6, h7, h8]

/-- The reference's gradient in the norm's gain is the array that the kernel leaves. -/
theorem dgains (h : Agree m m' c) :
    Cert.ReferenceIdeal.Value.res_main_v43 m' c = (Cert.KernelIdeal.Gen.dats m 0 c).arrAt 17 Cert.KernelIdeal.cfg0.N := by
  obtain ⟨h0, h1, h2, h3, h4, h5, h6, h7, h8⟩ := h
  refine (Cert.ReferenceIdeal.Read.val_main_v43_eq m' c).trans ?_
  refine Eq.trans ?_ ((Cert.MergeGain.arr17 m c).trans (Cert.MergeEq.dgains m c)).symm
  rw [h0, h2, h3, h4, h5, h6, h7, h8]

/-- On finite arguments the kernel's eight results are the reference's eight results. -/
theorem algebraic : Cert.algebraic_KernelIdeal_ReferenceIdeal_pre_finite := by
  pair_intro
  · run_from Cert.KernelIdeal.Value.run_blocks m g
  · run_from Cert.ReferenceIdeal.Value.run m' g'
    · exact dout0 m m' c hpre (hagree c)
    · exact dout1 m m' c hpre (hagree c)
    · exact dout2 m m' c hpre (hagree c)
    · exact dout3 m m' c hpre (hagree c)
    · exact dgates m m' c hpre (hagree c)
    · exact dprojs m m' c hpre (hagree c)
    · exact dys m m' c hpre (hagree c)
    · exact dgains m m' c (hagree c)

end Cert.MergeClaim

end
-- ==== Proof.NormBackSpec.lean ====
/- What the backward pass of a norm under a product computes, one row of tokens at a time: the row of gradients through
   the product, and the norm's two gradients as the reference writes them. -/
module

public import proofs.«01_k».proof.Proof.MergeReal

@[expose] public section

noncomputable section

namespace Cert.NormBackSpec

open Idealize.ShloMosaic Cert.MergeSpec Cert.MergeReal

/-- A row of gradients taken back through a product with `w`: against `w`'s rows. -/
def back {n : ℕ} (a : Fin n → EReal) (w : Fin 1024 → Fin n → EReal) : Row := fun d => ∑ k, a k * w d k

/-- The residual's gradient plus the norm's, as the kernel writes it. -/
def resid (res dh x g : Row) : Row := fun d => res d + dy dh x g d

/-- The residual's gradient plus the norm's, as the reference writes it. -/
def residRef (res dh x g : Row) : Row := fun d =>
  res d + dh d * g d * Cert.MergeSpec.inv x + x d * thru dh x g + thru dh x g * x d

/-- The row of numbers taken back through numbers is numbers. -/
theorem isNum_back {n : ℕ} {a : Fin n → EReal} {w : Fin 1024 → Fin n → EReal} (ha : ∀ k, IsNum (a k))
    (hw : ∀ d k, IsNum (w d k)) (d : Fin 1024) : IsNum (back a w d) :=
  IsNum.sum _ fun k => (ha k).mul (hw d k)

/-- The two spellings agree on rows of numbers, whatever the residual's gradient. -/
theorem residRef_eq (res dh x g : Row) (hdh : ∀ e, IsNum (dh e)) (hx : ∀ e, IsNum (x e)) (hg : ∀ e, IsNum (g e)) :
    residRef res dh x g = resid res dh x g := by
  funext d
  unfold resid
  rw [← congrFun (dyRef_eq dh x g hdh hx hg) d]
  unfold residRef dyRef
  rw [add_assoc, add_assoc, ← add_assoc (dh d * g d * Cert.MergeSpec.inv x)]

end Cert.NormBackSpec

end
-- ==== Proof.MixBackBlock.lean ====
/- The backward pass through the mixing block's first product and its norm: what the kernel's stores hold at a grid
   point, over the argument arrays. -/
module

public import proofs.«01_k».proof.Proof.NormBackSpec
public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.MixBack

open Cert.Kernel2Ideal Cert.Kernel2Ideal.Gen Idealize.ShloMosaic Idealize.ShloMosaic.TcCoe
open Idealize.SL.Sem Cert.MergeSpec Cert.NormBackSpec

/-- The block that the accumulator starts from is zero. -/
theorem zero_at (i : S1024x1024.Idx) : k0_pay1 (F := Ideal) i = 0 := by
  idx_vars i
  unfold_payloads
  pointwise

/-- The block that the gain's gradient starts from is zero. -/
theorem zerog_at (i : S1x1024.Idx) : k0_pay2 (F := Ideal) i = 0 := by
  idx_vars i
  unfold_payloads
  pointwise

/-- One block of the mixing columns is added to the accumulator. -/
theorem accm_at (acc : FVec Ideal S1024x1024 .f32) (a w : FVec Ideal S1024x1408 .bf16) (r d : Fin 1024) :
    k0_pay3 (F := Ideal) acc a w (ix2 r d) = acc (ix2 r d) + ∑ k : Fin 1408, a (ix2 r k) * w (ix2 d k) := by
  unfold_payloads
  pointwise

/-- One block of the gates' columns is added to the accumulator. -/
theorem accg_at (acc : FVec Ideal S1024x1024 .f32) (a w : FVec Ideal S1024x1024 .bf16) (r d : Fin 1024) :
    k0_pay4 (F := Ideal) acc a w (ix2 r d) = acc (ix2 r d) + ∑ k : Fin 1024, a (ix2 r k) * w (ix2 d k) := by
  unfold_payloads
  pointwise

/-- The stored gradient in the residual stream. -/
theorem resid_at (x : FVec Ideal S1024x1024 .f32) (g : FVec Ideal S1x1024 .f32) (dh res : FVec Ideal S1024x1024 .f32)
    (r d : Fin 1024) :
    k0_pay7 (F := Ideal) x g dh res (ix2 r d)
      = resid (fun e => res (ix2 r e)) (fun e => dh (ix2 r e)) (fun e => x (ix2 r e)) (fun e => g (ix2 0 e)) d := by
  unfold_payloads
  pointwise [resid, dy, Cert.MergeSpec.inv, width, eps]

/-- The rows' parts of the gain's gradient are added to it. -/
theorem gain_at (x dh : FVec Ideal S1024x1024 .f32) (acc : FVec Ideal S1x1024 .f32) (d : Fin 1024) :
    k0_pay8 (F := Ideal) x dh acc (ix2 0 d)
      = acc (ix2 0 d) + ∑ r : Fin 1024, dgain (fun e => dh (ix2 r e)) (fun e => x (ix2 r e)) d := by
  unfold_payloads
  pointwise [dgain, Cert.MergeSpec.inv, width, eps]

/-- Which block every window reads or writes at a grid point. -/
theorem idx : ∀ t : Fin cfg0.N, win0_0.index t = ![t.val / 6, min (t.val % 6) 1] ∧ win0_1.index t = ![0, min (t.val % 6) 1]
    ∧ win0_2.index t = ![t.val / 6, t.val % 6 - 2] ∧ win0_3.index t = ![0, t.val % 6 - 2]
    ∧ win0_4.index t = ![t.val / 6, 0] ∧ win0_5.index t = ![0, 0] ∧ win0_6.index t = ![t.val / 6, 0]
    ∧ win0_7.index t = ![t.val / 6, 0] ∧ win0_8.index t = ![0, 0] :=
  (by decide +kernel : ∀ t : Fin grid0.N, _)

variable (m : (ℓ : Loc nD τ sig) → Buf (Elt Ideal) ℓ) (c : Dev nD)

/-- The gradient in the mixing columns of the product, by token. -/
def zmK (s : Fin 2048) (k : Fin 2816) : EReal := m ((c : Thread nD τ).loc main_arg0) (ix2 s k)

/-- The gradient in the gates' columns of the product, by token. -/
def zgK (s : Fin 2048) (k : Fin 4096) : EReal := m ((c : Thread nD τ).loc main_arg1) (ix2 s k)

/-- The product's weights, by channel. -/
def wK (d : Fin 1024) (k : Fin 6912) : EReal := m ((c : Thread nD τ).loc main_arg2) (ix2 d k)

/-- The normed rows, by token. -/
def xK (s : Fin 2048) : Row := fun d => m ((c : Thread nD τ).loc main_arg3) (ix2 s d)

/-- The norm's gain. -/
def gK : Row := fun d => m ((c : Thread nD τ).loc main_arg4) (ix2 0 d)

/-- The residual's gradient, by token. -/
def resK (s : Fin 2048) : Row := fun d => m ((c : Thread nD τ).loc main_arg5) (ix2 s d)

/-- The number of grid points. -/
theorem N_val : cfg0.N = 12 := N_0

/-- The token that a grid point's row is. -/
def tok (t : Fin cfg0.N) (r : Fin 1024) : Fin 2048 := ⟨t.val / 6 * 1024 + r.val, by have := t.isLt; have := N_val; omega⟩

/-- Which of the six blocks of columns a grid point takes. -/
def step6 (t : Fin cfg0.N) : Fin 6 := ⟨t.val % 6, by omega⟩

/-- The host's first slice of the weights: the mixing columns. -/
theorem V_wm : V m c main_v0 = extractStridedSlice S1024x2816 ![0, 0] (m ((c : Thread nD τ).loc main_arg2)) slices_S1024x6912_S1024x2816_0_0 := by
  unfold V
  after_results_simp

/-- The host's second slice of the weights: the gates' columns. -/
theorem V_wg : V m c main_v1 = extractStridedSlice S1024x4096 ![0, 2816] (m ((c : Thread nD τ).loc main_arg2)) slices_S1024x6912_S1024x4096_0_2816 := by
  unfold V
  after_results_simp

/-- The weights' mixing columns at an index. -/
theorem wm_at (d : Fin 1024) (k : Fin 2816) : V m c main_v0 (ix2 d k) = wK m c d ⟨k.val, by omega⟩ := by
  rw [V_wm]
  unfold wK
  pointwise

/-- The weights' gates' columns at an index. -/
theorem wg_at (d : Fin 1024) (k : Fin 4096) : V m c main_v1 (ix2 d k) = wK m c d ⟨2816 + k.val, by omega⟩ := by
  rw [V_wg]
  unfold wK
  pointwise

/-- The mixing gradient's block at a grid point. -/
theorem blk_zm (t : Fin cfg0.N) (h : t.val % 6 ≤ 1) (r : Fin 1024) (k : Fin 1408) :
    iblk m c 0 t (ix2 r k) = zmK m c (tok t r) ⟨t.val % 6 * 1408 + k.val, by omega⟩ := by
  unfold zmK tok
  blk_ext [iblk, V, idx t, min_eq_left h]

/-- The gates' gradient's block at a grid point. -/
theorem blk_zg (t : Fin cfg0.N) (h : 2 ≤ t.val % 6) (r k : Fin 1024) :
    iblk m c 2 t (ix2 r k) = zgK m c (tok t r) ⟨(t.val % 6 - 2) * 1024 + k.val, by omega⟩ := by
  unfold zgK tok
  blk_ext [iblk, V, idx t]

/-- The mixing weights' block at a grid point. -/
theorem blk_wm (t : Fin cfg0.N) (h : t.val % 6 ≤ 1) (d : Fin 1024) (k : Fin 1408) :
    iblk m c 1 t (ix2 d k) = wK m c d ⟨t.val % 6 * 1408 + k.val, by omega⟩ := by
  refine Eq.trans ?_ (wm_at m c d ⟨t.val % 6 * 1408 + k.val, by omega⟩)
  blk_ext [iblk, idx t, min_eq_left h]

/-- The gates' weights' block at a grid point. -/
theorem blk_wg (t : Fin cfg0.N) (h : 2 ≤ t.val % 6) (d k : Fin 1024) :
    iblk m c 3 t (ix2 d k) = wK m c d ⟨2816 + ((t.val % 6 - 2) * 1024 + k.val), by omega⟩ := by
  refine Eq.trans ?_ (wg_at m c d ⟨(t.val % 6 - 2) * 1024 + k.val, by omega⟩)
  blk_ext [iblk, idx t]

/-- The normed rows' block at a grid point. -/
theorem blk_x (t : Fin cfg0.N) (r d : Fin 1024) : iblk m c 4 t (ix2 r d) = xK m c (tok t r) d := by
  unfold xK tok
  blk_ext [iblk, V, idx t]

/-- The gain's block at a grid point. -/
theorem blk_g (t : Fin cfg0.N) (d : Fin 1024) : iblk m c 5 t (ix2 0 d) = gK m c d := by
  unfold gK
  blk_ext [iblk, V, idx t]

/-- The residual gradient's block at a grid point. -/
theorem blk_res (t : Fin cfg0.N) (r d : Fin 1024) : iblk m c 6 t (ix2 r d) = resK m c (tok t r) d := by
  unfold resK tok
  blk_ext [iblk, V, idx t]

end Cert.MixBack

end
-- ==== Proof.MixBackArr.lean ====
/- The arrays that the backward pass through the mixing block's first product leaves: the gradient in the residual
   stream and the gradient of the norm's gain, over the argument arrays. -/
module

public import proofs.«01_k».proof.Proof.MixBackBlock
public import Idealize.ShloMosaic.Lib.Pipeline.ReadBack

@[expose] public section

set_option maxRecDepth 16384

noncomputable section

namespace Cert.MixBack

open Cert.Kernel2Ideal Cert.Kernel2Ideal.Gen Idealize.ShloMosaic Idealize.ShloMosaic.TcCoe
open Idealize.SL.Sem Cert.MergeSpec Cert.NormBackSpec

/-- Six blocks of columns, two of 1408 and four of 1024, are the 6912 columns. -/
theorem sum_blocks (f : Fin 6912 → EReal) :
    (∑ s : Fin 6, if h : s.val ≤ 1 then ∑ k : Fin 1408, f ⟨s.val * 1408 + k.val, by omega⟩
        else ∑ k : Fin 1024, f ⟨2816 + ((s.val - 2) * 1024 + k.val), by omega⟩)
      = ∑ j : Fin 6912, f j := by
  refine (Fin.sum_univ_add (a := 2) (b := 4) _).trans (Eq.trans ?_ (Fin.sum_univ_add (a := 2816) (b := 4096) f).symm)
  refine congrArg₂ (· + ·) ?_ ?_
  · refine (Finset.sum_congr rfl fun s _ => dif_pos (by have := s.isLt; show s.val ≤ 1; omega)).trans ?_
    exact Fin.sum_mul_add_congr (S := 2) (n := 1408) (L := 2816) fun s k hl => rfl
  · refine (Finset.sum_congr rfl fun s _ => dif_neg (by show ¬(2 + s.val ≤ 1); omega)).trans ?_
    refine Fin.sum_mul_add_congr (S := 4) (n := 1024) (L := 4096) fun s k hl => congrArg f (Fin.ext ?_)
    show 2816 + ((2 + s.val - 2) * 1024 + k.val) = 2816 + (s.val * 1024 + k.val)
    omega

variable (m : (ℓ : Loc nD τ sig) → Buf (Elt Ideal) ℓ) (c : Dev nD)

/-- The gradient in the whole product, by token: the mixing columns, then the gates' columns. -/
def dzK (s : Fin 2048) (j : Fin 6912) : EReal :=
  if h : j.val < 2816 then zmK m c s ⟨j.val, h⟩ else zgK m c s ⟨j.val - 2816, by omega⟩

/-- The joined gradient at a mixing column. -/
theorem dz_mix (s : Fin 2048) (k : Fin 2816) (h : k.val < 6912) : dzK m c s ⟨k.val, h⟩ = zmK m c s k := by
  unfold dzK
  exact dif_pos k.isLt

/-- The joined gradient at a gate's column. -/
theorem dz_gate (s : Fin 2048) (k : Fin 4096) (h : 2816 + k.val < 6912) : dzK m c s ⟨2816 + k.val, h⟩ = zgK m c s k := by
  unfold dzK
  have hn : ¬2816 + k.val < 2816 := by omega
  exact (dif_neg hn).trans (congrArg (zgK m c s) (Fin.ext (Nat.add_sub_cancel_left ..)))

/-- The gradient in the normed rows' product, by token. -/
def dhK (s : Fin 2048) : Row := back (dzK m c s) (wK m c)

/-- One block of columns' part of the accumulator. -/
def part (s : Fin 2048) (b : Fin 6) (d : Fin 1024) : EReal :=
  if h : b.val ≤ 1 then
    ∑ k : Fin 1408, dzK m c s ⟨b.val * 1408 + k.val, by omega⟩ * wK m c d ⟨b.val * 1408 + k.val, by omega⟩
  else
    ∑ k : Fin 1024, dzK m c s ⟨2816 + ((b.val - 2) * 1024 + k.val), by omega⟩
      * wK m c d ⟨2816 + ((b.val - 2) * 1024 + k.val), by omega⟩

/-- The six blocks' parts are the whole sum over the columns. -/
theorem sum_part (s : Fin 2048) (d : Fin 1024) : ∑ b, part m c s b d = dhK m c s d :=
  sum_blocks fun j => dzK m c s j * wK m c d j

/-- A grid point's step of the accumulator over a block of mixing columns. -/
theorem stepm (t : Fin cfg0.N) (h : t.val % 6 ≤ 1) (acc : FVec Ideal S1024x1024 .f32) (i : S1024x1024.Idx) :
    k0_pay3 (F := Ideal) acc (iblk m c 0 t) (iblk m c 1 t) i = acc i + part m c (tok t (i 0)) (step6 t) (i 1) := by
  obtain ⟨r, d, rfl⟩ : ∃ r d : Fin 1024, i = ix2 r d := ⟨i 0, i 1, by idx_vars i; blk_ext⟩
  rw [accm_at]
  simp only [blk_zm m c t h, blk_wm m c t h]
  refine congrArg (acc (ix2 r d) + ·) ?_
  refine Eq.trans ?_ (dif_pos h).symm
  refine Finset.sum_congr rfl fun k _ => congrArg (· * _) ?_
  have hk : t.val % 6 * 1408 + k.val < 2816 := by omega
  exact (dz_mix m c (tok t r) ⟨t.val % 6 * 1408 + k.val, hk⟩ _).symm

/-- A grid point's step of the accumulator over a block of gates' columns. -/
theorem stepg (t : Fin cfg0.N) (h : 2 ≤ t.val % 6) (acc : FVec Ideal S1024x1024 .f32) (i : S1024x1024.Idx) :
    k0_pay4 (F := Ideal) acc (iblk m c 2 t) (iblk m c 3 t) i = acc i + part m c (tok t (i 0)) (step6 t) (i 1) := by
  obtain ⟨r, d, rfl⟩ : ∃ r d : Fin 1024, i = ix2 r d := ⟨i 0, i 1, by idx_vars i; blk_ext⟩
  rw [accg_at]
  simp only [blk_zg m c t h, blk_wg m c t h]
  refine congrArg (acc (ix2 r d) + ·) ?_
  have hn : ¬t.val % 6 ≤ 1 := by omega
  refine Eq.trans ?_ (dif_neg hn).symm
  refine Finset.sum_congr rfl fun k _ => congrArg (· * _) ?_
  have hk : (t.val % 6 - 2) * 1024 + k.val < 4096 := by omega
  exact (dz_gate m c (tok t r) ⟨(t.val % 6 - 2) * 1024 + k.val, hk⟩ _).symm

/-- The accumulator at the point that ends a row block: the whole sum over the columns. -/
theorem acc_last (t : Fin cfg0.N) (h : t.val % 6 = 5) (r d : Fin 1024) :
    (outsAt0 m c t.val t.isLt).2.2 (ix2 r d) = dhK m c (tok t r) d := by
  have hsum := Pipeline.eq_sum_fin_of_reset_step_apply_of_flush (fun n h => (outsAt0 m c n h).2.2) 6 (fun _ => (0 : EReal))
    (fun p (i : S1024x1024.Idx) => part m c (tok p (i 0)) (step6 p) (i 1)) ?_ ?_ t h (ix2 r d)
  · rw [hsum, zero_add, ← sum_part]
    refine Finset.sum_congr rfl fun s _ => ?_
    have e1 : tok (⟨6 * (t.val / 6) + s.val, Pipeline.run_point_lt_of_flush t h s⟩ : Fin cfg0.N) r = tok t r := by
      unfold tok
      apply Fin.ext
      simp only
      omega
    have e2 : step6 (⟨6 * (t.val / 6) + s.val, Pipeline.run_point_lt_of_flush t h s⟩ : Fin cfg0.N) = s := by
      unfold step6
      apply Fin.ext
      simp only
      omega
    show part m c (tok _ r) _ d = _
    rw [e1, e2]
  · intro p hp i
    by_cases h1 : p.val % 12 = 0
    · rw [outsAt0_A m c p hp h1 (by omega) (by omega) (by omega)]
      frame_out
      refine (stepm m c p (by omega) _ i).trans ?_
      rw [zero_at]
    · rw [outsAt0_E m c p hp h1 (by omega) (by omega) (by omega)]
      frame_out
      refine (stepm m c p (by omega) _ i).trans ?_
      rw [zero_at]
  · intro p hp i
    have h1 : ¬p.val % 12 = 0 := by omega
    by_cases h2 : p.val % 6 ≤ 1
    · rw [outsAt0_B m c p hp h1 h2 (by omega) (by omega)]
      frame_out
      rw [read_unread_whole]
      exact stepm m c p h2 _ i
    · by_cases h5 : p.val % 6 = 5
      · rw [outsAt0_D m c p hp h1 h2 (by omega) h5]
        frame_out
        rw [read_unread_whole]
        exact stepg m c p (by omega) _ i
      · rw [outsAt0_C m c p hp h1 h2 (by omega) h5]
        frame_out
        rw [read_unread_whole]
        exact stepg m c p (by omega) _ i

/-- What the point before left in the accumulator. -/
def prev (t : Fin cfg0.N) : FVec Ideal S1024x1024 .f32 := (outsAt0 m c (t.val - 1) (Nat.lt_of_le_of_lt (Nat.sub_le _ _) t.isLt)).2.2

/-- The gradient that the norm's part reads at the point that ends a row block. -/
theorem dh_last (t : Fin cfg0.N) (h : t.val % 6 = 5) (r d : Fin 1024) :
    k0_pay4 (F := Ideal) (prev m c t) (iblk m c 2 t) (iblk m c 3 t) (ix2 r d) = dhK m c (tok t r) d := by
  rw [← acc_last m c t h, outsAt0_D m c t (by omega) (by omega) (by omega) (by omega) h]
  frame_out
  rw [read_unread_whole]
  rfl

/-- The gradient in the residual stream, as an array. -/
def residArr (i : S2048x1024.Idx) : EReal := resid (resK m c (i 0)) (dhK m c (i 0)) (xK m c (i 0)) (gK m c) (i 1)

/-- The stored gradient in the residual stream at the point that ends a row block. -/
theorem resid_last (t : Fin cfg0.N) (h : t.val % 6 = 5) (r d : Fin 1024) :
    k0_pay7 (F := Ideal) (iblk m c 4 t) (iblk m c 5 t) (k0_pay4 (F := Ideal) (prev m c t) (iblk m c 2 t) (iblk m c 3 t)) (iblk m c 6 t) (ix2 r d)
      = residArr m c (ix2 (tok t r) d) := by
  rw [resid_at]
  simp only [dh_last m c t h, blk_x, blk_g, blk_res]
  rfl

/-- Window 7 leaves the gradient in the residual stream. -/
theorem arr7 : (dats m 0 c).arrAt 7 (cfgs 0).N = residArr m c := by
  refine (dats m 0 c).arrAt_eq_of_covers 7 _ (by decide +kernel) fun t hf y => ?_
  have h5 : t.val % 6 = 5 := (flush0_7 t).mp hf
  blk_simp
  rw [after0_7, outsAt0_D m c t (by omega) (by omega) (by omega) (by omega) h5]
  idx_vars y
  have k : residArr m c (((View.whole main_v2_0).slice (win0_7.rect t)).emb (ix2 y0 y1))
      = k0_pay7 (F := Ideal) (iblk m c 4 t) (iblk m c 5 t) (k0_pay4 (F := Ideal) (prev m c t) (iblk m c 2 t) (iblk m c 3 t)) (iblk m c 6 t) (ix2 y0 y1) := by
    rw [resid_last m c t h5]
    refine congrArg (residArr m c) ?_
    unfold tok
    blk_ext [idx t]
  frame_out
  rw [read_unread_whole]
  exact k.symm

/-- One grid point's part of the gain's gradient: only the point that ends a row block adds one. -/
def gpart (n : ℕ) (h : n < cfg0.N) (d : Fin 1024) : EReal :=
  if n % 6 = 5 then ∑ r : Fin 1024, dgain (dhK m c (tok ⟨n, h⟩ r)) (xK m c (tok ⟨n, h⟩ r)) d else 0

/-- The gain's gradient, as an array. -/
def gainArr (i : S1x1024.Idx) : EReal := ∑ s : Fin 2048, dgain (dhK m c s) (xK m c s) (i 1)

/-- The step of the gain's gradient at the point that ends a row block. -/
theorem gain_last (t : Fin cfg0.N) (h : t.val % 6 = 5) (acc : FVec Ideal S1x1024 .f32) (j : S1x1024.Idx) :
    k0_pay8 (F := Ideal) (iblk m c 4 t) (k0_pay4 (F := Ideal) (prev m c t) (iblk m c 2 t) (iblk m c 3 t)) acc j
      = acc j + gpart m c t.val t.isLt (j 1) := by
  obtain ⟨d, rfl⟩ : ∃ d : Fin 1024, j = ix2 0 d := ⟨j 1, by idx_vars j; blk_ext⟩
  rw [gain_at]
  simp only [dh_last m c t h, blk_x]
  unfold gpart
  rw [if_pos h]
  rfl

/-- Window 8 leaves the gain's gradient. -/
theorem arr8 : (dats m 0 c).arrAt 8 (cfgs 0).N = gainArr m c := by
  refine (dats m 0 c).arrAt_eq_of_after_last 8 t0_11 (by decide +kernel) _ fun j => ?_
  blk_simp
  rw [after0_8, Pipeline.eq_sum_fin_of_reset_step_apply_last (fun n h => (outsAt0 m c n h).2.1) 12 (fun _ => (0 : EReal))
    (fun p j => gpart m c p.val p.isLt (j 1))
    (fun t h j => ?_) (fun t h j => ?_) (le_of_eq N_0) t0_11 rfl j, zero_add]
  · refine (Fin.sum_divmod_congr (S := 6) (f := fun (a : Fin 2) (b : Fin 6) => if b.val = 5 then
      ∑ r : Fin 1024, dgain (dhK m c ⟨a.val * 1024 + r.val, by omega⟩) (xK m c ⟨a.val * 1024 + r.val, by omega⟩) (j 1) else 0)
      (fun t ha hs => ?_)).trans ?_
    · rfl
    · unfold gainArr
      refine Eq.trans ?_ (Fin.sum_mul_add_congr (S := 2) (n := 1024) (F := fun a r =>
        dgain (dhK m c ⟨a.val * 1024 + r.val, by omega⟩) (xK m c ⟨a.val * 1024 + r.val, by omega⟩) (j 1)) fun a r hl => rfl)
      refine Finset.sum_congr rfl fun a _ => ?_
      rw [Fin.sum_univ_six]
      simp
  · rw [outsAt0_A m c t (by omega) h (by omega) (by omega) (by omega)]
    frame_out
    unfold gpart
    rw [if_neg (by omega), zerog_at, add_zero]
  · by_cases h5 : t.val % 6 = 5
    · rw [outsAt0_D m c t (by omega) h (by omega) (by omega) h5]
      frame_out
      rw [read_unread_whole]
      exact gain_last m c t h5 _ j
    · have hk : gpart m c t.val t.isLt (j 1) = 0 := if_neg h5
      rw [hk, add_zero]
      by_cases h0 : t.val % 6 = 0
      · rw [outsAt0_E m c t h0 h (by omega) (by omega) h5]
        rfl
      · by_cases h2 : t.val % 6 ≤ 1
        · rw [outsAt0_B m c t h0 h h2 (by omega) h5]
          rfl
        · rw [outsAt0_C m c t h0 h h2 (by omega) h5]
          rfl

end Cert.MixBack

end
-- ==== Proof.MixBackClaim.lean ====
/- The claims about the backward pass through the mixing block's first product and its norm: what the reference
   computes at an index, what the precondition says, and the equality of the two programs' results. -/
module

public import proofs.«01_k».proof.Proof.MixBackArr
public import proofs.«01_k».proof.Proof.MergePre
public import proofs.«01_k».proof.Proof.Gen.Pre_finite2
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init
public import proofs.«01_k».proof.Defs

@[expose] public section

set_option maxRecDepth 16384

noncomputable section

namespace Cert.MixBack

open Idealize.ShloMosaic Idealize.ShloMosaic.TcCoe Idealize.SL.Sem Cert.MergeSpec Cert.MergeReal Cert.MergePre Cert.NormBackSpec

section Reference

open Cert.Reference2Ideal Cert.Reference2Ideal.Read

variable (x0 : FVec Ideal S2048x2816 .bf16) (x1 : FVec Ideal S2048x4096 .bf16) (x2 : FVec Ideal S1024x6912 .bf16)
  (x3 : FVec Ideal S2048x1024 .f32) (x4 : FVec Ideal S1x1024 .f32) (x5 : FVec Ideal S2048x1024 .f32)

/-- The reference's gradient in the product's columns: the mixing columns, then the gates' columns. -/
def dzR (s : Fin 2048) (j : Fin 6912) : EReal :=
  if h : j.val < 2816 then x0 (ix2 s ⟨j.val, h⟩) else x1 (ix2 s ⟨j.val - 2816, by omega⟩)

/-- The reference's gradient in the product's rows. -/
def dhR (s : Fin 2048) : Row := back (dzR x0 x1 s) (fun d k => x2 (ix2 d k))

/-- The reference's joined gradient. -/
theorem dz_ref (s : Fin 2048) (j : Fin 6912) : val_main_v0 (F := Ideal) x0 x1 (ix2 s j) = dzR x0 x1 s j := by
  pointwise [val_main_v0, dzR]

/-- The reference's product taken back. -/
theorem dh_ref (s : Fin 2048) (d : Fin 1024) : val_main_v19 (F := Ideal) x0 x1 x2 (ix2 s d) = dhR x0 x1 x2 s d := by
  pointwise [val_main_v19, val_main_v1, val_main_v2]
  simp only [dz_ref]
  rfl

/-- The reference's gradient in the residual stream. -/
theorem resid_ref (s : Fin 2048) (d : Fin 1024) :
    val_main_v39 (F := Ideal) x0 x1 x2 x3 x4 x5 (ix2 s d)
      = residRef (fun e => x5 (ix2 s e)) (dhR x0 x1 x2 s) (fun e => x3 (ix2 s e)) (fun e => x4 (ix2 0 e)) d := by
  pointwise [val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v13, val_main_v12, val_main_v11, val_main_v10, val_main_v9, val_main_v8,
    val_main_v7, val_main_v6, val_main_v5, val_main_v4, val_main_v3, val_main_v2, val_main_cst, val_main_cst_0,
    val_main_cst_1, val_main_cst_2, val_main_cst_4, val_main_cst_5, val_main_cst_6]
  simp only [dh_ref]
  unfold residRef thru ms Cert.MergeSpec.inv negHalf width eps
  simp only [Finset.univ_unique, Finset.sum_singleton]

/-- The reference's gradient of the gain. -/
theorem gain_ref (d : Fin 1024) :
    val_main_v22 (F := Ideal) x0 x1 x2 x3 (ix2 0 d) = ∑ s, dgain (dhR x0 x1 x2 s) (fun e => x3 (ix2 s e)) d := by
  pointwise [val_main_v22, val_main_v21, val_main_v20, val_main_v15, val_main_v14, val_main_v10, val_main_v9, val_main_v8,
    val_main_v7, val_main_v6, val_main_v5, val_main_v4, val_main_v3, val_main_v2, val_main_cst, val_main_cst_0,
    val_main_cst_1, val_main_cst_3]
  simp only [dh_ref]
  unfold dgain Cert.MergeSpec.inv width eps
  exact Finset.sum_congr rfl fun s _ => mul_comm _ _

end Reference

section Pre

open Cert.Pre_finite2

variable (x0 : FVec Ideal S2048x2816 .bf16) (x1 : FVec Ideal S2048x4096 .bf16) (x2 : FVec Ideal S1024x6912 .bf16)
  (x3 : FVec Ideal S2048x1024 .f32) (x4 : FVec Ideal S1x1024 .f32) (x5 : FVec Ideal S2048x1024 .f32)

/-- The gradient in the mixing columns: all numbers. -/
theorem num0 (h : (fn (F := Ideal) x0 x1 x2 x3 x4 x5).1 = fun _ => 1#1) (i : S2048x2816.Idx) : IsNum (x0 i) := by
  have h1 := congrFun h i
  pointwise [fn] at h1
  exact isNum_bf16 h1

/-- The gradient in the gates' columns: all numbers. -/
theorem num1 (h : (fn (F := Ideal) x0 x1 x2 x3 x4 x5).2.1 = fun _ => 1#1) (i : S2048x4096.Idx) : IsNum (x1 i) := by
  have h1 := congrFun h i
  pointwise [fn] at h1
  exact isNum_bf16 h1

/-- The weights: all numbers. -/
theorem num2 (h : (fn (F := Ideal) x0 x1 x2 x3 x4 x5).2.2.1 = fun _ => 1#1) (i : S1024x6912.Idx) : IsNum (x2 i) := by
  have h1 := congrFun h i
  pointwise [fn] at h1
  exact isNum_bf16 h1

/-- The normed rows: all numbers. -/
theorem num3 (h : (fn (F := Ideal) x0 x1 x2 x3 x4 x5).2.2.2.1 = fun _ => 1#1) (i : S2048x1024.Idx) : IsNum (x3 i) := by
  have h1 := congrFun h i
  pointwise [fn] at h1
  exact isNum_f32 h1

/-- The gain: all numbers. -/
theorem num4 (h : (fn (F := Ideal) x0 x1 x2 x3 x4 x5).2.2.2.2 = fun _ => 1#1) (i : S1x1024.Idx) : IsNum (x4 i) := by
  have h1 := congrFun h i
  pointwise [fn] at h1
  exact isNum_f32 h1

end Pre

section Run

open Cert.Kernel2Ideal Cert.Kernel2Ideal.Gen

variable (m : (ℓ : Loc nD τ sig) → Buf (Elt Ideal) ℓ) (ρ : Dev nD → PrngReg)

/-- The kernel's run: its two results at the arrays of the grid's last point, its arguments as they were. -/
theorem run : θ_run defs (onTc (τ := τ) (main (F := Ideal))) ⟨m, fun _ => 0, ρ⟩ fun r => ∀ c : Dev nD,
      r.2.mem ((c : Thread nD τ).loc main_v2_0) = (dats m 0 c).arrAt 7 cfg0.N
      ∧ r.2.mem ((c : Thread nD τ).loc main_v2_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 7, (h c).1 8,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c)))⟩)
    (run_main m ρ)

end Run

/-- The reference runs to its end and leaves its arguments as they were. -/
theorem frame_ri : Cert.quiescent_Reference2Ideal := fun m ρ _ =>
  (θ_run Cert.Reference2Ideal.defs _ _).mono (fun r h => ⟨fun c => (h c).2.2,
    Idealize.ShloMosaic.sem_eq_zero_of_no_sems (by decide) r.2⟩) (Cert.Reference2Ideal.Value.run (F := Ideal) m ρ)

variable (m : (ℓ : Loc Cert.Kernel2Ideal.nD Cert.Kernel2Ideal.τ Cert.Kernel2Ideal.sig) → Buf (Elt Ideal) ℓ) (c : Dev Cert.Kernel2Ideal.nD)

/-- The argument arrays' joined gradient is made of numbers when both parts are. -/
theorem num_dz {x0 : FVec Ideal Cert.Pre_finite2.S2048x2816 .bf16} {x1 : FVec Ideal Cert.Pre_finite2.S2048x4096 .bf16}
    (h0 : ∀ i, IsNum (x0 i)) (h1 : ∀ i, IsNum (x1 i)) (s : Fin 2048) (j : Fin 6912) : IsNum (dzR x0 x1 s j) := by
  unfold dzR
  split
  · exact h0 _
  · exact h1 _

/-- On finite arguments the reference's gradient in the residual stream is the kernel's. -/
theorem resid_eq (hpre : Cert.Pre_Kernel2Ideal_finite2 m) :
    Cert.Reference2Ideal.Read.val_main_v39 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
      = residArr m c := by
  obtain ⟨p0, p1, p2, p3, p4⟩ := hpre c
  funext i
  obtain ⟨s, d, rfl⟩ : ∃ (s : Fin 2048) (d : Fin 1024), i = ix2 s d := ⟨i 0, i 1, by idx_vars i; blk_ext⟩
  refine (resid_ref _ _ _ _ _ _ s d).trans ?_
  exact congrFun (residRef_eq (resK m c s) (dhK m c s) (xK m c s) (gK m c)
    (isNum_back (num_dz (num0 _ _ _ _ _ _ p0) (num1 _ _ _ _ _ _ p1) s) (fun d k => num2 _ _ _ _ _ _ p2 (ix2 d k)))
    (fun e => num3 _ _ _ _ _ _ p3 (ix2 s e)) (fun e => num4 _ _ _ _ _ _ p4 (ix2 0 e))) d

/-- The reference's gradient of the gain is the kernel's. -/
theorem gain_eq :
    Cert.Reference2Ideal.Read.val_main_v22 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
      = gainArr m c := by
  funext i
  obtain ⟨d, rfl⟩ : ∃ d : Fin 1024, i = ix2 0 d := ⟨i 1, by idx_vars i; blk_ext⟩
  exact gain_ref _ _ _ _ d

/-- On finite arguments the kernel's two results are the reference's. -/
theorem algebraic : Cert.algebraic_Kernel2Ideal_Reference2Ideal_pre_finite2 := by
  intro m g m' g' hpre hagree
  refine ⟨fun c => residArr m c, fun c => gainArr m c,
    (θ_run _ _ _).mono (fun r h c => ⟨(h c).1.trans (arr7 m c), (h c).2.1.trans (arr8 m c), (h c).2.2⟩) (run m g),
    (θ_run _ _ _).mono (fun r h c => ⟨(h c).1.trans ?_, (h c).2.1.trans ?_, (h c).2.2⟩)
      (Cert.Reference2Ideal.Value.run m' g')⟩
  · obtain ⟨h0, h1, h2, h3, h4, h5⟩ := hagree c
    refine (Cert.Reference2Ideal.Read.val_main_v39_eq m' c).trans ?_
    rw [h0, h1, h2, h3, h4, h5]
    exact resid_eq m c hpre
  · obtain ⟨h0, h1, h2, h3, _, _⟩ := hagree c
    refine (Cert.Reference2Ideal.Read.val_main_v22_eq _ _ _ _).trans ?_
    rw [h0, h1, h2, h3]
    exact gain_eq m c

end Cert.MixBack

end
-- ==== Proof.UpBackBlock.lean ====
/- The backward pass through the feed-forward block's first product and its norm: what the kernel's stores hold at a
   grid point, over the argument arrays. -/
module

public import proofs.«01_k».proof.Proof.NormBackSpec
public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.UpBack

open Cert.Kernel3Ideal Cert.Kernel3Ideal.Gen Idealize.ShloMosaic Idealize.ShloMosaic.TcCoe
open Idealize.SL.Sem Cert.MergeSpec Cert.NormBackSpec

/-- The block that the accumulator starts from is zero. -/
theorem zero_at (i : S1024x1024.Idx) : k0_pay1 (F := Ideal) i = 0 := by
  idx_vars i
  unfold_payloads
  pointwise

/-- The block that the gain's gradient starts from is zero. -/
theorem zerog_at (i : S1x1024.Idx) : k0_pay2 (F := Ideal) i = 0 := by
  idx_vars i
  unfold_payloads
  pointwise

/-- One block of columns is added to the accumulator. -/
theorem acc_at (acc : FVec Ideal S1024x1024 .f32) (a w : FVec Ideal S1024x1408 .bf16) (r d : Fin 1024) :
    k0_pay3 (F := Ideal) acc a w (ix2 r d) = acc (ix2 r d) + ∑ k : Fin 1408, a (ix2 r k) * w (ix2 d k) := by
  unfold_payloads
  pointwise

/-- The stored gradient in the residual stream. -/
theorem resid_at (x : FVec Ideal S1024x1024 .f32) (g : FVec Ideal S1x1024 .f32) (dh res : FVec Ideal S1024x1024 .f32)
    (r d : Fin 1024) :
    k0_pay6 (F := Ideal) x g dh res (ix2 r d)
      = resid (fun e => res (ix2 r e)) (fun e => dh (ix2 r e)) (fun e => x (ix2 r e)) (fun e => g (ix2 0 e)) d := by
  unfold_payloads
  pointwise [resid, dy, Cert.MergeSpec.inv, width, eps]

/-- The rows' parts of the gain's gradient are added to it. -/
theorem gain_at (x dh : FVec Ideal S1024x1024 .f32) (acc : FVec Ideal S1x1024 .f32) (d : Fin 1024) :
    k0_pay7 (F := Ideal) x dh acc (ix2 0 d)
      = acc (ix2 0 d) + ∑ r : Fin 1024, dgain (fun e => dh (ix2 r e)) (fun e => x (ix2 r e)) d := by
  unfold_payloads
  pointwise [dgain, Cert.MergeSpec.inv, width, eps]

/-- Which block every window reads or writes at a grid point. -/
theorem idx : ∀ t : Fin cfg0.N, win0_0.index t = ![t.val / 4, t.val % 4] ∧ win0_1.index t = ![0, t.val % 4]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

variable (m : (ℓ : Loc nD τ sig) → Buf (Elt Ideal) ℓ) (c : Dev nD)

/-- The gradient in the product, by token. -/
def ctK (s : Fin 2048) (k : Fin 5632) : EReal := m ((c : Thread nD τ).loc main_arg0) (ix2 s k)

/-- The product's weights, by channel. -/
def wK (d : Fin 1024) (k : Fin 5632) : EReal := m ((c : Thread nD τ).loc main_arg1) (ix2 d k)

/-- The normed rows, by token. -/
def xK (s : Fin 2048) : Row := fun d => m ((c : Thread nD τ).loc main_arg2) (ix2 s d)

/-- The norm's gain. -/
def gK : Row := fun d => m ((c : Thread nD τ).loc main_arg3) (ix2 0 d)

/-- The residual's gradient, by token. -/
def resK (s : Fin 2048) : Row := fun d => m ((c : Thread nD τ).loc main_arg4) (ix2 s d)

/-- The number of grid points. -/
theorem N_val : cfg0.N = 8 := N_0

/-- The token that a grid point's row is. -/
def tok (t : Fin cfg0.N) (r : Fin 1024) : Fin 2048 := ⟨t.val / 4 * 1024 + r.val, by have := t.isLt; have := N_val; omega⟩

/-- The column that a grid point's column is. -/
def col (t : Fin cfg0.N) (k : Fin 1408) : Fin 5632 := ⟨t.val % 4 * 1408 + k.val, by omega⟩

/-- The gradient's block at a grid point. -/
theorem blk_ct (t : Fin cfg0.N) (r : Fin 1024) (k : Fin 1408) : iblk m c 0 t (ix2 r k) = ctK m c (tok t r) (col t k) := by
  unfold ctK tok col
  blk_ext [iblk, V, idx t]

/-- The weights' block at a grid point. -/
theorem blk_w (t : Fin cfg0.N) (d : Fin 1024) (k : Fin 1408) : iblk m c 1 t (ix2 d k) = wK m c d (col t k) := by
  unfold wK col
  blk_ext [iblk, V, idx t]

/-- The normed rows' block at a grid point. -/
theorem blk_x (t : Fin cfg0.N) (r d : Fin 1024) : iblk m c 2 t (ix2 r d) = xK m c (tok t r) d := by
  unfold xK tok
  blk_ext [iblk, V, idx t]

/-- The gain's block at a grid point. -/
theorem blk_g (t : Fin cfg0.N) (d : Fin 1024) : iblk m c 3 t (ix2 0 d) = gK m c d := by
  unfold gK
  blk_ext [iblk, V, idx t]

/-- The residual gradient's block at a grid point. -/
theorem blk_res (t : Fin cfg0.N) (r d : Fin 1024) : iblk m c 4 t (ix2 r d) = resK m c (tok t r) d := by
  unfold resK tok
  blk_ext [iblk, V, idx t]

end Cert.UpBack

end
-- ==== Proof.UpBackArr.lean ====
/- The arrays that the backward pass through the feed-forward block's first product leaves: the gradient in the residual
   stream and the gradient of the norm's gain, over the argument arrays. -/
module

public import proofs.«01_k».proof.Proof.UpBackBlock
public import Idealize.ShloMosaic.Lib.Pipeline.ReadBack

@[expose] public section

set_option maxRecDepth 16384

noncomputable section

namespace Cert.UpBack

open Cert.Kernel3Ideal Cert.Kernel3Ideal.Gen Idealize.ShloMosaic Idealize.ShloMosaic.TcCoe
open Idealize.SL.Sem Cert.MergeSpec Cert.NormBackSpec

variable (m : (ℓ : Loc nD τ sig) → Buf (Elt Ideal) ℓ) (c : Dev nD)

/-- The gradient in the normed rows' product, by token. -/
def dhK (s : Fin 2048) : Row := back (ctK m c s) (wK m c)

/-- One grid point's part of the accumulator. -/
def part (t : Fin cfg0.N) (r d : Fin 1024) : EReal := ∑ k : Fin 1408, ctK m c (tok t r) (col t k) * wK m c d (col t k)

/-- One grid point's step of the accumulator. -/
theorem step (t : Fin cfg0.N) (acc : FVec Ideal S1024x1024 .f32) (i : S1024x1024.Idx) :
    k0_pay3 (F := Ideal) acc (iblk m c 0 t) (iblk m c 1 t) i = acc i + part m c t (i 0) (i 1) := by
  obtain ⟨r, d, rfl⟩ : ∃ r d : Fin 1024, i = ix2 r d := ⟨i 0, i 1, by idx_vars i; blk_ext⟩
  rw [acc_at]
  simp only [blk_ct, blk_w]
  rfl

/-- The accumulator at the point that ends a row block: the whole sum over the columns. -/
theorem acc_last (t : Fin cfg0.N) (h : t.val % 4 = 3) (r d : Fin 1024) :
    (outsAt0 m c t.val t.isLt).2.2 (ix2 r d) = dhK m c (tok t r) d := by
  have hsum := Pipeline.eq_sum_fin_of_reset_step_apply_of_flush (fun n h => (outsAt0 m c n h).2.2) 4 (fun _ => (0 : EReal))
    (fun p (i : S1024x1024.Idx) => part m c p (i 0) (i 1)) ?_ ?_ t h (ix2 r d)
  · rw [hsum, zero_add]
    unfold dhK back
    refine Fin.sum_mul_add_congr fun s k hl => ?_
    have e1 : tok (⟨4 * (t.val / 4) + s.val, Pipeline.run_point_lt_of_flush t h s⟩ : Fin cfg0.N) r = tok t r := by
      unfold tok
      apply Fin.ext
      simp only
      omega
    have e2 : col (⟨4 * (t.val / 4) + s.val, Pipeline.run_point_lt_of_flush t h s⟩ : Fin cfg0.N) k = ⟨s.val * 1408 + k.val, hl⟩ := by
      unfold col
      apply Fin.ext
      simp only
      omega
    show ctK m c (tok _ r) _ * wK m c d _ = _
    rw [e1, e2]
  · intro p hp i
    have h3 : ¬p.val % 4 = 3 := by omega
    by_cases h1 : p.val % 8 = 0
    · rw [outsAt0_A m c p hp h1 h3]
      frame_out
      refine (step m c p _ i).trans ?_
      rw [zero_at]
    · rw [outsAt0_D m c p hp h1 h3]
      frame_out
      refine (step m c p _ i).trans ?_
      rw [zero_at]
  · intro p hp i
    have h1 : ¬p.val % 8 = 0 := by omega
    by_cases h3 : p.val % 4 = 3
    · rw [outsAt0_C m c p hp h1 h3]
      frame_out
      rw [read_unread_whole]
      exact step m c p _ i
    · rw [outsAt0_B m c p hp h1 h3]
      frame_out
      rw [read_unread_whole]
      exact step m c p _ i

/-- What the point before left in the accumulator. -/
def prev (t : Fin cfg0.N) : FVec Ideal S1024x1024 .f32 := (outsAt0 m c (t.val - 1) (Nat.lt_of_le_of_lt (Nat.sub_le _ _) t.isLt)).2.2

/-- The gradient that the norm's part reads at the point that ends a row block. -/
theorem dh_last (t : Fin cfg0.N) (h : t.val % 4 = 3) (r d : Fin 1024) :
    k0_pay3 (F := Ideal) (prev m c t) (iblk m c 0 t) (iblk m c 1 t) (ix2 r d) = dhK m c (tok t r) d := by
  rw [← acc_last m c t h, outsAt0_C m c t (by omega) (by omega) h]
  frame_out
  rw [read_unread_whole]
  rfl

/-- The gradient in the residual stream, as an array. -/
def residArr (i : S2048x1024.Idx) : EReal := resid (resK m c (i 0)) (dhK m c (i 0)) (xK m c (i 0)) (gK m c) (i 1)

/-- The stored gradient in the residual stream at the point that ends a row block. -/
theorem resid_last (t : Fin cfg0.N) (h : t.val % 4 = 3) (r d : Fin 1024) :
    k0_pay6 (F := Ideal) (iblk m c 2 t) (iblk m c 3 t) (k0_pay3 (F := Ideal) (prev m c t) (iblk m c 0 t) (iblk m c 1 t)) (iblk m c 4 t) (ix2 r d)
      = residArr m c (ix2 (tok t r) d) := by
  rw [resid_at]
  simp only [dh_last m c t h, blk_x, blk_g, blk_res]
  rfl

/-- Window 5 leaves the gradient in the residual stream. -/
theorem arr5 : (dats m 0 c).arrAt 5 (cfgs 0).N = residArr m c := by
  refine (dats m 0 c).arrAt_eq_of_covers 5 _ (by decide +kernel) fun t hf y => ?_
  have h3 : t.val % 4 = 3 := (flush0_5 t).mp hf
  blk_simp
  rw [after0_5, outsAt0_C m c t (by omega) (by omega) h3]
  idx_vars y
  have k : residArr m c (((View.whole main_v0_0).slice (win0_5.rect t)).emb (ix2 y0 y1))
      = k0_pay6 (F := Ideal) (iblk m c 2 t) (iblk m c 3 t) (k0_pay3 (F := Ideal) (prev m c t) (iblk m c 0 t) (iblk m c 1 t)) (iblk m c 4 t) (ix2 y0 y1) := by
    rw [resid_last m c t h3]
    refine congrArg (residArr m c) ?_
    unfold tok
    blk_ext [idx t]
  frame_out
  rw [read_unread_whole]
  exact k.symm

/-- One grid point's part of the gain's gradient: only the point that ends a row block adds one. -/
def gpart (n : ℕ) (h : n < cfg0.N) (d : Fin 1024) : EReal :=
  if n % 4 = 3 then ∑ r : Fin 1024, dgain (dhK m c (tok ⟨n, h⟩ r)) (xK m c (tok ⟨n, h⟩ r)) d else 0

/-- The gain's gradient, as an array. -/
def gainArr (i : S1x1024.Idx) : EReal := ∑ s : Fin 2048, dgain (dhK m c s) (xK m c s) (i 1)

/-- The step of the gain's gradient at the point that ends a row block. -/
theorem gain_last (t : Fin cfg0.N) (h : t.val % 4 = 3) (acc : FVec Ideal S1x1024 .f32) (j : S1x1024.Idx) :
    k0_pay7 (F := Ideal) (iblk m c 2 t) (k0_pay3 (F := Ideal) (prev m c t) (iblk m c 0 t) (iblk m c 1 t)) acc j
      = acc j + gpart m c t.val t.isLt (j 1) := by
  obtain ⟨d, rfl⟩ : ∃ d : Fin 1024, j = ix2 0 d := ⟨j 1, by idx_vars j; blk_ext⟩
  rw [gain_at]
  simp only [dh_last m c t h, blk_x]
  unfold gpart
  rw [if_pos h]
  rfl

/-- Window 6 leaves the gain's gradient. -/
theorem arr6 : (dats m 0 c).arrAt 6 (cfgs 0).N = gainArr m c := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => (0 : EReal))
    (fun p j => gpart m c p.val p.isLt (j 1))
    (fun t h j => ?_) (fun t h j => ?_) (le_of_eq N_0) t0_7 rfl j, zero_add]
  · refine (Fin.sum_divmod_congr (S := 4) (f := fun (a : Fin 2) (b : Fin 4) => if b.val = 3 then
      ∑ r : Fin 1024, dgain (dhK m c ⟨a.val * 1024 + r.val, by omega⟩) (xK m c ⟨a.val * 1024 + r.val, by omega⟩) (j 1) else 0)
      (fun t ha hs => ?_)).trans ?_
    · rfl
    · unfold gainArr
      refine Eq.trans ?_ (Fin.sum_mul_add_congr (S := 2) (n := 1024) (F := fun a r =>
        dgain (dhK m c ⟨a.val * 1024 + r.val, by omega⟩) (xK m c ⟨a.val * 1024 + r.val, by omega⟩) (j 1)) fun a r hl => rfl)
      refine Finset.sum_congr rfl fun a _ => ?_
      rw [Fin.sum_univ_four]
      simp
  · rw [outsAt0_A m c t (by omega) h (by omega)]
    frame_out
    unfold gpart
    rw [if_neg (by omega), zerog_at, add_zero]
  · by_cases h3 : t.val % 4 = 3
    · rw [outsAt0_C m c t (by omega) h h3]
      frame_out
      rw [read_unread_whole]
      exact gain_last m c t h3 _ j
    · have hk : gpart m c t.val t.isLt (j 1) = 0 := if_neg h3
      rw [hk, add_zero]
      by_cases h0 : t.val % 4 = 0
      · rw [outsAt0_D m c t h0 h h3]
        rfl
      · rw [outsAt0_B m c t h0 h h3]
        rfl

end Cert.UpBack

end
-- ==== Proof.UpBackClaim.lean ====
/- The claims about the backward pass through the feed-forward block's first product and its norm: what the reference
   computes at an index, what the precondition says, and the equality of the two programs' results. -/
module

public import proofs.«01_k».proof.Proof.UpBackArr
public import proofs.«01_k».proof.Proof.MergePre
public import proofs.«01_k».proof.Proof.Gen.Pre_finite3
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init
public import proofs.«01_k».proof.Defs

@[expose] public section

set_option maxRecDepth 16384

noncomputable section

namespace Cert.UpBack

open Idealize.ShloMosaic Idealize.ShloMosaic.TcCoe Idealize.SL.Sem Cert.MergeSpec Cert.MergeReal Cert.MergePre Cert.NormBackSpec

section Reference

open Cert.Reference3Ideal Cert.Reference3Ideal.Read

variable (x0 : FVec Ideal S2048x5632 .bf16) (x1 : FVec Ideal S1024x5632 .bf16) (x2 : FVec Ideal S2048x1024 .f32)
  (x3 : FVec Ideal S1x1024 .f32) (x4 : FVec Ideal S2048x1024 .f32)

/-- The reference's gradient in the product's rows. -/
def dhR (s : Fin 2048) : Row := back (fun k => x0 (ix2 s k)) (fun d k => x1 (ix2 d k))

/-- The reference's product taken back. -/
theorem dh_ref (s : Fin 2048) (d : Fin 1024) : val_main_v18 (F := Ideal) x0 x1 (ix2 s d) = dhR x0 x1 s d := by
  pointwise [val_main_v18, val_main_v17, val_main_v0, dhR, back]

/-- The reference's gradient in the residual stream. -/
theorem resid_ref (s : Fin 2048) (d : Fin 1024) :
    val_main_v38 (F := Ideal) x0 x1 x2 x3 x4 (ix2 s d)
      = residRef (fun e => x4 (ix2 s e)) (dhR x0 x1 s) (fun e => x2 (ix2 s e)) (fun e => x3 (ix2 0 e)) d := by
  pointwise [val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v12, val_main_v11, val_main_v10, val_main_v9, val_main_v8, val_main_v7,
    val_main_v6, val_main_v5, val_main_v4, val_main_v3, val_main_v2, val_main_v1, val_main_cst, val_main_cst_0,
    val_main_cst_1, val_main_cst_2, val_main_cst_4, val_main_cst_5, val_main_cst_6]
  simp only [dh_ref]
  unfold residRef thru ms Cert.MergeSpec.inv negHalf width eps
  simp only [Finset.univ_unique, Finset.sum_singleton]

/-- The reference's gradient of the gain. -/
theorem gain_ref (d : Fin 1024) :
    val_main_v21 (F := Ideal) x0 x1 x2 (ix2 0 d) = ∑ s, dgain (dhR x0 x1 s) (fun e => x2 (ix2 s e)) d := by
  pointwise [val_main_v21, val_main_v20, val_main_v19, val_main_v13, val_main_v12, val_main_v8, val_main_v7,
    val_main_v6, val_main_v5, val_main_v4, val_main_v3, val_main_v2, val_main_v1, val_main_cst, val_main_cst_0,
    val_main_cst_1, val_main_cst_3]
  simp only [dh_ref]
  unfold dgain Cert.MergeSpec.inv width eps
  exact Finset.sum_congr rfl fun s _ => mul_comm _ _

end Reference

section Pre

open Cert.Pre_finite3

variable (x0 : FVec Ideal S2048x5632 .bf16) (x1 : FVec Ideal S1024x5632 .bf16) (x2 : FVec Ideal S2048x1024 .f32)
  (x3 : FVec Ideal S1x1024 .f32) (x4 : FVec Ideal S2048x1024 .f32)

/-- The gradient that comes in: all numbers. -/
theorem num0 (h : (fn (F := Ideal) x0 x1 x2 x3 x4).1 = fun _ => 1#1) (i : S2048x5632.Idx) : IsNum (x0 i) := by
  have h1 := congrFun h i
  pointwise [fn] at h1
  exact isNum_bf16 h1

/-- The weights: all numbers. -/
theorem num1 (h : (fn (F := Ideal) x0 x1 x2 x3 x4).2.1 = fun _ => 1#1) (i : S1024x5632.Idx) : IsNum (x1 i) := by
  have h1 := congrFun h i
  pointwise [fn] at h1
  exact isNum_bf16 h1

/-- The normed rows: all numbers. -/
theorem num2 (h : (fn (F := Ideal) x0 x1 x2 x3 x4).2.2.1 = fun _ => 1#1) (i : S2048x1024.Idx) : IsNum (x2 i) := by
  have h1 := congrFun h i
  pointwise [fn] at h1
  exact isNum_f32 h1

/-- The gain: all numbers. -/
theorem num3 (h : (fn (F := Ideal) x0 x1 x2 x3 x4).2.2.2 = fun _ => 1#1) (i : S1x1024.Idx) : IsNum (x3 i) := by
  have h1 := congrFun h i
  pointwise [fn] at h1
  exact isNum_f32 h1

end Pre

section Run

open Cert.Kernel3Ideal Cert.Kernel3Ideal.Gen

variable (m : (ℓ : Loc nD τ sig) → Buf (Elt Ideal) ℓ) (ρ : Dev nD → PrngReg)

/-- The kernel's run: its two results at the arrays of the grid's last point, its arguments as they were. -/
theorem run : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Run

/-- The reference runs to its end and leaves its arguments as they were. -/
theorem frame_ri : Cert.quiescent_Reference3Ideal := fun m ρ _ =>
  (θ_run Cert.Reference3Ideal.defs _ _).mono (fun r h => ⟨fun c => (h c).2.2,
    Idealize.ShloMosaic.sem_eq_zero_of_no_sems (by decide) r.2⟩) (Cert.Reference3Ideal.Value.run (F := Ideal) m ρ)

variable (m : (ℓ : Loc Cert.Kernel3Ideal.nD Cert.Kernel3Ideal.τ Cert.Kernel3Ideal.sig) → Buf (Elt Ideal) ℓ) (c : Dev Cert.Kernel3Ideal.nD)

/-- On finite arguments the reference's gradient in the residual stream is the kernel's. -/
theorem resid_eq (hpre : Cert.Pre_Kernel3Ideal_finite3 m) :
    Cert.Reference3Ideal.Read.val_main_v38 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
      = residArr m c := by
  obtain ⟨p0, p1, p2, p3⟩ := hpre c
  funext i
  obtain ⟨s, d, rfl⟩ : ∃ (s : Fin 2048) (d : Fin 1024), i = ix2 s d := ⟨i 0, i 1, by idx_vars i; blk_ext⟩
  refine (resid_ref _ _ _ _ _ s d).trans ?_
  exact congrFun (residRef_eq (resK m c s) (dhK m c s) (xK m c s) (gK m c)
    (isNum_back (fun k => num0 _ _ _ _ _ p0 (ix2 s k)) (fun d k => num1 _ _ _ _ _ p1 (ix2 d k)))
    (fun e => num2 _ _ _ _ _ p2 (ix2 s e)) (fun e => num3 _ _ _ _ _ p3 (ix2 0 e))) d

/-- The reference's gradient of the gain is the kernel's. -/
theorem gain_eq :
    Cert.Reference3Ideal.Read.val_main_v21 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
      = gainArr m c := by
  funext i
  obtain ⟨d, rfl⟩ : ∃ d : Fin 1024, i = ix2 0 d := ⟨i 1, by idx_vars i; blk_ext⟩
  exact gain_ref _ _ _ d

/-- On finite arguments the kernel's two results are the reference's. -/
theorem algebraic : Cert.algebraic_Kernel3Ideal_Reference3Ideal_pre_finite3 := by
  intro m g m' g' hpre hagree
  refine ⟨fun c => residArr m c, fun c => gainArr m c,
    (θ_run _ _ _).mono (fun r h c => ⟨(h c).1.trans (arr5 m c), (h c).2.1.trans (arr6 m c), (h c).2.2⟩) (run m g),
    (θ_run _ _ _).mono (fun r h c => ⟨(h c).1.trans ?_, (h c).2.1.trans ?_, (h c).2.2⟩)
      (Cert.Reference3Ideal.Value.run m' g')⟩
  · obtain ⟨h0, h1, h2, h3, h4⟩ := hagree c
    refine (Cert.Reference3Ideal.Read.val_main_v38_eq m' c).trans ?_
    rw [h0, h1, h2, h3, h4]
    exact resid_eq m c hpre
  · obtain ⟨h0, h1, h2, _, _⟩ := hagree c
    refine (Cert.Reference3Ideal.Read.val_main_v21_eq _ _ _).trans ?_
    rw [h0, h1, h2]
    exact gain_eq m c

end Cert.UpBack

end
-- ==== Proof.UpGrad.lean ====
/- The gradient in the feed-forward's first weight: the product call's array is the reference's. -/
module

public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.UpGrad

open Cert.Kernel4Ideal Cert.Kernel4Ideal.Gen Cert.Kernel4Ideal.Value Idealize.ShloMosaic Idealize.ShloMosaic.TcCoe
open Idealize.SL.Sem Cert.Reference4Ideal.Read

/-- The stored block: the tokens' products, added up. -/
theorem pay_at (a : FVec Ideal S2048x1024 .bf16) (b : FVec Ideal S2048x1408 .bf16) (r : Fin 1024) (q : Fin 1408) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, 0] ∧ win0_1.index t = ![0, t.val] ∧ win0_2.index t = ![0, t.val] :=
  (by decide +kernel : ∀ t : Fin grid0.N, _)

/-- The product's rows, by token. -/
def rowK (s : Fin 2048) (k : Fin 1024) : EReal := m ((c : Thread nD τ).loc main_arg0) (ix2 s k)

/-- The gradient in the product's result, by token. -/
def ctK (s : Fin 2048) (k : Fin 5632) : EReal := m ((c : Thread nD τ).loc main_arg1) (ix2 s k)

/-- The gradient as an array, over the argument arrays. -/
def grad (i : S1024x5632.Idx) : EReal := ∑ s : Fin 2048, rowK m c s (i 0) * ctK m c s (i 1)

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S1024x5632.Idx, (i 0).val = y0.val → (i 1).val = t.val * 1408 + y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · unfold ctK
      blk_ext [iblk, V, idx t, h1]
  have k := key (((View.whole main_v0).slice (win0_2.rect t)).emb (ix2 y0 y1)) (by blk_simp [idx t]) (by blk_simp [idx t])
  frame_out
  exact k.symm

/-- The reference's gradient, over the same arrays. -/
theorem ref (a : (⟨Cert.Reference4Ideal.S2048x1024, .bf16⟩ : BufTy).Contents (Elt Ideal))
    (b : (⟨Cert.Reference4Ideal.S2048x5632, .bf16⟩ : BufTy).Contents (Elt Ideal)) (i : Fin 1024) (j : Fin 5632) :
    val_main_v4 (F := Ideal) a b (ix2 i j) = ∑ s : Fin 2048, (a (ix2 s i) : EReal) * b (ix2 s j) := by
  pointwise [val_main_v4, val_main_v3, val_main_v2, val_main_v1, val_main_v0]
  exact Finset.sum_congr rfl fun s _ => mul_comm _ _

/-- The reference runs to its end and leaves its arguments as they were. -/
theorem frame_ri : Cert.quiescent_Reference4Ideal := fun m ρ _ =>
  (θ_run Cert.Reference4Ideal.defs _ _).mono (fun r h => ⟨fun c => (h c).2,
    Idealize.ShloMosaic.sem_eq_zero_of_no_sems (by decide) r.2⟩) (Cert.Reference4Ideal.Value.run (F := Ideal) m ρ)

/-- The kernel's gradient is the reference's. -/
theorem algebraic : Cert.algebraic_Kernel4Ideal_Reference4Ideal := by
  pair_intro
  · run_from Cert.Kernel4Ideal.Value.run_blocks m g
  · run_from Cert.Reference4Ideal.Value.run m' g'
    refine (val_main_v4_eq _ _).trans (Eq.trans ?_ (arr m c).symm)
    funext i
    obtain ⟨r, q, rfl⟩ : ∃ (r : Fin 1024) (q : Fin 5632), i = ix2 r q := ⟨i 0, i 1, by idx_vars i; blk_ext⟩
    exact ref _ _ r q

end Cert.UpGrad

end
-- ==== Proof.RowSpec.lean ====
/- The forward pass's rows: a product's row, normed and added to the residual stream, and the gated row of the
   feed-forward block. -/
module

public import proofs.«01_k».proof.Proof.MergeSpec

@[expose] public section

noncomputable section

namespace Cert.RowSpec

open Idealize.ShloMosaic Cert.MergeSpec

/-- A row `y`, normed with gain `g` and added to the residual stream's row `x`. -/
def addNorm (x y g : Row) : Row := fun d => x d + y d * inv y * g d

/-- The feed-forward block's gated row: the first half through `z · logistic z`, times the second half. -/
def gated (u : Fin 5632 → EReal) : Fin 2816 → EReal := fun k =>
  u ⟨k.val, by omega⟩ * Ideal.logistic (u ⟨k.val, by omega⟩) * u ⟨2816 + k.val, by omega⟩

/-- The gated row through the feed-forward block's second product. -/
def down (u : Fin 5632 → EReal) (w : Fin 2816 → Row) : Row := fun d => ∑ k, gated u k * w k d

end Cert.RowSpec

end
-- ==== Proof.FfnBackSpec.lean ====
/- What the backward pass of the feed-forward block's second half computes, one row of tokens at a time: the gradient in
   the gated row, and in the two halves that the gate joins, in both programs' spellings. -/
module

public import proofs.«01_k».proof.Proof.RowSpec
public import proofs.«01_k».proof.Proof.MergeReal

@[expose] public section

noncomputable section

namespace Cert.FfnBackSpec

open Idealize.ShloMosaic Cert.MergeSpec Cert.MergeReal Cert.RowSpec

/-- A row of the first product: 5632 channels, the gate's half first. -/
abbrev Wide := Fin 5632 → EReal

/-- Channel `k` of the gate's half. -/
def lo (u : Wide) (k : Fin 2816) : EReal := u ⟨k.val, by omega⟩

/-- Channel `k` of the other half. -/
def hi (u : Wide) (k : Fin 2816) : EReal := u ⟨2816 + k.val, by omega⟩

/-- The gradient in the gated row: the row `v` against the second product's rows. -/
def dact (v : Row) (w : Fin 2816 → Row) (k : Fin 2816) : EReal := ∑ d, v d * w k d

/-- The gradient in the gate's half, as the kernel writes it. -/
def dlo (v : Row) (w : Fin 2816 → Row) (u : Wide) (k : Fin 2816) : EReal :=
  dact v w k * hi u k * (Ideal.logistic (lo u k) * (1 + lo u k * (1 - Ideal.logistic (lo u k))))

/-- The gradient in the other half, as the kernel writes it. -/
def dhi (v : Row) (w : Fin 2816 → Row) (u : Wide) (k : Fin 2816) : EReal :=
  dact v w k * (lo u k * Ideal.logistic (lo u k))

/-- The gradient in the gate's half, as the reference writes it. -/
def dloRef (v : Row) (w : Fin 2816 → Row) (u : Wide) (k : Fin 2816) : EReal :=
  dact v w k * hi u k * Ideal.logistic (lo u k)
    + lo u k * (dact v w k * hi u k) * (Ideal.logistic (lo u k) * (1 - Ideal.logistic (lo u k)))

/-- The gradient in the other half, as the reference writes it. -/
def dhiRef (v : Row) (w : Fin 2816 → Row) (u : Wide) (k : Fin 2816) : EReal :=
  lo u k * Ideal.logistic (lo u k) * dact v w k

/-- The other half's two spellings agree. -/
theorem dhiRef_eq (v : Row) (w : Fin 2816 → Row) (u : Wide) (k : Fin 2816) : dhiRef v w u k = dhi v w u k :=
  mul_comm _ _

/-- The gate's half's two spellings agree on numbers. -/
theorem dloRef_eq (v : Row) (w : Fin 2816 → Row) (u : Wide) (hv : ∀ d, IsNum (v d)) (hw : ∀ k d, IsNum (w k d))
    (hu : ∀ j, IsNum (u j)) (k : Fin 2816) : dloRef v w u k = dlo v w u k := by
  obtain ⟨a, ha⟩ : IsNum (dact v w k) := IsNum.sum _ fun d => (hv d).mul (hw k d)
  obtain ⟨b, hb⟩ : IsNum (hi u k) := hu _
  obtain ⟨x, hx⟩ : IsNum (lo u k) := hu _
  obtain ⟨s, hs⟩ := isNum_logistic (lo u k)
  unfold dloRef dlo
  rw [hs, ha, hb, hx, show (1 : EReal) = ((1 : ℝ) : EReal) from rfl]
  simp only [← EReal.coe_mul, ← EReal.coe_add, ← EReal.coe_sub]
  refine congrArg Real.toEReal ?_
  ring

/-- The reciprocal root mean square of a row of numbers is a number. -/
theorem isNum_inv (y : Row) (hy : ∀ e, IsNum (y e)) : IsNum (Cert.MergeSpec.inv y) := by
  choose b hb using hy
  obtain rfl : y = fun e => (b e : EReal) := funext hb
  obtain ⟨p, hp, hpe⟩ := eps_eq
  have hS : 0 ≤ ∑ e, b e * b e := Finset.sum_nonneg fun e _ => mul_self_nonneg _
  have hMpos : 0 < (∑ e, b e * b e) * (1 / 1024) + p := by positivity
  have hms : ms (fun e => (b e : EReal)) = (((∑ e, b e * b e) * (1 / 1024) + p : ℝ) : EReal) := by
    unfold ms
    rw [width_eq, hpe, Ideal.div_coe (by norm_num)]
    simp only [← EReal.coe_mul, ← coe_sum, ← EReal.coe_add]
  have : Cert.MergeSpec.inv (fun e => (b e : EReal)) = Ideal.rsqrt (ms (fun e => (b e : EReal))) := rfl
  rw [this, hms, Ideal.rsqrt_coe, if_neg (not_lt.mpr hMpos.le), if_neg hMpos.ne']
  exact ⟨_, rfl⟩

/-- The norm's gradient on rows of numbers is made of numbers. -/
theorem isNum_dy (dx y g : Row) (hdx : ∀ e, IsNum (dx e)) (hy : ∀ e, IsNum (y e)) (hg : ∀ e, IsNum (g e)) (e : Fin 1024) :
    IsNum (dy dx y g e) := by
  obtain ⟨r, hr⟩ := isNum_inv y hy
  obtain ⟨S, hS⟩ : IsNum (∑ k, dx k * g k * (y k * Cert.MergeSpec.inv y)) :=
    IsNum.sum _ fun k => ((hdx k).mul (hg k)).mul ((hy k).mul ⟨r, hr⟩)
  obtain ⟨a, ha⟩ := hdx e
  obtain ⟨b, hb⟩ := hy e
  obtain ⟨w, hw⟩ := hg e
  unfold dy
  rw [hS, hr, ha, hb, hw, width_eq, Ideal.div_coe (by norm_num)]
  simp only [← EReal.coe_mul, ← EReal.coe_sub]
  exact ⟨_, rfl⟩

/-- The second product's row of numbers is made of numbers. -/
theorem isNum_down (u : Wide) (w : Fin 2816 → Row) (hu : ∀ j, IsNum (u j)) (hw : ∀ k d, IsNum (w k d)) (d : Fin 1024) :
    IsNum (down u w d) :=
  IsNum.sum _ fun k => (((hu _).mul (isNum_logistic _)).mul (hu _)).mul (hw k d)

end Cert.FfnBackSpec

end
-- ==== Proof.FfnBackBlock.lean ====
/- The backward pass through the feed-forward block's second half: what the call stores at a grid point, over the argument
   arrays. -/
module

public import proofs.«01_k».proof.Proof.FfnBackSpec
public import proofs.«01_k».proof.Proof.Gen.Kernel5Ideal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.FfnBack

open Cert.Kernel5Ideal Cert.Kernel5Ideal.Gen Cert.Kernel5Ideal.Value Idealize.ShloMosaic Idealize.ShloMosaic.TcCoe
open Idealize.SL.Sem Cert.MergeSpec Cert.RowSpec Cert.FfnBackSpec

/-- The stored gradient of the norm. -/
theorem df_at (y : FVec Ideal S256x1024 .f32) (g : FVec Ideal S1x1024 .f32) (dx : FVec Ideal S256x1024 .f32)
    (r : Fin 256) (e : Fin 1024) :
    k0_pay10 (F := Ideal) y g dx (ix2 r e)
      = dy (fun k => dx (ix2 r k)) (fun k => y (ix2 r k)) (fun k => g (ix2 0 k)) e := by
  unfold_payloads
  pointwise [dy, Cert.MergeSpec.inv, width, eps]

/-- The zero block that the norm gain's gradient starts from. -/
theorem zero_at (j : S1x1024.Idx) : k0_pay5 (F := Ideal) j = 0 := by
  unfold_payloads
  pointwise

/-- One step of the norm gain's gradient: the carried block plus the point's 256 rows. -/
theorem step_at (y : FVec Ideal S256x1024 .f32) (dx : FVec Ideal S256x1024 .f32) (acc : FVec Ideal S1x1024 .f32)
    (e : Fin 1024) :
    k0_pay9 (F := Ideal) y dx acc (ix2 0 e)
      = acc (ix2 0 e) + ∑ r : Fin 256, dgain (fun k => dx (ix2 r k)) (fun k => y (ix2 r k)) e := by
  unfold_payloads
  pointwise [dgain, Cert.MergeSpec.inv, width, eps]

/-- The stored gated rows. -/
theorem act_at (a b : FVec Ideal S256x2816 .f32) (r : Fin 256) (k : Fin 2816) :
    k0_pay2 (F := Ideal) a b (ix2 r k) = a (ix2 r k) * Ideal.logistic (a (ix2 r k)) * b (ix2 r k) := by
  unfold_payloads
  pointwise

/-- The stored gradient in the gate's half. -/
theorem dlo_at (P : FVec Ideal S256x1024 .bf16) (w : FVec Ideal S2816x1024 .bf16) (a b : FVec Ideal S256x2816 .f32)
    (r : Fin 256) (k : Fin 2816) :
    k0_pay3 (F := Ideal) P w a b (ix2 r k)
      = (∑ d : Fin 1024, P (ix2 r d) * w (ix2 k d)) * b (ix2 r k)
        * (Ideal.logistic (a (ix2 r k)) * (1 + a (ix2 r k) * (1 - Ideal.logistic (a (ix2 r k))))) := by
  unfold_payloads
  pointwise

/-- The stored gradient in the other half. -/
theorem dhi_at (P : FVec Ideal S256x1024 .bf16) (w : FVec Ideal S2816x1024 .bf16) (a : FVec Ideal S256x2816 .f32)
    (r : Fin 256) (k : Fin 2816) :
    k0_pay4 (F := Ideal) P w a (ix2 r k)
      = (∑ d : Fin 1024, P (ix2 r d) * w (ix2 k d)) * (a (ix2 r k) * Ideal.logistic (a (ix2 r k))) := by
  unfold_payloads
  pointwise

variable (m : (ℓ : Loc nD τ sig) → Buf (Elt Ideal) ℓ) (c : Dev nD)

/-- Every window's block index at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0]
    ∧ win0_6.index t = ![t.val, 0] ∧ win0_7.index t = ![t.val, 0] ∧ win0_8.index t = ![0, 0] :=
  (by decide +kernel : ∀ t : Fin grid0.N, _)

/-- The upstream gradient, by token. -/
def dxK (s : Fin 2048) : Row := fun e => m ((c : Thread nD τ).loc main_arg0) (ix2 s e)

/-- The norm's gain. -/
def gK : Row := fun e => m ((c : Thread nD τ).loc main_arg1) (ix2 0 e)

/-- The first product's rows, by token. -/
def uK (s : Fin 2048) : Wide := fun k => m ((c : Thread nD τ).loc main_arg2) (ix2 s k)

/-- The second product's weights. -/
def wK (k : Fin 2816) : Row := fun d => m ((c : Thread nD τ).loc main_arg3) (ix2 k d)

/-- The second product's rows, which the host part computes for the call. -/
def fK (s : Fin 2048) : Row := fun e => V m c main_v5 (ix2 s e)

/-- The rows that the host part computes are the gated rows through the second product. -/
theorem fK_eq (s : Fin 2048) : fK m c s = down (uK m c s) (wK m c) := by
  funext e
  unfold fK
  simp only [V, hostOps0, hostOps0_1, hostOps0_2, List.flatten_cons, List.flatten_nil, List.append_nil, List.cons_append,
    List.nil_append]
  entry_read
  simp -implicitDefEqProofs only [StableHlo.TRef.toBuf, StableHlo.TRef.ofBuf, cast_cast, cast_eq]
  clean_types
  pointwise
  rfl

/-- The gradient in the second product's rows, by token. -/
def dfK (s : Fin 2048) : Row := dy (dxK m c s) (fK m c s) (gK m c)

/-- The token of row `r` of the block at grid point `t`. -/
def tok (t : Fin cfg0.N) (r : Fin 256) : Fin 2048 :=
  ⟨t.val * 256 + r.val, by have := t.isLt; have : cfg0.N = 8 := N_0; have := r.isLt; omega⟩

/-- The upstream gradient's block. -/
theorem blk_dx (t : Fin cfg0.N) (r : Fin 256) (e : Fin 1024) : iblk m c 0 t (ix2 r e) = dxK m c (tok t r) e := by
  unfold dxK tok
  blk_ext [iblk, V, idx t]

/-- The second product's block. -/
theorem blk_f (t : Fin cfg0.N) (r : Fin 256) (e : Fin 1024) : iblk m c 1 t (ix2 r e) = fK m c (tok t r) e := by
  unfold fK tok
  blk_ext [iblk, idx t]

/-- The gain's block. -/
theorem blk_g (t : Fin cfg0.N) (e : Fin 1024) : iblk m c 2 t (ix2 0 e) = gK m c e := by
  unfold gK
  blk_ext [iblk, V, idx t]

/-- The gate's half of the rows, read from their block. -/
theorem ld_lo (t : Fin cfg0.N) (r : Fin 256) (k : Fin 2816) :
    View.ld (iblk m c 3 t) (Rect.unit ![0, 0] ![256, 2816] inb_S256x5632_S256x2816_0_0) (ix2 r k) = lo (uK m c (tok t r)) k := by
  unfold lo uK tok
  pointwise
  blk_ext [iblk, V, idx t]

/-- The other half of the rows, read from their block. -/
theorem ld_hi (t : Fin cfg0.N) (r : Fin 256) (k : Fin 2816) :
    View.ld (iblk m c 3 t) (Rect.unit ![0, 2816] ![256, 2816] inb_S256x5632_S256x2816_0_2816) (ix2 r k) = hi (uK m c (tok t r)) k := by
  unfold hi uK tok
  pointwise
  blk_ext [iblk, V, idx t]

/-- The weights' block. -/
theorem blk_w (t : Fin cfg0.N) (k : Fin 2816) (d : Fin 1024) : iblk m c 4 t (ix2 k d) = wK m c k d := by
  unfold wK
  blk_ext [iblk, V, idx t]

/-- The norm's gradient stored at a grid point. -/
def dfBlk (t : Fin cfg0.N) : FVec Ideal S256x1024 .bf16 := k0_pay10 (F := Ideal) (iblk m c 1 t) (iblk m c 2 t) (iblk m c 0 t)

/-- The norm's gradient stored at a grid point, over the argument arrays. -/
theorem df_blk (t : Fin cfg0.N) (r : Fin 256) (e : Fin 1024) : dfBlk m c t (ix2 r e) = dfK m c (tok t r) e := by
  unfold dfBlk
  rw [df_at]
  simp only [blk_dx, blk_f, blk_g]
  rfl

/-- The gated rows stored at a grid point, over the argument arrays. -/
theorem act_blk (t : Fin cfg0.N) (r : Fin 256) (k : Fin 2816) :
    k0_pay2 (F := Ideal) (View.ld (iblk m c 3 t) (Rect.unit ![0, 0] ![256, 2816] inb_S256x5632_S256x2816_0_0))
        (View.ld (iblk m c 3 t) (Rect.unit ![0, 2816] ![256, 2816] inb_S256x5632_S256x2816_0_2816)) (ix2 r k)
      = gated (uK m c (tok t r)) k := by
  rw [act_at]
  simp only [ld_lo, ld_hi]
  rfl

/-- The gate's half's gradient stored at a grid point, over the argument arrays. -/
theorem dlo_blk (t : Fin cfg0.N) (r : Fin 256) (k : Fin 2816) :
    k0_pay3 (F := Ideal) (dfBlk m c t) (iblk m c 4 t)
        (View.ld (iblk m c 3 t) (Rect.unit ![0, 0] ![256, 2816] inb_S256x5632_S256x2816_0_0))
        (View.ld (iblk m c 3 t) (Rect.unit ![0, 2816] ![256, 2816] inb_S256x5632_S256x2816_0_2816)) (ix2 r k)
      = dlo (dfK m c (tok t r)) (wK m c) (uK m c (tok t r)) k := by
  rw [dlo_at]
  simp only [ld_lo, ld_hi, df_blk, blk_w]
  rfl

/-- The other half's gradient stored at a grid point, over the argument arrays. -/
theorem dhi_blk (t : Fin cfg0.N) (r : Fin 256) (k : Fin 2816) :
    k0_pay4 (F := Ideal) (dfBlk m c t) (iblk m c 4 t)
        (View.ld (iblk m c 3 t) (Rect.unit ![0, 0] ![256, 2816] inb_S256x5632_S256x2816_0_0)) (ix2 r k)
      = dhi (dfK m c (tok t r)) (wK m c) (uK m c (tok t r)) k := by
  rw [dhi_at]
  simp only [ld_lo, df_blk, blk_w]
  rfl

end Cert.FfnBack

end
-- ==== Proof.FfnBackArr.lean ====
/- The backward pass through the feed-forward block's second half: the call's four results as arrays. -/
module

public import proofs.«01_k».proof.Proof.FfnBackBlock

@[expose] public section

set_option maxRecDepth 16384

noncomputable section

namespace Cert.FfnBack

open Cert.Kernel5Ideal Cert.Kernel5Ideal.Gen Cert.Kernel5Ideal.Value Idealize.ShloMosaic Idealize.ShloMosaic.TcCoe
open Idealize.SL.Sem Cert.MergeSpec Cert.RowSpec Cert.FfnBackSpec

variable (m : (ℓ : Loc nD τ sig) → Buf (Elt Ideal) ℓ) (c : Dev nD)

/-- The gradient in the first product, its two halves side by side. -/
def duArr (i : S2048x5632.Idx) : EReal :=
  if h : (i 1).val < 2816 then dlo (dfK m c (i 0)) (wK m c) (uK m c (i 0)) ⟨(i 1).val, h⟩
  else dhi (dfK m c (i 0)) (wK m c) (uK m c (i 0)) ⟨(i 1).val - 2816, by have : (i 1).val < 5632 := (i 1).isLt; omega⟩

/-- The gradient in the first product at an index of the gate's half. -/
theorem duArr_lo (t : Fin cfg0.N) (r : Fin 256) (k : Fin 2816) (i : S2048x5632.Idx)
    (h0 : (i 0).val = t.val * 256 + r.val) (h1 : (i 1).val = k.val) :
    duArr m c i = dlo (dfK m c (tok t r)) (wK m c) (uK m c (tok t r)) k := by
  unfold duArr
  rw [dif_pos (h1 ▸ k.isLt), show i 0 = tok t r from Fin.ext h0,
    show (⟨(i 1).val, _⟩ : Fin 2816) = k from Fin.ext h1]

/-- The gradient in the first product at an index of the other half. -/
theorem duArr_hi (t : Fin cfg0.N) (r : Fin 256) (k : Fin 2816) (i : S2048x5632.Idx)
    (h0 : (i 0).val = t.val * 256 + r.val) (h1 : (i 1).val = 2816 + k.val) :
    duArr m c i = dhi (dfK m c (tok t r)) (wK m c) (uK m c (tok t r)) k := by
  unfold duArr
  rw [dif_neg (by omega), show i 0 = tok t r from Fin.ext h0,
    show (⟨(i 1).val - 2816, _⟩ : Fin 2816) = k from Fin.ext (by show (i 1).val - 2816 = _; omega)]

set_option maxHeartbeats 1000000 in
/-- Window 5 leaves the gradient in the first product. -/
theorem arr5 : (dats m 0 c).arrAt 5 (cfgs 0).N = duArr m c := by
  refine (dats m 0 c).arrAt_eq_of_covers 5 _ (by decide +kernel) fun t hf y => ?_
  blk_simp
  rw [after0_5]
  have e0 : ((((View.whole main_v6_0).slice (win0_5.rect t)).emb y) 0).val = t.val * 256 + (y 0).val := by
    blk_simp [idx t]
  have e1 : ((((View.whole main_v6_0).slice (win0_5.rect t)).emb y) 1).val = (y 1).val := by
    blk_simp [idx t]
  by_cases hm : t.val % 8 = 0
  · rw [outsAt0_A m c t hm]
    frame_out
    clear hm hf
    canon_tiles x h
    · idx_vars x
      exact (dhi_blk m c t x0 x1).trans (duArr_hi m c t x0 x1 _ (e0.trans (by omega)) (e1.trans (by omega))).symm
    · idx_vars x
      exact (dlo_blk m c t x0 x1).trans (duArr_lo m c t x0 x1 _ (e0.trans (by omega)) (e1.trans (by omega))).symm
  · rw [outsAt0_B m c t hm]
    frame_out
    clear hm hf
    canon_tiles x h
    · idx_vars x
      exact (dhi_blk m c t x0 x1).trans (duArr_hi m c t x0 x1 _ (e0.trans (by omega)) (e1.trans (by omega))).symm
    · idx_vars x
      exact (dlo_blk m c t x0 x1).trans (duArr_lo m c t x0 x1 _ (e0.trans (by omega)) (e1.trans (by omega))).symm

/-- The gated rows, as an array. -/
def actArr (i : S2048x2816.Idx) : EReal := gated (uK m c (i 0)) (i 1)

/-- Window 6 leaves the gated rows. -/
theorem arr6 : (dats m 0 c).arrAt 6 (cfgs 0).N = actArr m c := by
  refine (dats m 0 c).arrAt_eq_of_covers 6 _ (by decide +kernel) fun t hf y => ?_
  blk_simp
  rw [after0_6]
  idx_vars y
  have key : actArr m c (((View.whole main_v6_1).slice (win0_6.rect t)).emb (ix2 y0 y1)) = actArr m c (ix2 (tok t y0) y1) := by
    refine congrArg (actArr m c) ?_
    unfold tok
    blk_ext [idx t]
  by_cases h : t.val % 8 = 0
  · rw [outsAt0_A m c t h]; frame_out; exact (act_blk m c t y0 y1).trans key.symm
  · rw [outsAt0_B m c t h]; frame_out; exact (act_blk m c t y0 y1).trans key.symm

/-- The norm's gradient, as an array. -/
def dfArr (i : S2048x1024.Idx) : EReal := dfK m c (i 0) (i 1)

/-- Window 7 leaves the norm's gradient. -/
theorem arr7 : (dats m 0 c).arrAt 7 (cfgs 0).N = dfArr m c := by
  refine (dats m 0 c).arrAt_eq_of_covers 7 _ (by decide +kernel) fun t hf y => ?_
  blk_simp
  rw [after0_7]
  idx_vars y
  have key : dfArr m c (((View.whole main_v6_2).slice (win0_7.rect t)).emb (ix2 y0 y1)) = dfArr m c (ix2 (tok t y0) y1) := by
    refine congrArg (dfArr m c) ?_
    unfold tok
    blk_ext [idx t]
  by_cases h : t.val % 8 = 0
  · rw [outsAt0_A m c t h]; frame_out; exact (df_blk m c t y0 y1).trans key.symm
  · rw [outsAt0_B m c t h]; frame_out; exact (df_blk m c t y0 y1).trans key.symm

/-- The gain's gradient, as an array: the tokens' parts, added up. -/
def gainArr (i : S1x1024.Idx) : EReal := ∑ s : Fin 2048, dgain (dxK m c s) (fK m c s) (i 1)

/-- One grid point's step of the gain's gradient, over the argument arrays. -/
theorem step_blk (t : Fin cfg0.N) (acc : FVec Ideal S1x1024 .f32) (j : S1x1024.Idx) :
    k0_pay9 (F := Ideal) (iblk m c 1 t) (iblk m c 0 t) acc j
      = acc j + ∑ r : Fin 256, dgain (dxK m c (tok t r)) (fK m c (tok t r)) (j 1) := by
  obtain ⟨e, rfl⟩ : ∃ e : Fin 1024, j = ix2 0 e := ⟨j 1, by idx_vars j; blk_ext⟩
  rw [step_at]
  simp only [blk_dx, blk_f]
  rfl

/-- Window 8 leaves the gain's gradient. -/
theorem arr8 : (dats m 0 c).arrAt 8 (cfgs 0).N = gainArr m c := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun p j => ∑ r : Fin 256, dgain (dxK m c (tok p r)) (fK m c (tok p r)) (j 1))
    (fun t h j => ?_) (fun t h j => ?_) (le_of_eq N_0) t0_7 rfl j, zero_add]
  · unfold gainArr
    refine Fin.sum_mul_add_congr fun s k hl => ?_
    rfl
  · rw [outsAt0_A m c t h]
    frame_out
    refine (step_blk m c t _ j).trans ?_
    rw [zero_at]
  · rw [outsAt0_B m c t h]
    frame_out
    exact step_blk m c t _ j

end Cert.FfnBack

end
-- ==== Proof.FfnBackClaim.lean ====
/- The claims about the backward pass through the feed-forward block's second half: what the reference computes at an
   index, what the precondition says, and the equality of the two programs' results. -/
module

public import proofs.«01_k».proof.Proof.FfnBackArr
public import proofs.«01_k».proof.Proof.MergePre
public import proofs.«01_k».proof.Proof.Gen.Pre_finite5
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init
public import proofs.«01_k».proof.Defs

@[expose] public section

set_option maxRecDepth 16384

noncomputable section

namespace Cert.FfnBack

open Idealize.ShloMosaic Idealize.ShloMosaic.TcCoe Idealize.SL.Sem Cert.MergeSpec Cert.MergeReal Cert.MergePre Cert.RowSpec
open Cert.FfnBackSpec

section Reference

open Cert.Reference5Ideal Cert.Reference5Ideal.Read

variable (x0 : FVec Ideal S2048x1024 .f32) (x1 : FVec Ideal S1x1024 .f32) (x2 : FVec Ideal S2048x5632 .f32)
  (x3 : FVec Ideal S2816x1024 .bf16)

/-- The first product's row of a token. -/
def uR (s : Fin 2048) : Wide := fun k => x2 (ix2 s k)

/-- The second product's weights. -/
def wR (k : Fin 2816) : Row := fun d => x3 (ix2 k d)

/-- The second product's row of a token. -/
def fR (s : Fin 2048) : Row := down (uR x2 s) (wR x3)

/-- The gradient in the second product's row of a token, as the reference writes it. -/
def dfR (s : Fin 2048) : Row := dyRef (fun e => x0 (ix2 s e)) (fR x2 x3 s) (fun e => x1 (ix2 0 e))

/-- The reference's gated rows, before they are stored. -/
theorem gated_ref (s : Fin 2048) (k : Fin 2816) : val_main_v3 (F := Ideal) x2 (ix2 s k) = gated (uR x2 s) k := by
  pointwise [val_main_v3, val_main_v2_0, val_main_v2_2, val_main_v1, val_main_v0, val_main_call0_v0, val_main_call0_v1,
    val_main_call0_v2, val_main_call0_v3, val_main_call0_v4, val_main_call0_cst, val_main_call0_cst_0]
  rfl

/-- The reference's gated rows. -/
theorem act_ref (s : Fin 2048) (k : Fin 2816) : val_main_v46 (F := Ideal) x2 (ix2 s k) = gated (uR x2 s) k := by
  pointwise [val_main_v46]
  exact gated_ref x2 s k

/-- The reference's second product. -/
theorem f_ref (s : Fin 2048) (d : Fin 1024) : val_main_v5 (F := Ideal) x2 x3 (ix2 s d) = fR x2 x3 s d := by
  pointwise [val_main_v5, val_main_v4]
  simp only [gated_ref]
  rfl

/-- The reference's gradient in the second product's rows, before it is stored. -/
theorem thru_ref (s : Fin 2048) (e : Fin 1024) :
    val_main_v39 (F := Ideal) x0 x1 x2 x3 (ix2 s e) = dfR x0 x1 x2 x3 s e := by
  pointwise [val_main_v39, val_main_v38, val_main_v37, val_main_v36, val_main_v35, val_main_v34, val_main_v33,
    val_main_v32, val_main_v31, val_main_v30, val_main_v29, val_main_v28, val_main_v27, val_main_v26, val_main_v25,
    val_main_v24, val_main_v17, val_main_v16, val_main_v15, val_main_v14, val_main_v13, val_main_v12, val_main_v11,
    val_main_v10, val_main_v9, val_main_v8, val_main_v7, val_main_v6, val_main_cst, val_main_cst_0, val_main_cst_1,
    val_main_cst_2, val_main_cst_4, val_main_cst_5, val_main_cst_6]
  simp only [f_ref]
  unfold dfR dyRef thru ms Cert.MergeSpec.inv negHalf width eps
  simp only [Finset.univ_unique, Finset.sum_singleton]

/-- The reference's gradient in the second product's rows. -/
theorem df_ref (s : Fin 2048) (e : Fin 1024) :
    val_main_v47 (F := Ideal) x0 x1 x2 x3 (ix2 s e) = dfR x0 x1 x2 x3 s e := by
  pointwise [val_main_v47]
  exact thru_ref x0 x1 x2 x3 s e

/-- The reference's gradient of the gain. -/
theorem gain_ref (d : Fin 1024) :
    val_main_v23 (F := Ideal) x0 x2 x3 (ix2 0 d) = ∑ s, dgain (fun e => x0 (ix2 s e)) (fR x2 x3 s) d := by
  pointwise [val_main_v23, val_main_v22, val_main_v21, val_main_v19, val_main_v20, val_main_v18, val_main_v17, val_main_v13,
    val_main_v12, val_main_v11,
    val_main_v10, val_main_v9, val_main_v8, val_main_v7, val_main_v6, val_main_cst, val_main_cst_0, val_main_cst_1,
    val_main_cst_3]
  simp only [f_ref]
  unfold dgain Cert.MergeSpec.inv width eps
  exact Finset.sum_congr rfl fun s _ => mul_comm _ _

/-- The reference's gradient in the gated rows. -/
theorem dact_ref (s : Fin 2048) (k : Fin 2816) :
    val_main_v40 (F := Ideal) x0 x1 x2 x3 (ix2 s k) = dact (dfR x0 x1 x2 x3 s) (wR x3) k := by
  pointwise [val_main_v40, val_main_v4]
  simp only [thru_ref]
  rfl

/-- The reference's gradient in the gate's half. -/
theorem dlo_ref (s : Fin 2048) (k : Fin 2816) :
    val_main_v43 (F := Ideal) x0 x1 x2 x3 (ix2 s k) = dloRef (dfR x0 x1 x2 x3 s) (wR x3) (uR x2 s) k := by
  pointwise [val_main_v43, val_main_call1_v2, val_main_call1_v1, val_main_call1_v0, val_main_v42, val_main_v2_1,
    val_main_v2_2, val_main_v1, val_main_v0, val_main_call0_v0, val_main_call0_v1, val_main_call0_v2, val_main_call0_v3,
    val_main_call0_v4, val_main_call0_v6, val_main_call0_v7, val_main_call0_cst, val_main_call0_cst_0,
    val_main_call0_cst_1]
  simp only [dact_ref]
  rfl

/-- The reference's gradient in the other half. -/
theorem dhi_ref (s : Fin 2048) (k : Fin 2816) :
    val_main_v41 (F := Ideal) x0 x1 x2 x3 (ix2 s k) = dhiRef (dfR x0 x1 x2 x3 s) (wR x3) (uR x2 s) k := by
  pointwise [val_main_v41, val_main_v2_0, val_main_v2_2, val_main_v0, val_main_call0_v0, val_main_call0_v1,
    val_main_call0_v2, val_main_call0_v3, val_main_call0_v4, val_main_call0_cst, val_main_call0_cst_0]
  simp only [dact_ref]
  rfl

/-- The reference's gradient in the first product: the gate's half, then the other half. -/
theorem du_ref (s : Fin 2048) (j : Fin 5632) :
    val_main_v45 (F := Ideal) x0 x1 x2 x3 (ix2 s j)
      = if h : j.val < 2816 then dloRef (dfR x0 x1 x2 x3 s) (wR x3) (uR x2 s) ⟨j.val, h⟩
        else dhiRef (dfR x0 x1 x2 x3 s) (wR x3) (uR x2 s) ⟨j.val - 2816, by omega⟩ := by
  pointwise [val_main_v45, val_main_v44]
  simp only [dlo_ref, dhi_ref]

end Reference

section Pre

open Cert.Pre_finite5

variable (x0 : FVec Ideal S2048x1024 .f32) (x1 : FVec Ideal S1x1024 .f32) (x2 : FVec Ideal S2048x5632 .f32)
  (x3 : FVec Ideal S2816x1024 .bf16)

/-- The upstream gradient: all numbers. -/
theorem num0 (h : (fn (F := Ideal) x0 x1 x2 x3).1 = fun _ => 1#1) (i : S2048x1024.Idx) : IsNum (x0 i) := by
  have h1 := congrFun h i
  pointwise [fn] at h1
  exact isNum_f32 h1

/-- The gain: all numbers. -/
theorem num1 (h : (fn (F := Ideal) x0 x1 x2 x3).2.1 = fun _ => 1#1) (i : S1x1024.Idx) : IsNum (x1 i) := by
  have h1 := congrFun h i
  pointwise [fn] at h1
  exact isNum_f32 h1

/-- The first product's rows: all numbers. -/
theorem num2 (h : (fn (F := Ideal) x0 x1 x2 x3).2.2.1 = fun _ => 1#1) (i : S2048x5632.Idx) : IsNum (x2 i) := by
  have h1 := congrFun h i
  pointwise [fn] at h1
  exact isNum_f32 h1

/-- The second product's weights: all numbers. -/
theorem num3 (h : (fn (F := Ideal) x0 x1 x2 x3).2.2.2 = fun _ => 1#1) (i : S2816x1024.Idx) : IsNum (x3 i) := by
  have h1 := congrFun h i
  pointwise [fn] at h1
  exact isNum_bf16 h1

end Pre

/-- The reference runs to its end and leaves its arguments as they were. -/
theorem frame_ri : Cert.quiescent_Reference5Ideal := fun m ρ _ =>
  (θ_run Cert.Reference5Ideal.defs _ _).mono (fun r h => ⟨fun c => (h c).2.2.2.2,
    Idealize.ShloMosaic.sem_eq_zero_of_no_sems (by decide) r.2⟩) (Cert.Reference5Ideal.Value.run (F := Ideal) m ρ)

section Equal

open Cert.Kernel5Ideal

variable (m : (ℓ : Loc nD τ sig) → Buf (Elt Ideal) ℓ) (c : Dev nD)

/-- The first product's rows are numbers. -/
theorem num_u (hpre : Cert.Pre_Kernel5Ideal_finite5 m) (s : Fin 2048) (j : Fin 5632) : IsNum (uK m c s j) :=
  num2 _ _ _ _ (hpre c).2.2.1 (ix2 s j)

/-- The second product's weights are numbers. -/
theorem num_w (hpre : Cert.Pre_Kernel5Ideal_finite5 m) (k : Fin 2816) (d : Fin 1024) : IsNum (wK m c k d) :=
  num3 _ _ _ _ (hpre c).2.2.2 (ix2 k d)

/-- The second product's rows are numbers. -/
theorem num_f (hpre : Cert.Pre_Kernel5Ideal_finite5 m) (s : Fin 2048) (d : Fin 1024) : IsNum (fK m c s d) := by
  rw [fK_eq]
  exact isNum_down _ _ (num_u m c hpre s) (num_w m c hpre) d

/-- The gradient in the second product's rows is made of numbers. -/
theorem num_df (hpre : Cert.Pre_Kernel5Ideal_finite5 m) (s : Fin 2048) (d : Fin 1024) : IsNum (dfK m c s d) :=
  isNum_dy _ _ _ (fun e => num0 _ _ _ _ (hpre c).1 (ix2 s e)) (num_f m c hpre s)
    (fun e => num1 _ _ _ _ (hpre c).2.1 (ix2 0 e)) d

/-- The two programs' gradients in the second product's rows agree. -/
theorem dfR_eq (hpre : Cert.Pre_Kernel5Ideal_finite5 m) (s : Fin 2048) :
    dfR (m ((c.tc : Thread nD τ).loc main_arg0)) (m ((c.tc : Thread nD τ).loc main_arg1))
        (m ((c.tc : Thread nD τ).loc main_arg2)) (m ((c.tc : Thread nD τ).loc main_arg3)) s
      = dfK m c s := by
  have hf : fR (m ((c.tc : Thread nD τ).loc main_arg2)) (m ((c.tc : Thread nD τ).loc main_arg3)) s = fK m c s :=
    (fK_eq m c s).symm
  unfold dfR
  rw [hf]
  exact dyRef_eq _ _ _ (fun e => num0 _ _ _ _ (hpre c).1 (ix2 s e)) (num_f m c hpre s)
    (fun e => num1 _ _ _ _ (hpre c).2.1 (ix2 0 e))

/-- On finite arguments the reference's gradient in the first product is the kernel's. -/
theorem du_eq (hpre : Cert.Pre_Kernel5Ideal_finite5 m) :
    Cert.Reference5Ideal.Read.val_main_v45 (F := Ideal) (m ((c.tc : Thread nD τ).loc main_arg0))
        (m ((c.tc : Thread nD τ).loc main_arg1)) (m ((c.tc : Thread nD τ).loc main_arg2))
        (m ((c.tc : Thread nD τ).loc main_arg3))
      = duArr m c := by
  funext i
  obtain ⟨s, j, rfl⟩ : ∃ (s : Fin 2048) (j : Fin 5632), i = ix2 s j := ⟨i 0, i 1, by idx_vars i; blk_ext⟩
  refine (du_ref _ _ _ _ s j).trans ?_
  rw [dfR_eq m c hpre s]
  by_cases h : j.val < 2816
  · rw [dif_pos h]
    refine Eq.trans ?_ (dif_pos (c := (ix2 s j 1).val < 2816) h).symm
    exact dloRef_eq (dfK m c s) (wK m c) (uK m c s) (num_df m c hpre s) (num_w m c hpre) (num_u m c hpre s) _
  · rw [dif_neg h]
    refine Eq.trans ?_ (dif_neg (c := (ix2 s j 1).val < 2816) h).symm
    exact dhiRef_eq (dfK m c s) (wK m c) (uK m c s) _

/-- The reference's gated rows are the kernel's. -/
theorem act_eq :
    Cert.Reference5Ideal.Read.val_main_v46 (F := Ideal) (m ((c.tc : Thread nD τ).loc main_arg2)) = actArr m c := by
  funext i
  obtain ⟨s, k, rfl⟩ : ∃ (s : Fin 2048) (k : Fin 2816), i = ix2 s k := ⟨i 0, i 1, by idx_vars i; blk_ext⟩
  exact act_ref _ s k

/-- On finite arguments the reference's gradient in the second product's rows is the kernel's. -/
theorem df_eq (hpre : Cert.Pre_Kernel5Ideal_finite5 m) :
    Cert.Reference5Ideal.Read.val_main_v47 (F := Ideal) (m ((c.tc : Thread nD τ).loc main_arg0))
        (m ((c.tc : Thread nD τ).loc main_arg1)) (m ((c.tc : Thread nD τ).loc main_arg2))
        (m ((c.tc : Thread nD τ).loc main_arg3))
      = dfArr m c := by
  funext i
  obtain ⟨s, d, rfl⟩ : ∃ (s : Fin 2048) (d : Fin 1024), i = ix2 s d := ⟨i 0, i 1, by idx_vars i; blk_ext⟩
  exact (df_ref _ _ _ _ s d).trans (congrFun (dfR_eq m c hpre s) d)

/-- The reference's gradient of the gain is the kernel's. -/
theorem gain_eq :
    Cert.Reference5Ideal.Read.val_main_v23 (F := Ideal) (m ((c.tc : Thread nD τ).loc main_arg0))
        (m ((c.tc : Thread nD τ).loc main_arg2)) (m ((c.tc : Thread nD τ).loc main_arg3))
      = gainArr m c := by
  funext i
  obtain ⟨d, rfl⟩ : ∃ d : Fin 1024, i = ix2 0 d := ⟨i 1, by idx_vars i; blk_ext⟩
  refine (gain_ref _ _ _ d).trans ?_
  unfold gainArr
  refine Finset.sum_congr rfl fun s _ => ?_
  rw [fK_eq]
  rfl

end Equal

/-- On finite arguments the kernel's four results are the reference's. -/
theorem algebraic : Cert.algebraic_Kernel5Ideal_Reference5Ideal_pre_finite5 := by
  intro m g m' g' hpre hagree
  refine ⟨fun c => duArr m c, fun c => actArr m c, fun c => dfArr m c, fun c => gainArr m c,
    (θ_run _ _ _).mono (fun r h c => ⟨(h c).1.trans (arr5 m c), (h c).2.1.trans (arr6 m c), (h c).2.2.1.trans (arr7 m c),
      (h c).2.2.2.1.trans (arr8 m c), (h c).2.2.2.2⟩) (Cert.Kernel5Ideal.Value.run_blocks m g),
    (θ_run _ _ _).mono (fun r h c => ⟨(h c).1.trans ?_, (h c).2.1.trans ?_, (h c).2.2.1.trans ?_,
      (h c).2.2.2.1.trans ?_, (h c).2.2.2.2⟩) (Cert.Reference5Ideal.Value.run m' g')⟩
  · obtain ⟨h0, h1, h2, h3⟩ := hagree c
    refine (Cert.Reference5Ideal.Read.val_main_v45_eq m' c).trans ?_
    rw [h0, h1, h2, h3]
    exact du_eq m c hpre
  · obtain ⟨_, _, h2, _⟩ := hagree c
    refine (Cert.Reference5Ideal.Read.val_main_v46_eq _).trans ?_
    rw [h2]
    exact act_eq m c
  · obtain ⟨h0, h1, h2, h3⟩ := hagree c
    refine (Cert.Reference5Ideal.Read.val_main_v47_eq m' c).trans ?_
    rw [h0, h1, h2, h3]
    exact df_eq m c hpre
  · obtain ⟨h0, _, h2, h3⟩ := hagree c
    refine (Cert.Reference5Ideal.Read.val_main_v23_eq _ _ _).trans ?_
    rw [h0, h2, h3]
    exact gain_eq m c

end Cert.FfnBack

end
-- ==== Proof.GateColGrad.lean ====
/- The gradient in the gates' columns of the input weight: the product call's array is the reference's. -/
module

public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.GateColGrad

open Cert.Kernel6Ideal Cert.Kernel6Ideal.Gen Cert.Kernel6Ideal.Value Idealize.ShloMosaic Idealize.ShloMosaic.TcCoe
open Idealize.SL.Sem Cert.Reference6Ideal.Read

/-- The stored block: the tokens' products, added up. -/
theorem pay_at (a : FVec Ideal S2048x1024 .bf16) (b : FVec Ideal S2048x1024 .bf16) (r : Fin 1024) (q : Fin 1024) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, 0] ∧ win0_1.index t = ![0, t.val] ∧ win0_2.index t = ![0, t.val] :=
  (by decide +kernel : ∀ t : Fin grid0.N, _)

/-- The product's rows, by token. -/
def rowK (s : Fin 2048) (k : Fin 1024) : EReal := m ((c : Thread nD τ).loc main_arg0) (ix2 s k)

/-- The gradient in the product's result, by token. -/
def ctK (s : Fin 2048) (k : Fin 4096) : EReal := m ((c : Thread nD τ).loc main_arg1) (ix2 s k)

/-- The gradient as an array, over the argument arrays. -/
def grad (i : S1024x4096.Idx) : EReal := ∑ s : Fin 2048, rowK m c s (i 0) * ctK m c s (i 1)

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S1024x4096.Idx, (i 0).val = y0.val → (i 1).val = t.val * 1024 + y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · unfold ctK
      blk_ext [iblk, V, idx t, h1]
  have k := key (((View.whole main_v0).slice (win0_2.rect t)).emb (ix2 y0 y1)) (by blk_simp [idx t]) (by blk_simp [idx t])
  frame_out
  exact k.symm

/-- The reference's gradient, over the same arrays. -/
theorem ref (a : (⟨Cert.Reference6Ideal.S2048x1024, .bf16⟩ : BufTy).Contents (Elt Ideal))
    (b : (⟨Cert.Reference6Ideal.S2048x4096, .bf16⟩ : BufTy).Contents (Elt Ideal)) (i : Fin 1024) (j : Fin 4096) :
    val_main_v4 (F := Ideal) a b (ix2 i j) = ∑ s : Fin 2048, (a (ix2 s i) : EReal) * b (ix2 s j) := by
  pointwise [val_main_v4, val_main_v3, val_main_v2, val_main_v1, val_main_v0]
  exact Finset.sum_congr rfl fun s _ => mul_comm _ _

/-- The reference runs to its end and leaves its arguments as they were. -/
theorem frame_ri : Cert.quiescent_Reference6Ideal := fun m ρ _ =>
  (θ_run Cert.Reference6Ideal.defs _ _).mono (fun r h => ⟨fun c => (h c).2,
    Idealize.ShloMosaic.sem_eq_zero_of_no_sems (by decide) r.2⟩) (Cert.Reference6Ideal.Value.run (F := Ideal) m ρ)

/-- The kernel's gradient is the reference's. -/
theorem algebraic : Cert.algebraic_Kernel6Ideal_Reference6Ideal := by
  pair_intro
  · run_from Cert.Kernel6Ideal.Value.run_blocks m g
  · run_from Cert.Reference6Ideal.Value.run m' g'
    refine (val_main_v4_eq _ _).trans (Eq.trans ?_ (arr m c).symm)
    funext i
    obtain ⟨r, q, rfl⟩ : ∃ (r : Fin 1024) (q : Fin 4096), i = ix2 r q := ⟨i 0, i 1, by idx_vars i; blk_ext⟩
    exact ref _ _ r q

end Cert.GateColGrad

end
-- ==== Proof.MixColGrad.lean ====
/- The gradient in the mixers' columns of the input weight: the product call's array is the reference's. -/
module

public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.MixColGrad

open Cert.Kernel7Ideal Cert.Kernel7Ideal.Gen Cert.Kernel7Ideal.Value Idealize.ShloMosaic Idealize.ShloMosaic.TcCoe
open Idealize.SL.Sem Cert.Reference7Ideal.Read

/-- The stored block: the tokens' products, added up. -/
theorem pay_at (a : FVec Ideal S2048x1024 .bf16) (b : FVec Ideal S2048x1408 .bf16) (r : Fin 1024) (q : Fin 1408) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, 0] ∧ win0_1.index t = ![0, t.val] ∧ win0_2.index t = ![0, t.val] :=
  (by decide +kernel : ∀ t : Fin grid0.N, _)

/-- The product's rows, by token. -/
def rowK (s : Fin 2048) (k : Fin 1024) : EReal := m ((c : Thread nD τ).loc main_arg0) (ix2 s k)

/-- The gradient in the product's result, by token. -/
def ctK (s : Fin 2048) (k : Fin 2816) : EReal := m ((c : Thread nD τ).loc main_arg1) (ix2 s k)

/-- The gradient as an array, over the argument arrays. -/
def grad (i : S1024x2816.Idx) : EReal := ∑ s : Fin 2048, rowK m c s (i 0) * ctK m c s (i 1)

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S1024x2816.Idx, (i 0).val = y0.val → (i 1).val = t.val * 1408 + y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · unfold ctK
      blk_ext [iblk, V, idx t, h1]
  have k := key (((View.whole main_v0).slice (win0_2.rect t)).emb (ix2 y0 y1)) (by blk_simp [idx t]) (by blk_simp [idx t])
  frame_out
  exact k.symm

/-- The reference's gradient, over the same arrays. -/
theorem ref (a : (⟨Cert.Reference7Ideal.S2048x1024, .bf16⟩ : BufTy).Contents (Elt Ideal))
    (b : (⟨Cert.Reference7Ideal.S2048x2816, .bf16⟩ : BufTy).Contents (Elt Ideal)) (i : Fin 1024) (j : Fin 2816) :
    val_main_v4 (F := Ideal) a b (ix2 i j) = ∑ s : Fin 2048, (a (ix2 s i) : EReal) * b (ix2 s j) := by
  pointwise [val_main_v4, val_main_v3, val_main_v2, val_main_v1, val_main_v0]
  exact Finset.sum_congr rfl fun s _ => mul_comm _ _

/-- The reference runs to its end and leaves its arguments as they were. -/
theorem frame_ri : Cert.quiescent_Reference7Ideal := fun m ρ _ =>
  (θ_run Cert.Reference7Ideal.defs _ _).mono (fun r h => ⟨fun c => (h c).2,
    Idealize.ShloMosaic.sem_eq_zero_of_no_sems (by decide) r.2⟩) (Cert.Reference7Ideal.Value.run (F := Ideal) m ρ)

/-- The kernel's gradient is the reference's. -/
theorem algebraic : Cert.algebraic_Kernel7Ideal_Reference7Ideal := by
  pair_intro
  · run_from Cert.Kernel7Ideal.Value.run_blocks m g
  · run_from Cert.Reference7Ideal.Value.run m' g'
    refine (val_main_v4_eq _ _).trans (Eq.trans ?_ (arr m c).symm)
    funext i
    obtain ⟨r, q, rfl⟩ : ∃ (r : Fin 1024) (q : Fin 2816), i = ix2 r q := ⟨i 0, i 1, by idx_vars i; blk_ext⟩
    exact ref _ _ r q

end Cert.MixColGrad

end
-- ==== Proof.DownGrad.lean ====
/- The gradient in the feed-forward's second weight: the product call's array is the reference's. -/
module

public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.DownGrad

open Cert.Kernel8Ideal Cert.Kernel8Ideal.Gen Cert.Kernel8Ideal.Value Idealize.ShloMosaic Idealize.ShloMosaic.TcCoe
open Idealize.SL.Sem Cert.Reference8Ideal.Read

/-- The stored block: the tokens' products, added up. -/
theorem pay_at (a : FVec Ideal S2048x1408 .bf16) (b : FVec Ideal S2048x1024 .bf16) (r : Fin 1408) (q : Fin 1024) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, t.val] ∧ win0_1.index t = ![0, 0] ∧ win0_2.index t = ![t.val, 0] :=
  (by decide +kernel : ∀ t : Fin grid0.N, _)

/-- The product's rows, by token. -/
def rowK (s : Fin 2048) (k : Fin 2816) : EReal := m ((c : Thread nD τ).loc main_arg0) (ix2 s k)

/-- The gradient in the product's result, by token. -/
def ctK (s : Fin 2048) (k : Fin 1024) : EReal := m ((c : Thread nD τ).loc main_arg1) (ix2 s k)

/-- The gradient as an array, over the argument arrays. -/
def grad (i : S2816x1024.Idx) : EReal := ∑ s : Fin 2048, rowK m c s (i 0) * ctK m c s (i 1)

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S2816x1024.Idx, (i 0).val = t.val * 1408 + y0.val → (i 1).val = y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · unfold ctK
      blk_ext [iblk, V, idx t, h1]
  have k := key (((View.whole main_v0).slice (win0_2.rect t)).emb (ix2 y0 y1)) (by blk_simp [idx t]) (by blk_simp [idx t])
  frame_out
  exact k.symm

/-- The reference's gradient, over the same arrays. -/
theorem ref (a : (⟨Cert.Reference8Ideal.S2048x2816, .bf16⟩ : BufTy).Contents (Elt Ideal))
    (b : (⟨Cert.Reference8Ideal.S2048x1024, .bf16⟩ : BufTy).Contents (Elt Ideal)) (i : Fin 2816) (j : Fin 1024) :
    val_main_v4 (F := Ideal) a b (ix2 i j) = ∑ s : Fin 2048, (a (ix2 s i) : EReal) * b (ix2 s j) := by
  pointwise [val_main_v4, val_main_v3, val_main_v2, val_main_v1, val_main_v0]
  exact Finset.sum_congr rfl fun s _ => mul_comm _ _

/-- The reference runs to its end and leaves its arguments as they were. -/
theorem frame_ri : Cert.quiescent_Reference8Ideal := fun m ρ _ =>
  (θ_run Cert.Reference8Ideal.defs _ _).mono (fun r h => ⟨fun c => (h c).2,
    Idealize.ShloMosaic.sem_eq_zero_of_no_sems (by decide) r.2⟩) (Cert.Reference8Ideal.Value.run (F := Ideal) m ρ)

/-- The kernel's gradient is the reference's. -/
theorem algebraic : Cert.algebraic_Kernel8Ideal_Reference8Ideal := by
  pair_intro
  · run_from Cert.Kernel8Ideal.Value.run_blocks m g
  · run_from Cert.Reference8Ideal.Value.run m' g'
    refine (val_main_v4_eq _ _).trans (Eq.trans ?_ (arr m c).symm)
    funext i
    obtain ⟨r, q, rfl⟩ : ∃ (r : Fin 2816) (q : Fin 1024), i = ix2 r q := ⟨i 0, i 1, by idx_vars i; blk_ext⟩
    exact ref _ _ r q

end Cert.DownGrad

end
-- ==== Proof.OutGrad.lean ====
/- The gradient in the mixers' output weight: the product call's array is the reference's. -/
module

public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.OutGrad

open Cert.Kernel9Ideal Cert.Kernel9Ideal.Gen Cert.Kernel9Ideal.Value Idealize.ShloMosaic Idealize.ShloMosaic.TcCoe
open Idealize.SL.Sem Cert.Reference9Ideal.Read

/-- The stored block: the tokens' products, added up. -/
theorem pay_at (a : FVec Ideal S2048x1024 .bf16) (b : FVec Ideal S2048x1024 .bf16) (r : Fin 1024) (q : Fin 1024) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, 0] ∧ win0_1.index t = ![0, 0] ∧ win0_2.index t = ![0, 0] :=
  (by decide +kernel : ∀ t : Fin grid0.N, _)

/-- The product's rows, by token. -/
def rowK (s : Fin 2048) (k : Fin 1024) : EReal := m ((c : Thread nD τ).loc main_arg0) (ix2 s k)

/-- The gradient in the product's result, by token. -/
def ctK (s : Fin 2048) (k : Fin 1024) : EReal := m ((c : Thread nD τ).loc main_arg1) (ix2 s k)

/-- The gradient as an array, over the argument arrays. -/
def grad (i : S1024x1024.Idx) : EReal := ∑ s : Fin 2048, rowK m c s (i 0) * ctK m c s (i 1)

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S1024x1024.Idx, (i 0).val = y0.val → (i 1).val = y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · unfold ctK
      blk_ext [iblk, V, idx t, h1]
  have k := key (((View.whole main_v0).slice (win0_2.rect t)).emb (ix2 y0 y1)) (by blk_simp [idx t]) (by blk_simp [idx t])
  frame_out
  exact k.symm

/-- The reference's gradient, over the same arrays. -/
theorem ref (a : (⟨Cert.Reference9Ideal.S2048x1024, .bf16⟩ : BufTy).Contents (Elt Ideal))
    (b : (⟨Cert.Reference9Ideal.S2048x1024, .bf16⟩ : BufTy).Contents (Elt Ideal)) (i : Fin 1024) (j : Fin 1024) :
    val_main_v4 (F := Ideal) a b (ix2 i j) = ∑ s : Fin 2048, (a (ix2 s i) : EReal) * b (ix2 s j) := by
  pointwise [val_main_v4, val_main_v3, val_main_v2, val_main_v1, val_main_v0]
  exact Finset.sum_congr rfl fun s _ => mul_comm _ _

/-- The reference runs to its end and leaves its arguments as they were. -/
theorem frame_ri : Cert.quiescent_Reference9Ideal := fun m ρ _ =>
  (θ_run Cert.Reference9Ideal.defs _ _).mono (fun r h => ⟨fun c => (h c).2,
    Idealize.ShloMosaic.sem_eq_zero_of_no_sems (by decide) r.2⟩) (Cert.Reference9Ideal.Value.run (F := Ideal) m ρ)

/-- The kernel's gradient is the reference's. -/
theorem algebraic : Cert.algebraic_Kernel9Ideal_Reference9Ideal := by
  pair_intro
  · run_from Cert.Kernel9Ideal.Value.run_blocks m g
  · run_from Cert.Reference9Ideal.Value.run m' g'
    refine (val_main_v4_eq _ _).trans (Eq.trans ?_ (arr m c).symm)
    funext i
    obtain ⟨r, q, rfl⟩ : ∃ (r : Fin 1024) (q : Fin 1024), i = ix2 r q := ⟨i 0, i 1, by idx_vars i; blk_ext⟩
    exact ref _ _ r q

end Cert.OutGrad

end
-- ==== Proof.NormUpRun.lean ====
/- The run of `Kernel10Ideal`, the norm and the product with one column tile a point (four tiles of 1408 columns to each of two row blocks).

   Each row block of x is normalised once, at the first column tile, into the second output's buffer; the later
   tiles of the row read it there, and the pipeline writes it back after the row's last tile. So what the buffer holds
   after any point of the row is the same block, the norm of the row block of x, and the run is stated with that block at
   every point. -/
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.NormUp

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: as launched, there being no host operation before it. -/
abbrev V (c : Dev nD) (b : Ref sig .tc) : Buf (Elt F) ((c : Thread nD τ).loc b) := m ((c : Thread nD τ).loc b)

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The arguments are then as launched: x, -/
theorem V_main_arg0 (c : Dev nD) : V m c main_arg0 = m ((c : Thread nD τ).loc main_arg0) := rfl
/-- the gains, -/
theorem V_main_arg1 (c : Dev nD) : V m c main_arg1 = m ((c : Thread nD τ).loc main_arg1) := rfl
/-- and the weights. -/
theorem V_main_arg2 (c : Dev nD) : V m c main_arg2 = m ((c : Thread nD τ).loc main_arg2) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves -/

/-- The whole of a 1024 by 1024 buffer. -/
abbrev r0_0 : Rect S1024x1024 := Rect.unit (s := S1024x1024) ![0, 0] S1024x1024.size inb_S1024x1024_S1024x1024_0_0
/-- The whole of the buffer of gains. -/
abbrev r0_1 : Rect S1x1024 := Rect.unit (s := S1x1024) ![0, 0] S1x1024.size inb_S1x1024_S1x1024_0_0
/-- The whole of a 1024 by 1408 buffer. -/
abbrev r0_2 : Rect S1024x1408 := Rect.unit (s := S1024x1408) ![0, 0] S1024x1408.size inb_S1024x1408_S1024x1408_0_0

/-- The normalised row block, from the blocks of x and of the gains. -/
def normed (x0 : Vec F S1024x1024 .f32) (x1 : Vec F S1x1024 .f32) : Vec F S1024x1024 .bf16 :=
  View.canon [⟨r0_0, k0_pay1 (View.ld x0 r0_0) (View.ld x1 r0_1)⟩]

/-- The product tile, from the normalised row block and the tile of weights. -/
def prodTile (h : Vec F S1024x1024 .bf16) (x2 : Vec F S1024x1408 .bf16) : Vec F S1024x1408 .f32 :=
  View.canon [⟨r0_2, k0_pay2 (View.ld h r0_0) (View.ld x2 r0_2)⟩]

/-- One store of the whole buffer covers it. -/
theorem cover_h (p : Vec F S1024x1024 .bf16) (y : S1024x1024.Idx) :
    ∃ pc ∈ ([⟨r0_0, p⟩] : List (View.Piece (Elt F) S1024x1024 .bf16)), y ∈ pc.1.set :=
  View.cover_of_tiled [⟨r0_0, p⟩] S1024x1024.size (by rfl) y
/-- One store of the whole buffer covers it. -/
theorem cover_z (p : Vec F S1024x1408 .f32) (y : S1024x1408.Idx) :
    ∃ pc ∈ ([⟨r0_2, p⟩] : List (View.Piece (Elt F) S1024x1408 .f32)), y ∈ pc.1.set :=
  View.cover_of_tiled [⟨r0_2, p⟩] S1024x1408.size (by rfl) y

/-! ## The body's triples -/

set_option maxHeartbeats 1000000 in
/-- At a row's first column tile the body leaves the normalised block and the product of it. -/
theorem body_first (c : Dev nD) (E : Set ℕ) (i : grid0.Coords) (hi : k0_cond1 i = 1#1) (arg2 : Memref sig .tc .vmem S1024x1024 .f32) (harg2 : arg2.IsWhole) (arg3 : Memref sig .tc .vmem S1x1024 .f32) (harg3 : arg3.IsWhole)
    (arg4 : Memref sig .tc .vmem S1024x1408 .bf16) (harg4 : arg4.IsWhole) (arg5 : Memref sig .tc .vmem S1024x1408 .f32) (harg5 : arg5.IsWhole) (arg6 : Memref sig .tc .vmem S1024x1024 .bf16) (harg6 : arg6.IsWhole)
    (x0 : Vec F S1024x1024 .f32) (x1 : Vec F S1x1024 .f32) (x2 : Vec F S1024x1408 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (prodTile (normed x0 x1) x2) ∗ owns (c : Thread nD τ) arg6 fullShare (normed x0 x1)) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_z _)).trans ?_
    have e : body_first.sl.v3 c arg2 arg3 arg6 f0 f1
        = View.ld (normed (View.read (Elt F) arg2.view f0) (View.read (Elt F) arg3.view f1)) r0_0 :=
      View.readCov_eq_canon_ld _ _ _ (cover_h _)
    rw [e]
    rfl
  iexists _; isplitr
  swap; · iexact H4
  ipureintro
  exact View.read_writes_eq_canon _ _ _ (cover_h _)

set_option maxHeartbeats 1000000 in
/-- At a row's later column tiles the body reads the normalised block it finds and leaves the product of it. -/
theorem body_later (c : Dev nD) (E : Set ℕ) (i : grid0.Coords) (hi : ¬ k0_cond1 i = 1#1) (arg2 : Memref sig .tc .vmem S1024x1024 .f32) (harg2 : arg2.IsWhole) (arg3 : Memref sig .tc .vmem S1x1024 .f32) (harg3 : arg3.IsWhole)
    (arg4 : Memref sig .tc .vmem S1024x1408 .bf16) (harg4 : arg4.IsWhole) (arg5 : Memref sig .tc .vmem S1024x1408 .f32) (harg5 : arg5.IsWhole) (arg6 : Memref sig .tc .vmem S1024x1024 .bf16) (harg6 : arg6.IsWhole)
    (x2 : Vec F S1024x1408 .bf16) (h : Vec F S1024x1024 .bf16) (K : PUnit → sProp (MT nD τ sig Unit (Elt F) ℕ (UR sig nD τ) ℕ)) :
    iprop(owns (c : Thread nD τ) arg4 fullShare x2
        ∗ (∃ d, owns (c : Thread nD τ) arg5 fullShare d) ∗ owns (c : Thread nD τ) arg6 fullShare h
        ∗ (iprop(owns (c : Thread nD τ) arg4 fullShare x2
            ∗ owns (c : Thread nD τ) arg5 fullShare (prodTile h x2) ∗ owns (c : Thread nD τ) arg6 fullShare h) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton]; unfold cc0_norm_matmul_skel
  unfold owns
  iintro ⟨⟨%f2, %hf2, H2⟩, ⟨%d3, %f3, -, H3⟩, ⟨%f4, %hf4, H4⟩, Hk⟩
  subst hf2 hf4
  sl_exec (disch := sl_exact hi)
  sl_step
  iapply Hk
  isplitl [H2]
  · iexists f2; isplitr; · ipureintro; rfl
    iexact H2
  isplitl [H3]
  · iexists _; isplitr
    swap; · iexact H3
    ipureintro
    exact View.read_writes_eq_canon _ _ _ (cover_z _)
  iexists f4; isplitr; · ipureintro; rfl
  iexact H4

/-! ## The pipeline's proof data -/

/-- The arrays as the region finds them; after the body at a point the inputs' buffers at their blocks, the second
    output's at the normalised row block, the first's at the product of it with the tile of weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prodTile (normed (iblk m c 0 t) (iblk m c 1 t)) (iblk m c 2 t)
    | ⟨4, _⟩ => normed (iblk m c 0 t) (iblk m c 1 t)
  Φ _ := Pipeline.ΦA spec0 c
  q _ := fullShare
  owed _ := 0

/-- The arrays are the region's. -/
theorem A_eq (c : Dev nD) (w : Fin cfg0.W) : (dats m 0 c).A w = V m c (Pipeline.arrRef spec0 w) := by
  dsimp only [dats]

/-- What each window's buffer holds after the body at a point: the block of x, -/
theorem after0_0 (c : Dev nD) (t : Fin cfg0.N) : (dats m 0 c).after 0 t = iblk m c 0 t := by dsimp only [dats]
/-- the block of gains, -/
theorem after0_1 (c : Dev nD) (t : Fin cfg0.N) : (dats m 0 c).after 1 t = iblk m c 1 t := by dsimp only [dats]
/-- the tile of weights, -/
theorem after0_2 (c : Dev nD) (t : Fin cfg0.N) : (dats m 0 c).after 2 t = iblk m c 2 t := by dsimp only [dats]
/-- the product tile, -/
theorem after0_3 (c : Dev nD) (t : Fin cfg0.N) : (dats m 0 c).after 3 t = prodTile (normed (iblk m c 0 t) (iblk m c 1 t)) (iblk m c 2 t) := by dsimp only [dats]
/-- and the normalised row block. -/
theorem after0_4 (c : Dev nD) (t : Fin cfg0.N) : (dats m 0 c).after 4 t = normed (iblk m c 0 t) (iblk m c 1 t) := by dsimp only [dats]

/-- An input's buffer holds its block when the body runs, fetched at the point or before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The gains' buffer likewise. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- The weights' buffer likewise. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The second output through a row's points -/

/-- The body's condition holds at a row's first column tile. -/
theorem cond_iff : ∀ t : Fin cfg0.N, k0_cond1 (grid0.coords t) = 1#1 ↔ t.val % 4 = 0 := by decide +kernel
/-- Elsewhere the second output is idle, -/
theorem idle_of : ∀ t : Fin cfg0.N, ¬ t.val % 4 = 0 → cfg0.idle 4 (grid0.coords t) = true := by decide +kernel
/-- and at the first tile it is not. -/
theorem live_of : ∀ t : Fin cfg0.N, t.val % 4 = 0 → cfg0.idle 4 (grid0.coords t) = false := by decide +kernel
/-- Past the first tile the row block of x is the one of the point before, -/
theorem x_index : ∀ t : Fin cfg0.N, ¬ t.val % 4 = 0 →
    (cfg0.win 0).fetch t = false := fun t h => by
  cases hf : (cfg0.win 0).fetch t
  · rfl
  · exact absurd ((fetch0_0 t).mp hf) h
/-- and the second output's buffer is not fresh. -/
theorem not_fresh : ∀ t : Fin cfg0.N, ¬ t.val % 4 = 0 → cfg0.fresh 4 t.val = false := by decide +kernel

/-- So the block of x read there is the block of the point before. -/
theorem iblk_x (c : Dev nD) (t : Fin cfg0.N) (h : ¬ t.val % 4 = 0) :
    iblk m c 0 t = iblk m c 0 ⟨t.val - 1, by omega⟩ := by
  have ht : t.val ≠ 0 := fun h0 => h (by rw [h0])
  have e := before0_0 m c t (iblk m c 0 t)
  rw [Dat.before_of_pos _ 0 t ht (x_index t h), if_neg (by rw [show (cfg0.win 0).flush _ = false from rfl]; exact Bool.false_ne_true)] at e
  rw [← e]
  exact after0_0 m c _

/-- The block of gains is the same at every point. -/
theorem iblk_g (c : Dev nD) (t u : Fin cfg0.N) : iblk m c 1 t = iblk m c 1 u := rfl

/-- Through a row's points the second output's contents stay. -/
theorem carry (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have h : ¬ t.val % 4 = 0 := fun h => by rw [live_of t h] at hi; exact absurd hi Bool.false_ne_true
  rw [after0_4, after0_4, iblk_x m c t h, iblk_g m c t ⟨t.val - 1, by omega⟩]

/-- Past a row's first tile the body finds the normalised row block in the second output's buffer. -/
theorem before0_4 (c : Dev nD) (t : Fin cfg0.N) (h : ¬ t.val % 4 = 0) (d) :
    (dats m 0 c).before 4 t d = normed (iblk m c 0 t) (iblk m c 1 t) := by
  rw [Dat.before_out_traj _ 4 rfl (fun _ _ => rfl) (carry m c) t.val t rfl d,
    if_neg (by rw [not_fresh t h]; exact Bool.false_ne_true), after0_4, ← iblk_x m c t h, iblk_g m c _ t]

/-- What the obligation asks of the second output's buffer follows from its holding the normalised block. -/
theorem leaves_h (c : Dev nD) (t : Fin cfg0.N) :
    owns (c : Thread nD τ) (st0_4 t) fullShare (normed (iblk m c 0 t) (iblk m c 1 t)) ⊢ ((dats m 0 c).leavesExact 4 t : sProp (MT nD τ sig Unit (Elt F) ℕ (UR sig nD τ) ℕ)) := by
  by_cases h : t.val % 4 = 0
  · unfold Dat.leavesExact; rw [live_of t h, after0_4]
  · cases hf : (cfg0.win 4).flush t
    · rw [Dat.leavesExact_idle _ 4 t (idle_of t h) hf]
      iintro H
      iexists (normed (iblk m c 0 t) (iblk m c 1 t))
      rw [before0_4 m c t h]
      iexact H
    · unfold Dat.leavesExact; rw [idle_of t h, hf, after0_4]

/-! ## The body obligation -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The body at any point, by whether it is a row's first tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases h : t.val % 4 = 0
  · iintro ⟨HΦ, Ho, ⟨%d0, H0⟩, ⟨%d1, H1⟩, ⟨%d2, H2⟩, ⟨%d3, H3⟩, ⟨%d4, H4⟩⟩
    iapply (body_first c Set.univ (grid0.coords t) ((cond_iff t).mpr h) _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_h m c t)
    iexact H4
  · simp only [before0_4 m c t h]
    iintro ⟨HΦ, Ho, ⟨%d0, H0⟩, ⟨%d1, H1⟩, ⟨%d2, H2⟩, ⟨%d3, H3⟩, ⟨%d4, H4⟩⟩
    iapply (body_later c Set.univ (grid0.coords t) (fun hc => h ((cond_iff t).mp hc)) _ _ _ _ _ _ _ _ _ _ (iblk m c 2 t) (normed (iblk m c 0 t) (iblk m c 1 t)) _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_h m c t)
    iexact H4

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every fair execution ends, with every array at what the proof data says and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 0 |>.trans (((dats m 0 c).arrAt_in 0 rfl _).trans ((A_eq m c 0).trans (V_main_arg0 m c))),
      (h.1 c).1 1 |>.trans (((dats m 0 c).arrAt_in 1 rfl _).trans ((A_eq m c 1).trans (V_main_arg1 m c))),
      (h.1 c).1 2 |>.trans (((dats m 0 c).arrAt_in 2 rfl _).trans ((A_eq m c 2).trans (V_main_arg2 m c)))⟩, h.2⟩) (run_quiescent m ρ)

end Cert.NormUp

end
-- ==== Proof.NormUpClaim.lean ====
/- The norm before the feed-forward block and its first product: on any arguments the kernel's two results, the product and the normed rows, are the
   reference's. -/
module

public import proofs.«01_k».proof.Proof.NormUpRun
public import proofs.«01_k».proof.Proof.RowSpec
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.NormUp

open Cert.Kernel10Ideal Cert.Kernel10Ideal.Gen Idealize.ShloMosaic Idealize.ShloMosaic.TcCoe
open Idealize.SL.Sem Cert.Reference10Ideal.Read Cert.MergeSpec

/-- The two programs' tables of bodies are the same, -/
theorem defs₀_eq {F : FTy → Type} [FloatOps F] : Cert.Kernel10.defs₀ (F := F) = Cert.Kernel10Ideal.defs₀ (F := F) := by
  refine congrArg Defs.onTc (funext fun l => funext fun a => ?_)
  match l, a with
  | ⟨0, _⟩, (t, s) => rfl

/-- and so are their tables with the pipeline's. -/
theorem defs_eq {F : FTy → Type} [FloatOps F] : Cert.Kernel10.defs (F := F) = Cert.Kernel10Ideal.defs (F := F) :=
  congrArg (Pipeline.defs pcfgs) defs₀_eq

/-- The kernel runs to its end and leaves its arguments as they were and every counter at zero. -/
theorem frame_k : Cert.quiescent_Kernel10 := fun m ρ _ => by
  rw [defs_eq]
  exact frame_args (F := Bits) m ρ

/-- The same over the extended reals. -/
theorem frame_ki : Cert.quiescent_Kernel10Ideal := fun m ρ _ => frame_args (F := Ideal) m ρ

/-- A row, normed with gain `g`. -/
def normRow (x g : Row) : Row := fun d => x d * inv x * g d

/-- The normed block: each row of x, normed. -/
theorem normed_at (x : FVec Ideal S1024x1024 .f32) (g : FVec Ideal S1x1024 .f32) (r d : Fin 1024) :
    normed (F := Ideal) x g (ix2 r d) = normRow (fun e => x (ix2 r e)) (fun e => g (ix2 0 e)) d := by
  unfold normed
  frame_out
  unfold_payloads
  pointwise [normRow, Cert.MergeSpec.inv, width, eps]

/-- The product tile: each row against the tile's columns. -/
theorem prod_at (h : FVec Ideal S1024x1024 .bf16) (w : FVec Ideal S1024x1408 .bf16) (r : Fin 1024) (j : Fin 1408) :
    prodTile (F := Ideal) h w (ix2 r j) = ∑ k : Fin 1024, h (ix2 r k) * w (ix2 k j) := by
  unfold prodTile
  frame_out
  unfold_payloads
  pointwise

variable (m : (ℓ : Loc nD τ sig) → Buf (Elt Ideal) ℓ) (c : Dev nD)

/-- Every window's block index at a grid point. -/
theorem idx : ∀ t : Fin cfg0.N, win0_0.index t = ![t.val / 4, 0] ∧ win0_1.index t = ![0, 0] ∧ win0_2.index t = ![0, t.val % 4]
    ∧ win0_3.index t = ![t.val / 4, t.val % 4] ∧ win0_4.index t = ![t.val / 4, 0] :=
  (by decide +kernel : ∀ t : Fin grid0.N, _)

/-- The rows of x, by token. -/
def xK (s : Fin 2048) : Row := fun d => m ((c : Thread nD τ).loc main_arg0) (ix2 s d)

/-- The norm's gain. -/
def gK : Row := fun d => m ((c : Thread nD τ).loc main_arg1) (ix2 0 d)

/-- The weights, by channel. -/
def wK (k : Fin 1024) (j : Fin 5632) : EReal := m ((c : Thread nD τ).loc main_arg2) (ix2 k j)

/-- The token of row `r` of the block at grid point `t`. -/
def tok (t : Fin cfg0.N) (r : Fin 1024) : Fin 2048 :=
  ⟨t.val / 4 * 1024 + r.val, by have := t.isLt; have : cfg0.N = 8 := N_0; have := r.isLt; omega⟩

/-- The column of column `j` of the tile at grid point `t`. -/
def col (t : Fin cfg0.N) (j : Fin 1408) : Fin 5632 := ⟨t.val % 4 * 1408 + j.val, by have := j.isLt; omega⟩

/-- The block of x. -/
theorem blk_x (t : Fin cfg0.N) (r d : Fin 1024) : iblk m c 0 t (ix2 r d) = xK m c (tok t r) d := by
  unfold xK tok
  blk_ext [iblk, V, idx t]

/-- The block of gains. -/
theorem blk_g (t : Fin cfg0.N) (d : Fin 1024) : iblk m c 1 t (ix2 0 d) = gK m c d := by
  unfold gK
  blk_ext [iblk, V, idx t]

/-- The tile of weights. -/
theorem blk_w (t : Fin cfg0.N) (k : Fin 1024) (j : Fin 1408) : iblk m c 2 t (ix2 k j) = wK m c k (col t j) := by
  unfold wK col
  blk_ext [iblk, V, idx t]

/-- The normed rows, as an array. -/
def normArr (i : S2048x1024.Idx) : EReal := normRow (xK m c (i 0)) (gK m c) (i 1)

/-- The products, as an array. -/
def prodArr (i : S2048x5632.Idx) : EReal := ∑ k : Fin 1024, normRow (xK m c (i 0)) (gK m c) k * wK m c k (i 1)

/-- The normed block at a grid point, over the argument arrays. -/
theorem norm_blk (t : Fin cfg0.N) (r d : Fin 1024) :
    normed (F := Ideal) (iblk m c 0 t) (iblk m c 1 t) (ix2 r d) = normArr m c (ix2 (tok t r) d) := by
  rw [normed_at]
  simp only [blk_x, blk_g]
  rfl

/-- The product tile at a grid point, over the argument arrays. -/
theorem prod_blk (t : Fin cfg0.N) (r : Fin 1024) (j : Fin 1408) :
    prodTile (F := Ideal) (normed (iblk m c 0 t) (iblk m c 1 t)) (iblk m c 2 t) (ix2 r j) = prodArr m c (ix2 (tok t r) (col t j)) := by
  rw [prod_at]
  simp only [norm_blk, blk_w]
  rfl

/-- Window 3 leaves the products. -/
theorem arr3 : (dats m 0 c).arrAt 3 (cfgs 0).N = prodArr m c := by
  refine (dats m 0 c).arrAt_eq_of_covers 3 _ (by decide +kernel) fun t hf y => ?_
  blk_simp
  rw [after0_3]
  idx_vars y
  have key : prodArr m c (((View.whole main_v0_0).slice (win0_3.rect t)).emb (ix2 y0 y1)) = prodArr m c (ix2 (tok t y0) (col t y1)) := by
    refine congrArg (prodArr m c) ?_
    unfold tok col
    blk_ext [idx t]
  exact (prod_blk m c t y0 y1).trans key.symm

/-- Window 4 leaves the normed rows. -/
theorem arr4 : (dats m 0 c).arrAt 4 (cfgs 0).N = normArr m c := by
  refine (dats m 0 c).arrAt_eq_of_covers 4 _ (by decide +kernel) fun t hf y => ?_
  blk_simp
  rw [after0_4]
  idx_vars y
  have key : normArr m c (((View.whole main_v0_1).slice (win0_4.rect t)).emb (ix2 y0 y1)) = normArr m c (ix2 (tok t y0) y1) := by
    refine congrArg (normArr m c) ?_
    unfold tok
    blk_ext [idx t]
  exact (norm_blk m c t y0 y1).trans key.symm

/-- The run: the two results as the pipeline leaves them, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

section Reference

variable (x0 : FVec Ideal Cert.Reference10Ideal.S2048x1024 .f32) (x1 : FVec Ideal Cert.Reference10Ideal.S1x1024 .f32)
  (x2 : FVec Ideal Cert.Reference10Ideal.S1024x5632 .bf16)

/-- The reference's normed rows. -/
theorem norm_ref (s : Fin 2048) (d : Fin 1024) :
    val_main_v11 (F := Ideal) x0 x1 (ix2 s d) = normRow (fun e => x0 (ix2 s e)) (fun e => x1 (ix2 0 e)) d := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

/-- The reference's stored normed rows. -/
theorem stored_ref (s : Fin 2048) (d : Fin 1024) :
    val_main_v14 (F := Ideal) x0 x1 (ix2 s d) = normRow (fun e => x0 (ix2 s e)) (fun e => x1 (ix2 0 e)) d := by
  pointwise [val_main_v14]
  exact norm_ref x0 x1 s d

/-- The reference's products. -/
theorem prod_ref (s : Fin 2048) (j : Fin 5632) :
    val_main_v13 (F := Ideal) x0 x1 x2 (ix2 s j)
      = ∑ k : Fin 1024, normRow (fun e => x0 (ix2 s e)) (fun e => x1 (ix2 0 e)) k * x2 (ix2 k j) := by
  pointwise [val_main_v13, val_main_v12]
  simp only [norm_ref]

end Reference

/-- The reference runs to its end and leaves its arguments as they were. -/
theorem frame_ri : Cert.quiescent_Reference10Ideal := fun m ρ _ =>
  (θ_run Cert.Reference10Ideal.defs _ _).mono (fun r h => ⟨fun c => (h c).2.2,
    Idealize.ShloMosaic.sem_eq_zero_of_no_sems (by decide) r.2⟩) (Cert.Reference10Ideal.Value.run (F := Ideal) m ρ)

/-- The kernel's two results are the reference's. -/
theorem algebraic : Cert.algebraic_Kernel10Ideal_Reference10Ideal := by
  intro m g m' g' _ hagree
  refine ⟨fun c => prodArr m c, fun c => normArr m c,
    (θ_run _ _ _).mono (fun r h c => ⟨(h c).1.trans (arr3 m c), (h c).2.1.trans (arr4 m c), (h c).2.2⟩) (run m g),
    (θ_run _ _ _).mono (fun r h c => ⟨(h c).1.trans ?_, (h c).2.1.trans ?_, (h c).2.2⟩)
      (Cert.Reference10Ideal.Value.run m' g')⟩
  · obtain ⟨h0, h1, h2⟩ := hagree c
    refine (val_main_v13_eq _ _ _).trans ?_
    rw [h0, h1, h2]
    funext i
    obtain ⟨s, d, rfl⟩ : ∃ (s : Fin 2048) (d : Fin 5632), i = ix2 s d := ⟨i 0, i 1, by idx_vars i; blk_ext⟩
    exact prod_ref _ _ _ s d
  · obtain ⟨h0, h1, h2⟩ := hagree c
    refine (val_main_v14_eq _ _).trans ?_
    rw [h0, h1]
    funext i
    obtain ⟨s, d, rfl⟩ : ∃ (s : Fin 2048) (d : Fin 1024), i = ix2 s d := ⟨i 0, i 1, by idx_vars i; blk_ext⟩
    exact stored_ref _ _ s d

end Cert.NormUp

end
-- ==== Proof.NormMixRun.lean ====
/- The run of `Kernel11Ideal`, the norm and the product with one column tile a point (two tiles of 1408 columns to each of two row blocks).

   Each row block of x is normalised once, at the first column tile, into the second output's buffer; the later
   tiles of the row read it there, and the pipeline writes it back after the row's last tile. So what the buffer holds
   after any point of the row is the same block, the norm of the row block of x, and the run is stated with that block at
   every point. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.NormMix

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered, after the host's slice of the weights. -/
abbrev V (c : Dev nD) (b : Ref sig .tc) : Buf (Elt F) ((c : Thread nD τ).loc b) := StableHlo.after hostOps0 (fun b => m (c, b)) b

/-- The slice makes no buffer of its own. -/
theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The slice does not write x. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
/-- The slice does not write the gains. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
/-- The slice does not write the weights. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves -/

/-- The whole of a 1024 by 1024 buffer. -/
abbrev r0_0 : Rect S1024x1024 := Rect.unit (s := S1024x1024) ![0, 0] S1024x1024.size inb_S1024x1024_S1024x1024_0_0
/-- The whole of the buffer of gains. -/
abbrev r0_1 : Rect S1x1024 := Rect.unit (s := S1x1024) ![0, 0] S1x1024.size inb_S1x1024_S1x1024_0_0
/-- The whole of a 1024 by 1408 buffer. -/
abbrev r0_2 : Rect S1024x1408 := Rect.unit (s := S1024x1408) ![0, 0] S1024x1408.size inb_S1024x1408_S1024x1408_0_0

/-- The normalised row block, from the blocks of x and of the gains. -/
def normed (x0 : Vec F S1024x1024 .f32) (x1 : Vec F S1x1024 .f32) : Vec F S1024x1024 .bf16 :=
  View.canon [⟨r0_0, k0_pay1 (View.ld x0 r0_0) (View.ld x1 r0_1)⟩]

/-- The product tile, from the normalised row block and the tile of weights. -/
def prodTile (h : Vec F S1024x1024 .bf16) (x2 : Vec F S1024x1408 .bf16) : Vec F S1024x1408 .f32 :=
  View.canon [⟨r0_2, k0_pay2 (View.ld h r0_0) (View.ld x2 r0_2)⟩]

/-- One store of the whole buffer covers it. -/
theorem cover_h (p : Vec F S1024x1024 .bf16) (y : S1024x1024.Idx) :
    ∃ pc ∈ ([⟨r0_0, p⟩] : List (View.Piece (Elt F) S1024x1024 .bf16)), y ∈ pc.1.set :=
  View.cover_of_tiled [⟨r0_0, p⟩] S1024x1024.size (by rfl) y
/-- One store of the whole buffer covers it. -/
theorem cover_z (p : Vec F S1024x1408 .f32) (y : S1024x1408.Idx) :
    ∃ pc ∈ ([⟨r0_2, p⟩] : List (View.Piece (Elt F) S1024x1408 .f32)), y ∈ pc.1.set :=
  View.cover_of_tiled [⟨r0_2, p⟩] S1024x1408.size (by rfl) y

/-! ## The body's triples -/

set_option maxHeartbeats 1000000 in
/-- At a row's first column tile the body leaves the normalised block and the product of it. -/
theorem body_first (c : Dev nD) (E : Set ℕ) (i : grid0.Coords) (hi : k0_cond1 i = 1#1) (arg2 : Memref sig .tc .vmem S1024x1024 .f32) (harg2 : arg2.IsWhole) (arg3 : Memref sig .tc .vmem S1x1024 .f32) (harg3 : arg3.IsWhole)
    (arg4 : Memref sig .tc .vmem S1024x1408 .bf16) (harg4 : arg4.IsWhole) (arg5 : Memref sig .tc .vmem S1024x1408 .f32) (harg5 : arg5.IsWhole) (arg6 : Memref sig .tc .vmem S1024x1024 .bf16) (harg6 : arg6.IsWhole)
    (x0 : Vec F S1024x1024 .f32) (x1 : Vec F S1x1024 .f32) (x2 : Vec F S1024x1408 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (prodTile (normed x0 x1) x2) ∗ owns (c : Thread nD τ) arg6 fullShare (normed x0 x1)) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_z _)).trans ?_
    have e : body_first.sl.v3 c arg2 arg3 arg6 f0 f1
        = View.ld (normed (View.read (Elt F) arg2.view f0) (View.read (Elt F) arg3.view f1)) r0_0 :=
      View.readCov_eq_canon_ld _ _ _ (cover_h _)
    rw [e]
    rfl
  iexists _; isplitr
  swap; · iexact H4
  ipureintro
  exact View.read_writes_eq_canon _ _ _ (cover_h _)

set_option maxHeartbeats 1000000 in
/-- At a row's later column tiles the body reads the normalised block it finds and leaves the product of it. -/
theorem body_later (c : Dev nD) (E : Set ℕ) (i : grid0.Coords) (hi : ¬ k0_cond1 i = 1#1) (arg2 : Memref sig .tc .vmem S1024x1024 .f32) (harg2 : arg2.IsWhole) (arg3 : Memref sig .tc .vmem S1x1024 .f32) (harg3 : arg3.IsWhole)
    (arg4 : Memref sig .tc .vmem S1024x1408 .bf16) (harg4 : arg4.IsWhole) (arg5 : Memref sig .tc .vmem S1024x1408 .f32) (harg5 : arg5.IsWhole) (arg6 : Memref sig .tc .vmem S1024x1024 .bf16) (harg6 : arg6.IsWhole)
    (x2 : Vec F S1024x1408 .bf16) (h : Vec F S1024x1024 .bf16) (K : PUnit → sProp (MT nD τ sig Unit (Elt F) ℕ (UR sig nD τ) ℕ)) :
    iprop(owns (c : Thread nD τ) arg4 fullShare x2
        ∗ (∃ d, owns (c : Thread nD τ) arg5 fullShare d) ∗ owns (c : Thread nD τ) arg6 fullShare h
        ∗ (iprop(owns (c : Thread nD τ) arg4 fullShare x2
            ∗ owns (c : Thread nD τ) arg5 fullShare (prodTile h x2) ∗ owns (c : Thread nD τ) arg6 fullShare h) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton]; unfold cc0_norm_matmul_skel
  unfold owns
  iintro ⟨⟨%f2, %hf2, H2⟩, ⟨%d3, %f3, -, H3⟩, ⟨%f4, %hf4, H4⟩, Hk⟩
  subst hf2 hf4
  sl_exec (disch := sl_exact hi)
  sl_step
  iapply Hk
  isplitl [H2]
  · iexists f2; isplitr; · ipureintro; rfl
    iexact H2
  isplitl [H3]
  · iexists _; isplitr
    swap; · iexact H3
    ipureintro
    exact View.read_writes_eq_canon _ _ _ (cover_z _)
  iexists f4; isplitr; · ipureintro; rfl
  iexact H4

/-! ## The pipeline's proof data -/

/-- The arrays as the region finds them; after the body at a point the inputs' buffers at their blocks, the second
    output's at the normalised row block, the first's at the product of it with the tile of weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prodTile (normed (iblk m c 0 t) (iblk m c 1 t)) (iblk m c 2 t)
    | ⟨4, _⟩ => normed (iblk m c 0 t) (iblk m c 1 t)
  Φ _ := Pipeline.ΦA spec0 c
  q _ := fullShare
  owed _ := 0

/-- The arrays are the region's. -/
theorem A_eq (c : Dev nD) (w : Fin cfg0.W) : (dats m 0 c).A w = V m c (Pipeline.arrRef spec0 w) := by
  dsimp only [dats]

/-- What each window's buffer holds after the body at a point: the block of x, -/
theorem after0_0 (c : Dev nD) (t : Fin cfg0.N) : (dats m 0 c).after 0 t = iblk m c 0 t := by dsimp only [dats]
/-- the block of gains, -/
theorem after0_1 (c : Dev nD) (t : Fin cfg0.N) : (dats m 0 c).after 1 t = iblk m c 1 t := by dsimp only [dats]
/-- the tile of weights, -/
theorem after0_2 (c : Dev nD) (t : Fin cfg0.N) : (dats m 0 c).after 2 t = iblk m c 2 t := by dsimp only [dats]
/-- the product tile, -/
theorem after0_3 (c : Dev nD) (t : Fin cfg0.N) : (dats m 0 c).after 3 t = prodTile (normed (iblk m c 0 t) (iblk m c 1 t)) (iblk m c 2 t) := by dsimp only [dats]
/-- and the normalised row block. -/
theorem after0_4 (c : Dev nD) (t : Fin cfg0.N) : (dats m 0 c).after 4 t = normed (iblk m c 0 t) (iblk m c 1 t) := by dsimp only [dats]

/-- An input's buffer holds its block when the body runs, fetched at the point or before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The gains' buffer likewise. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- The weights' buffer likewise. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The second output through a row's points -/

/-- The body's condition holds at a row's first column tile. -/
theorem cond_iff : ∀ t : Fin cfg0.N, k0_cond1 (grid0.coords t) = 1#1 ↔ t.val % 2 = 0 := by decide +kernel
/-- Elsewhere the second output is idle, -/
theorem idle_of : ∀ t : Fin cfg0.N, ¬ t.val % 2 = 0 → cfg0.idle 4 (grid0.coords t) = true := by decide +kernel
/-- and at the first tile it is not. -/
theorem live_of : ∀ t : Fin cfg0.N, t.val % 2 = 0 → cfg0.idle 4 (grid0.coords t) = false := by decide +kernel
/-- Past the first tile the row block of x is the one of the point before, -/
theorem x_index : ∀ t : Fin cfg0.N, ¬ t.val % 2 = 0 →
    (cfg0.win 0).fetch t = false := fun t h => by
  cases hf : (cfg0.win 0).fetch t
  · rfl
  · exact absurd ((fetch0_0 t).mp hf) h
/-- and the second output's buffer is not fresh. -/
theorem not_fresh : ∀ t : Fin cfg0.N, ¬ t.val % 2 = 0 → cfg0.fresh 4 t.val = false := by decide +kernel

/-- So the block of x read there is the block of the point before. -/
theorem iblk_x (c : Dev nD) (t : Fin cfg0.N) (h : ¬ t.val % 2 = 0) :
    iblk m c 0 t = iblk m c 0 ⟨t.val - 1, by omega⟩ := by
  have ht : t.val ≠ 0 := fun h0 => h (by rw [h0])
  have e := before0_0 m c t (iblk m c 0 t)
  rw [Dat.before_of_pos _ 0 t ht (x_index t h), if_neg (by rw [show (cfg0.win 0).flush _ = false from rfl]; exact Bool.false_ne_true)] at e
  rw [← e]
  exact after0_0 m c _

/-- The block of gains is the same at every point. -/
theorem iblk_g (c : Dev nD) (t u : Fin cfg0.N) : iblk m c 1 t = iblk m c 1 u := rfl

/-- Through a row's points the second output's contents stay. -/
theorem carry (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have h : ¬ t.val % 2 = 0 := fun h => by rw [live_of t h] at hi; exact absurd hi Bool.false_ne_true
  rw [after0_4, after0_4, iblk_x m c t h, iblk_g m c t ⟨t.val - 1, by omega⟩]

/-- Past a row's first tile the body finds the normalised row block in the second output's buffer. -/
theorem before0_4 (c : Dev nD) (t : Fin cfg0.N) (h : ¬ t.val % 2 = 0) (d) :
    (dats m 0 c).before 4 t d = normed (iblk m c 0 t) (iblk m c 1 t) := by
  rw [Dat.before_out_traj _ 4 rfl (fun _ _ => rfl) (carry m c) t.val t rfl d,
    if_neg (by rw [not_fresh t h]; exact Bool.false_ne_true), after0_4, ← iblk_x m c t h, iblk_g m c _ t]

/-- What the obligation asks of the second output's buffer follows from its holding the normalised block. -/
theorem leaves_h (c : Dev nD) (t : Fin cfg0.N) :
    owns (c : Thread nD τ) (st0_4 t) fullShare (normed (iblk m c 0 t) (iblk m c 1 t)) ⊢ ((dats m 0 c).leavesExact 4 t : sProp (MT nD τ sig Unit (Elt F) ℕ (UR sig nD τ) ℕ)) := by
  by_cases h : t.val % 2 = 0
  · unfold Dat.leavesExact; rw [live_of t h, after0_4]
  · cases hf : (cfg0.win 4).flush t
    · rw [Dat.leavesExact_idle _ 4 t (idle_of t h) hf]
      iintro H
      iexists (normed (iblk m c 0 t) (iblk m c 1 t))
      rw [before0_4 m c t h]
      iexact H
    · unfold Dat.leavesExact; rw [idle_of t h, hf, after0_4]

/-! ## The body obligation -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The body at any point, by whether it is a row's first tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases h : t.val % 2 = 0
  · iintro ⟨HΦ, Ho, ⟨%d0, H0⟩, ⟨%d1, H1⟩, ⟨%d2, H2⟩, ⟨%d3, H3⟩, ⟨%d4, H4⟩⟩
    iapply (body_first c Set.univ (grid0.coords t) ((cond_iff t).mpr h) _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_h m c t)
    iexact H4
  · simp only [before0_4 m c t h]
    iintro ⟨HΦ, Ho, ⟨%d0, H0⟩, ⟨%d1, H1⟩, ⟨%d2, H2⟩, ⟨%d3, H3⟩, ⟨%d4, H4⟩⟩
    iapply (body_later c Set.univ (grid0.coords t) (fun hc => h ((cond_iff t).mp hc)) _ _ _ _ _ _ _ _ _ _ (iblk m c 2 t) (normed (iblk m c 0 t) (iblk m c 1 t)) _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_h m c t)
    iexact H4

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every fair execution ends, with every array at what the proof data says and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 0 |>.trans (((dats m 0 c).arrAt_in 0 rfl _).trans ((A_eq m c 0).trans (V_main_arg0 m c))),
      (h.1 c).1 1 |>.trans (((dats m 0 c).arrAt_in 1 rfl _).trans ((A_eq m c 1).trans (V_main_arg1 m c))),
      ((h.1 c).2 main_arg2 (Pipeline.mem_restRefs_of main_arg2 (by decide) (by decide))).trans (V_main_arg2 m c)⟩, h.2⟩) (run_quiescent m ρ)

end Cert.NormMix

end
-- ==== Proof.NormMixClaim.lean ====
/- The norm before the branches and the product with the first columns of their input weights: on any arguments the kernel's two results, the product and the normed rows, are the
   reference's. -/
module

public import proofs.«01_k».proof.Proof.NormMixRun
public import proofs.«01_k».proof.Proof.RowSpec
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.NormMix

open Cert.Kernel11Ideal Cert.Kernel11Ideal.Gen Idealize.ShloMosaic Idealize.ShloMosaic.TcCoe
open Idealize.SL.Sem Cert.Reference11Ideal.Read Cert.MergeSpec

/-- The two programs' tables of bodies are the same, -/
theorem defs₀_eq {F : FTy → Type} [FloatOps F] : Cert.Kernel11.defs₀ (F := F) = Cert.Kernel11Ideal.defs₀ (F := F) := by
  refine congrArg Defs.onTc (funext fun l => funext fun a => ?_)
  match l, a with
  | ⟨0, _⟩, (t, s) => rfl

/-- and so are their tables with the pipeline's. -/
theorem defs_eq {F : FTy → Type} [FloatOps F] : Cert.Kernel11.defs (F := F) = Cert.Kernel11Ideal.defs (F := F) :=
  congrArg (Pipeline.defs pcfgs) defs₀_eq

/-- The kernel runs to its end and leaves its arguments as they were and every counter at zero. -/
theorem frame_k : Cert.quiescent_Kernel11 := fun m ρ _ => by
  rw [defs_eq]
  exact frame_args (F := Bits) m ρ

/-- The same over the extended reals. -/
theorem frame_ki : Cert.quiescent_Kernel11Ideal := fun m ρ _ => frame_args (F := Ideal) m ρ

/-- A row, normed with gain `g`. -/
def normRow (x g : Row) : Row := fun d => x d * inv x * g d

/-- The normed block: each row of x, normed. -/
theorem normed_at (x : FVec Ideal S1024x1024 .f32) (g : FVec Ideal S1x1024 .f32) (r d : Fin 1024) :
    normed (F := Ideal) x g (ix2 r d) = normRow (fun e => x (ix2 r e)) (fun e => g (ix2 0 e)) d := by
  unfold normed
  frame_out
  unfold_payloads
  pointwise [normRow, Cert.MergeSpec.inv, width, eps]

/-- The product tile: each row against the tile's columns. -/
theorem prod_at (h : FVec Ideal S1024x1024 .bf16) (w : FVec Ideal S1024x1408 .bf16) (r : Fin 1024) (j : Fin 1408) :
    prodTile (F := Ideal) h w (ix2 r j) = ∑ k : Fin 1024, h (ix2 r k) * w (ix2 k j) := by
  unfold prodTile
  frame_out
  unfold_payloads
  pointwise

variable (m : (ℓ : Loc nD τ sig) → Buf (Elt Ideal) ℓ) (c : Dev nD)

/-- Every window's block index at a grid point. -/
theorem idx : ∀ t : Fin cfg0.N, win0_0.index t = ![t.val / 2, 0] ∧ win0_1.index t = ![0, 0] ∧ win0_2.index t = ![0, t.val % 2]
    ∧ win0_3.index t = ![t.val / 2, t.val % 2] ∧ win0_4.index t = ![t.val / 2, 0] :=
  (by decide +kernel : ∀ t : Fin grid0.N, _)

/-- The rows of x, by token. -/
def xK (s : Fin 2048) : Row := fun d => m ((c : Thread nD τ).loc main_arg0) (ix2 s d)

/-- The norm's gain. -/
def gK : Row := fun d => m ((c : Thread nD τ).loc main_arg1) (ix2 0 d)

/-- The weights, by channel. -/
def wK (k : Fin 1024) (j : Fin 6912) : EReal := m ((c : Thread nD τ).loc main_arg2) (ix2 k j)

/-- The token of row `r` of the block at grid point `t`. -/
def tok (t : Fin cfg0.N) (r : Fin 1024) : Fin 2048 :=
  ⟨t.val / 2 * 1024 + r.val, by have := t.isLt; have : cfg0.N = 4 := N_0; have := r.isLt; omega⟩

/-- The column of column `j` of the tile at grid point `t`. -/
def col (t : Fin cfg0.N) (j : Fin 1408) : Fin 2816 := ⟨t.val % 2 * 1408 + j.val, by have := j.isLt; omega⟩

/-- The block of x. -/
theorem blk_x (t : Fin cfg0.N) (r d : Fin 1024) : iblk m c 0 t (ix2 r d) = xK m c (tok t r) d := by
  unfold xK tok
  blk_ext [iblk, V, idx t]

/-- The block of gains. -/
theorem blk_g (t : Fin cfg0.N) (d : Fin 1024) : iblk m c 1 t (ix2 0 d) = gK m c d := by
  unfold gK
  blk_ext [iblk, V, idx t]

/-- The host's slice of the weights: their first 2816 columns. -/
theorem V_w : V m c main_v0 = extractStridedSlice S1024x2816 ![0, 0] (m ((c : Thread nD τ).loc main_arg2)) slices_S1024x6912_S1024x2816_0_0 := by
  unfold V
  after_results_simp

/-- The slice at an index. -/
theorem w_at (k : Fin 1024) (j : Fin 2816) : V m c main_v0 (ix2 k j) = wK m c k ⟨j.val, by omega⟩ := by
  rw [V_w]
  unfold wK
  pointwise

/-- The tile of weights. -/
theorem blk_w (t : Fin cfg0.N) (k : Fin 1024) (j : Fin 1408) : iblk m c 2 t (ix2 k j) = wK m c k ⟨(col t j).val, by omega⟩ := by
  refine Eq.trans ?_ (w_at m c k (col t j))
  unfold col
  blk_ext [iblk, idx t]

/-- The normed rows, as an array. -/
def normArr (i : S2048x1024.Idx) : EReal := normRow (xK m c (i 0)) (gK m c) (i 1)

/-- The products, as an array. -/
def prodArr (i : S2048x2816.Idx) : EReal := ∑ k : Fin 1024, normRow (xK m c (i 0)) (gK m c) k * wK m c k ⟨(i 1).val, by have : (i 1).val < 2816 := (i 1).isLt; omega⟩

/-- The normed block at a grid point, over the argument arrays. -/
theorem norm_blk (t : Fin cfg0.N) (r d : Fin 1024) :
    normed (F := Ideal) (iblk m c 0 t) (iblk m c 1 t) (ix2 r d) = normArr m c (ix2 (tok t r) d) := by
  rw [normed_at]
  simp only [blk_x, blk_g]
  rfl

/-- The product tile at a grid point, over the argument arrays. -/
theorem prod_blk (t : Fin cfg0.N) (r : Fin 1024) (j : Fin 1408) :
    prodTile (F := Ideal) (normed (iblk m c 0 t) (iblk m c 1 t)) (iblk m c 2 t) (ix2 r j) = prodArr m c (ix2 (tok t r) (col t j)) := by
  rw [prod_at]
  simp only [norm_blk, blk_w]
  rfl

/-- Window 3 leaves the products. -/
theorem arr3 : (dats m 0 c).arrAt 3 (cfgs 0).N = prodArr m c := by
  refine (dats m 0 c).arrAt_eq_of_covers 3 _ (by decide +kernel) fun t hf y => ?_
  blk_simp
  rw [after0_3]
  idx_vars y
  have key : prodArr m c (((View.whole main_v1_0).slice (win0_3.rect t)).emb (ix2 y0 y1)) = prodArr m c (ix2 (tok t y0) (col t y1)) := by
    refine congrArg (prodArr m c) ?_
    unfold tok col
    blk_ext [idx t]
  exact (prod_blk m c t y0 y1).trans key.symm

/-- Window 4 leaves the normed rows. -/
theorem arr4 : (dats m 0 c).arrAt 4 (cfgs 0).N = normArr m c := by
  refine (dats m 0 c).arrAt_eq_of_covers 4 _ (by decide +kernel) fun t hf y => ?_
  blk_simp
  rw [after0_4]
  idx_vars y
  have key : normArr m c (((View.whole main_v1_1).slice (win0_4.rect t)).emb (ix2 y0 y1)) = normArr m c (ix2 (tok t y0) y1) := by
    refine congrArg (normArr m c) ?_
    unfold tok
    blk_ext [idx t]
  exact (norm_blk m c t y0 y1).trans key.symm

/-- The run: the two results as the pipeline leaves them, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

section Reference

variable (x0 : FVec Ideal Cert.Reference11Ideal.S2048x1024 .f32) (x1 : FVec Ideal Cert.Reference11Ideal.S1x1024 .f32)
  (x2 : FVec Ideal Cert.Reference11Ideal.S1024x6912 .bf16)

/-- The reference's normed rows. -/
theorem norm_ref (s : Fin 2048) (d : Fin 1024) :
    val_main_v11 (F := Ideal) x0 x1 (ix2 s d) = normRow (fun e => x0 (ix2 s e)) (fun e => x1 (ix2 0 e)) d := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

/-- The reference's stored normed rows. -/
theorem stored_ref (s : Fin 2048) (d : Fin 1024) :
    val_main_v15 (F := Ideal) x0 x1 (ix2 s d) = normRow (fun e => x0 (ix2 s e)) (fun e => x1 (ix2 0 e)) d := by
  pointwise [val_main_v15]
  exact norm_ref x0 x1 s d

/-- The reference's products. -/
theorem prod_ref (s : Fin 2048) (j : Fin 2816) :
    val_main_v14 (F := Ideal) x0 x1 x2 (ix2 s j)
      = ∑ k : Fin 1024, normRow (fun e => x0 (ix2 s e)) (fun e => x1 (ix2 0 e)) k * x2 (ix2 k ⟨j.val, by omega⟩) := by
  pointwise [val_main_v14, val_main_v13, val_main_v12]
  simp only [norm_ref]

end Reference

/-- The reference runs to its end and leaves its arguments as they were. -/
theorem frame_ri : Cert.quiescent_Reference11Ideal := fun m ρ _ =>
  (θ_run Cert.Reference11Ideal.defs _ _).mono (fun r h => ⟨fun c => (h c).2.2,
    Idealize.ShloMosaic.sem_eq_zero_of_no_sems (by decide) r.2⟩) (Cert.Reference11Ideal.Value.run (F := Ideal) m ρ)

/-- The kernel's two results are the reference's. -/
theorem algebraic : Cert.algebraic_Kernel11Ideal_Reference11Ideal := by
  intro m g m' g' _ hagree
  refine ⟨fun c => prodArr m c, fun c => normArr m c,
    (θ_run _ _ _).mono (fun r h c => ⟨(h c).1.trans (arr3 m c), (h c).2.1.trans (arr4 m c), (h c).2.2⟩) (run m g),
    (θ_run _ _ _).mono (fun r h c => ⟨(h c).1.trans ?_, (h c).2.1.trans ?_, (h c).2.2⟩)
      (Cert.Reference11Ideal.Value.run m' g')⟩
  · obtain ⟨h0, h1, h2⟩ := hagree c
    refine (val_main_v14_eq _ _ _).trans ?_
    rw [h0, h1, h2]
    funext i
    obtain ⟨s, d, rfl⟩ : ∃ (s : Fin 2048) (d : Fin 2816), i = ix2 s d := ⟨i 0, i 1, by idx_vars i; blk_ext⟩
    exact prod_ref _ _ _ s d
  · obtain ⟨h0, h1, h2⟩ := hagree c
    refine (val_main_v15_eq _ _).trans ?_
    rw [h0, h1]
    funext i
    obtain ⟨s, d, rfl⟩ : ∃ (s : Fin 2048) (d : Fin 1024), i = ix2 s d := ⟨i 0, i 1, by idx_vars i; blk_ext⟩
    exact stored_ref _ _ s d

end Cert.NormMix

end
-- ==== Proof.GateRows.lean ====
/- The forward pass's product for the gates' logits: the product call's array is the reference's. -/
module

public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.GateRows

open Cert.Kernel12Ideal Cert.Kernel12Ideal.Gen Cert.Kernel12Ideal.Value Idealize.ShloMosaic Idealize.ShloMosaic.TcCoe
open Idealize.SL.Sem Cert.Reference12Ideal.Read

/-- The stored block: the channels' products, added up. -/
theorem pay_at (a b : FVec Ideal S1024x1024 .bf16) (r q : Fin 1024) :
    k0_pay1 (F := Ideal) a b (ix2 r q) = ∑ k : Fin 1024, a (ix2 r k) * b (ix2 k q) := by
  unfold_payloads
  pointwise

variable (m : (ℓ : Loc nD τ sig) → Buf (Elt Ideal) ℓ) (c : Dev nD)

/-- Every window's block index at a grid point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The normed rows, by token. -/
def rowK (s : Fin 2048) (k : Fin 1024) : EReal := m ((c : Thread nD τ).loc main_arg0) (ix2 s k)

/-- The input weight, by channel. -/
def wK (k : Fin 1024) (j : Fin 6912) : EReal := m ((c : Thread nD τ).loc main_arg1) (ix2 k j)

/-- The host's slice of the weights: the gates' columns. -/
theorem V_w : V m c main_v0 = extractStridedSlice S1024x4096 ![0, 2816] (m ((c : Thread nD τ).loc main_arg1)) slices_S1024x6912_S1024x4096_0_2816 := by
  unfold V
  after_results_simp

/-- The gates' weights at an index. -/
theorem w_at (k : Fin 1024) (j : Fin 4096) : V m c main_v0 (ix2 k j) = wK m c k ⟨2816 + j.val, by omega⟩ := by
  rw [V_w]
  unfold wK
  pointwise

/-- The logits as an array, over the argument arrays. -/
def logits (i : S2048x4096.Idx) : EReal := ∑ k : Fin 1024, rowK m c (i 0) k * wK m c k ⟨2816 + (i 1).val, by have : (i 1).val < 4096 := (i 1).isLt; omega⟩

/-- The call leaves the logits. -/
theorem arr : (dats m 0 c).arrAt 2 (cfgs 0).N = logits m c := by
  refine (dats m 0 c).arrAt_eq_of_covers 2 _ (by decide +kernel) fun t hf y => ?_
  blk_simp
  rw [after0_2]
  idx_vars y
  have key : ∀ i : S2048x4096.Idx, (i 0).val = t.val / 4 * 1024 + y0.val → (i 1).val = t.val % 4 * 1024 + y1.val →
      logits m c i = k0_pay1 (F := Ideal) (iblk m c 0 t) (iblk m c 1 t) (ix2 y0 y1) := by
    intro i h0 h1
    rw [pay_at]
    unfold logits
    refine Finset.sum_congr rfl fun k _ => congr (congrArg HMul.hMul ?_) ?_
    · unfold rowK
      blk_ext [iblk, V, idx t, h0]
    · refine (w_at m c k (i 1)).symm.trans ?_
      blk_ext [iblk, idx t, h1]
  have k := key (((View.whole main_v1).slice (win0_2.rect t)).emb (ix2 y0 y1)) (by blk_simp [idx t]) (by blk_simp [idx t])
  frame_out
  exact k.symm

/-- The reference's logits, over the same arrays. -/
theorem ref (a : (⟨Cert.Reference12Ideal.S2048x1024, .bf16⟩ : BufTy).Contents (Elt Ideal))
    (b : (⟨Cert.Reference12Ideal.S1024x6912, .bf16⟩ : BufTy).Contents (Elt Ideal)) (i : Fin 2048) (j : Fin 4096) :
    val_main_v3 (F := Ideal) a b (ix2 i j) = ∑ k : Fin 1024, (a (ix2 i k) : EReal) * b (ix2 k ⟨2816 + j.val, by omega⟩) := by
  pointwise [val_main_v3, val_main_v2, val_main_v1, val_main_v0]

/-- The reference runs to its end and leaves its arguments as they were. -/
theorem frame_ri : Cert.quiescent_Reference12Ideal := fun m ρ _ =>
  (θ_run Cert.Reference12Ideal.defs _ _).mono (fun r h => ⟨fun c => (h c).2,
    Idealize.ShloMosaic.sem_eq_zero_of_no_sems (by decide) r.2⟩) (Cert.Reference12Ideal.Value.run (F := Ideal) m ρ)

/-- The kernel's logits are the reference's. -/
theorem algebraic : Cert.algebraic_Kernel12Ideal_Reference12Ideal := by
  pair_intro
  · run_from Cert.Kernel12Ideal.Value.run_blocks m g
  · run_from Cert.Reference12Ideal.Value.run m' g'
    refine (val_main_v3_eq _ _).trans (Eq.trans ?_ (arr m c).symm)
    funext i
    obtain ⟨r, q, rfl⟩ : ∃ (r : Fin 2048) (q : Fin 4096), i = ix2 r q := ⟨i 0, i 1, by idx_vars i; blk_ext⟩
    exact ref _ _ r q

end Cert.GateRows

end
-- ==== Proof.FfnOut.lean ====
/- The forward pass's second half of the feed-forward block: the call's two arrays are the reference's. -/
module

public import proofs.«01_k».proof.Proof.RowSpec
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.FfnOut

open Cert.Kernel13Ideal Cert.Kernel13Ideal.Gen Cert.Kernel13Ideal.Value Idealize.ShloMosaic Idealize.ShloMosaic.TcCoe
open Idealize.SL.Sem Cert.MergeSpec Cert.RowSpec Cert.Reference13Ideal.Read

/-- The stored product: the gated rows against the weights. -/
theorem prod_at (a b : FVec Ideal S256x2816 .f32) (w : FVec Ideal S2816x1024 .bf16) (r : Fin 256) (d : Fin 1024) :
    k0_pay1 (F := Ideal) a b w (ix2 r d)
      = ∑ k : Fin 2816, a (ix2 r k) * Ideal.logistic (a (ix2 r k)) * b (ix2 r k) * w (ix2 k d) := by
  unfold_payloads
  pointwise

/-- The stored residual rows: the product, normed and added. -/
theorem out_at (a b : FVec Ideal S256x2816 .f32) (w : FVec Ideal S2816x1024 .bf16) (x : FVec Ideal S256x1024 .f32)
    (g : FVec Ideal S1x1024 .f32) (r : Fin 256) (d : Fin 1024) :
    k0_pay2 (F := Ideal) a b w x g (ix2 r d)
      = addNorm (fun e => x (ix2 r e)) (fun e => k0_pay1 (F := Ideal) a b w (ix2 r e)) (fun e => g (ix2 0 e)) d := by
  unfold k0_pay2
  pointwise [addNorm, Cert.MergeSpec.inv, width, eps]

variable (m : (ℓ : Loc nD τ sig) → Buf (Elt Ideal) ℓ) (c : Dev nD)

/-- Every window's block index at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The first product's rows, by token. -/
def uK (s : Fin 2048) (k : Fin 5632) : EReal := m ((c : Thread nD τ).loc main_arg0) (ix2 s k)

/-- The second product's weights. -/
def wK (k : Fin 2816) : Row := fun d => m ((c : Thread nD τ).loc main_arg1) (ix2 k d)

/-- The residual stream's rows, by token. -/
def xK (s : Fin 2048) : Row := fun d => m ((c : Thread nD τ).loc main_arg2) (ix2 s d)

/-- The norm's gain. -/
def gK : Row := fun d => m ((c : Thread nD τ).loc main_arg3) (ix2 0 d)

/-- The token of row `r` of the block at grid point `t`. -/
def tok (t : Fin cfg0.N) (r : Fin 256) : Fin 2048 :=
  ⟨t.val * 256 + r.val, by have := t.isLt; have : cfg0.N = 8 := N_0; have := r.isLt; omega⟩

/-- The first half of the rows, read from their block. -/
theorem ld_lo (t : Fin cfg0.N) (r : Fin 256) (k : Fin 2816) :
    View.ld (iblk m c 0 t) (Rect.unit ![0, 0] ![256, 2816] inb_S256x5632_S256x2816_0_0) (ix2 r k)
      = uK m c (tok t r) ⟨k.val, by omega⟩ := by
  unfold uK tok
  pointwise
  blk_ext [iblk, V, idx t]

/-- The second half of the rows, read from their block. -/
theorem ld_hi (t : Fin cfg0.N) (r : Fin 256) (k : Fin 2816) :
    View.ld (iblk m c 0 t) (Rect.unit ![0, 2816] ![256, 2816] inb_S256x5632_S256x2816_0_2816) (ix2 r k)
      = uK m c (tok t r) ⟨2816 + k.val, by omega⟩ := by
  unfold uK tok
  pointwise
  blk_ext [iblk, V, idx t]

/-- The weights' block. -/
theorem blk_w (t : Fin cfg0.N) (k : Fin 2816) (d : Fin 1024) : iblk m c 1 t (ix2 k d) = wK m c k d := by
  unfold wK
  blk_ext [iblk, V, idx t]

/-- The residual stream's block. -/
theorem blk_x (t : Fin cfg0.N) (r : Fin 256) (d : Fin 1024) : iblk m c 2 t (ix2 r d) = xK m c (tok t r) d := by
  unfold xK tok
  blk_ext [iblk, V, idx t]

/-- The gain's block. -/
theorem blk_g (t : Fin cfg0.N) (d : Fin 1024) : iblk m c 3 t (ix2 0 d) = gK m c d := by
  unfold gK
  blk_ext [iblk, V, idx t]

/-- The product stored at a grid point. -/
def prod (t : Fin cfg0.N) : FVec Ideal S256x1024 .f32 :=
  k0_pay1 (F := Ideal) (View.ld (iblk m c 0 t) (Rect.unit ![0, 0] ![256, 2816] inb_S256x5632_S256x2816_0_0))
    (View.ld (iblk m c 0 t) (Rect.unit ![0, 2816] ![256, 2816] inb_S256x5632_S256x2816_0_2816)) (iblk m c 1 t)

/-- The product stored at a grid point, over the argument arrays. -/
theorem prod_blk (t : Fin cfg0.N) (r : Fin 256) (d : Fin 1024) :
    prod m c t (ix2 r d) = down (uK m c (tok t r)) (wK m c) d := by
  unfold prod
  rw [prod_at]
  simp only [ld_lo, ld_hi, blk_w]
  rfl

/-- The residual rows stored at a grid point, over the argument arrays. -/
theorem out_blk (t : Fin cfg0.N) (r : Fin 256) (d : Fin 1024) :
    k0_pay2 (F := Ideal) (View.ld (iblk m c 0 t) (Rect.unit ![0, 0] ![256, 2816] inb_S256x5632_S256x2816_0_0))
        (View.ld (iblk m c 0 t) (Rect.unit ![0, 2816] ![256, 2816] inb_S256x5632_S256x2816_0_2816)) (iblk m c 1 t)
        (iblk m c 2 t) (iblk m c 3 t) (ix2 r d)
      = addNorm (xK m c (tok t r)) (down (uK m c (tok t r)) (wK m c)) (gK m c) d := by
  rw [out_at]
  have h : (fun e => k0_pay1 (F := Ideal) (View.ld (iblk m c 0 t) (Rect.unit ![0, 0] ![256, 2816] inb_S256x5632_S256x2816_0_0))
      (View.ld (iblk m c 0 t) (Rect.unit ![0, 2816] ![256, 2816] inb_S256x5632_S256x2816_0_2816)) (iblk m c 1 t) (ix2 r e))
      = down (uK m c (tok t r)) (wK m c) := funext fun e => prod_blk m c t r e
  rw [h]
  simp only [blk_x, blk_g]

/-- The products, as an array. -/
def prodArr (i : S2048x1024.Idx) : EReal := down (uK m c (i 0)) (wK m c) (i 1)

/-- The residual rows, as an array. -/
def outArr (i : S2048x1024.Idx) : EReal := addNorm (xK m c (i 0)) (down (uK m c (i 0)) (wK m c)) (gK m c) (i 1)

/-- Window 4 leaves the residual rows. -/
theorem arr4 : (dats m 0 c).arrAt 4 (cfgs 0).N = outArr m c := by
  refine (dats m 0 c).arrAt_eq_of_covers 4 _ (by decide +kernel) fun t hf y => ?_
  blk_simp
  rw [after0_4]
  idx_vars y
  have key : outArr m c (((View.whole main_v0_0).slice (win0_4.rect t)).emb (ix2 y0 y1)) = outArr m c (ix2 (tok t y0) y1) := by
    refine congrArg (outArr m c) ?_
    unfold tok
    blk_ext [idx t]
  frame_out
  exact (out_blk m c t y0 y1).trans key.symm

/-- Window 5 leaves the products. -/
theorem arr5 : (dats m 0 c).arrAt 5 (cfgs 0).N = prodArr m c := by
  refine (dats m 0 c).arrAt_eq_of_covers 5 _ (by decide +kernel) fun t hf y => ?_
  blk_simp
  rw [after0_5]
  idx_vars y
  have key : prodArr m c (((View.whole main_v0_1).slice (win0_5.rect t)).emb (ix2 y0 y1)) = prodArr m c (ix2 (tok t y0) y1) := by
    refine congrArg (prodArr m c) ?_
    unfold tok
    blk_ext [idx t]
  frame_out
  exact (prod_blk m c t y0 y1).trans key.symm

section Reference

variable (x0 : FVec Ideal Cert.Reference13Ideal.S2048x5632 .f32) (x1 : FVec Ideal Cert.Reference13Ideal.S2816x1024 .bf16)
  (x2 : FVec Ideal Cert.Reference13Ideal.S2048x1024 .f32) (x3 : FVec Ideal Cert.Reference13Ideal.S1x1024 .f32)

/-- The reference's gated rows. -/
theorem gated_ref (s : Fin 2048) (k : Fin 2816) :
    val_main_v3 (F := Ideal) x0 (ix2 s k) = gated (fun k => x0 (ix2 s k)) k := by
  pointwise [val_main_v3, val_main_v2, val_main_v1, val_main_v0, val_main_call0_v0, val_main_call0_v1, val_main_call0_v2,
    val_main_call0_v3, val_main_call0_v4, val_main_call0_v5, val_main_call0_cst, val_main_call0_cst_0]
  rfl

/-- The reference's products. -/
theorem prod_ref (s : Fin 2048) (d : Fin 1024) :
    val_main_v5 (F := Ideal) x0 x1 (ix2 s d) = down (fun k => x0 (ix2 s k)) (fun k d => x1 (ix2 k d)) d := by
  pointwise [val_main_v5, val_main_v4]
  simp only [gated_ref]
  rfl

/-- The reference's residual rows. -/
theorem out_ref (s : Fin 2048) (d : Fin 1024) :
    val_main_v18 (F := Ideal) x0 x1 x2 x3 (ix2 s d)
      = addNorm (fun e => x2 (ix2 s e)) (down (fun k => x0 (ix2 s k)) (fun k d => x1 (ix2 k d))) (fun e => x3 (ix2 0 e)) d := by
  pointwise [val_main_v18, val_main_v17, val_main_v16, val_main_v15, val_main_v14, val_main_v13, val_main_v12, val_main_v11,
    val_main_v10, val_main_v9, val_main_v8, val_main_v7, val_main_v6, val_main_cst, val_main_cst_0, val_main_cst_1]
  simp only [prod_ref]
  rfl

end Reference

/-- The reference runs to its end and leaves its arguments as they were. -/
theorem frame_ri : Cert.quiescent_Reference13Ideal := fun m ρ _ =>
  (θ_run Cert.Reference13Ideal.defs _ _).mono (fun r h => ⟨fun c => (h c).2.2,
    Idealize.ShloMosaic.sem_eq_zero_of_no_sems (by decide) r.2⟩) (Cert.Reference13Ideal.Value.run (F := Ideal) m ρ)

/-- The kernel's two results are the reference's. -/
theorem algebraic : Cert.algebraic_Kernel13Ideal_Reference13Ideal := by
  intro m g m' g' _ hagree
  refine ⟨fun c => outArr m c, fun c => prodArr m c,
    (θ_run _ _ _).mono (fun r h c => ⟨(h c).1.trans (arr4 m c), (h c).2.1.trans (arr5 m c), (h c).2.2⟩) (run_blocks m g),
    (θ_run _ _ _).mono (fun r h c => ⟨(h c).1.trans ?_, (h c).2.1.trans ?_, (h c).2.2⟩)
      (Cert.Reference13Ideal.Value.run m' g')⟩
  · obtain ⟨h0, h1, h2, h3⟩ := hagree c
    refine (val_main_v18_eq _ _ _ _).trans ?_
    rw [h0, h1, h2, h3]
    funext i
    obtain ⟨s, d, rfl⟩ : ∃ (s : Fin 2048) (d : Fin 1024), i = ix2 s d := ⟨i 0, i 1, by idx_vars i; blk_ext⟩
    exact out_ref _ _ _ _ s d
  · obtain ⟨h0, h1, _, _⟩ := hagree c
    refine (val_main_v5_eq _ _).trans ?_
    rw [h0, h1]
    funext i
    obtain ⟨s, d, rfl⟩ : ∃ (s : Fin 2048) (d : Fin 1024), i = ix2 s d := ⟨i 0, i 1, by idx_vars i; blk_ext⟩
    exact prod_ref _ _ s d

end Cert.FfnOut

end
-- ==== Proof.MergeForward.lean ====
/- The forward pass's merge of the four branches: the call's three arrays are the reference's. -/
module

public import proofs.«01_k».proof.Proof.RowSpec
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.MergeForward

open Cert.Kernel14Ideal Cert.Kernel14Ideal.Gen Cert.Kernel14Ideal.Value Idealize.ShloMosaic Idealize.ShloMosaic.TcCoe
open Idealize.SL.Sem Cert.MergeSpec Cert.RowSpec Cert.Reference14Ideal.Read

/-- The first three branches' gated projections, added up. -/
theorem front_at (o0 : FVec Ideal S256x256 .bf16) (w0 : FVec Ideal S1x256x1024 .bf16) (z0 : FVec Ideal S256x1024 .f32)
    (o1 : FVec Ideal S256x256 .bf16) (w1 : FVec Ideal S1x256x1024 .bf16) (z1 : FVec Ideal S256x1024 .f32)
    (o2 : FVec Ideal S256x256 .bf16) (w2 : FVec Ideal S1x256x1024 .bf16) (z2 : FVec Ideal S256x1024 .f32)
    (r : Fin 256) (d : Fin 1024) :
    k0_pay4 (F := Ideal) o0 w0 z0 o1 w1 z1 o2 w2 z2 (ix2 r d)
      = Ideal.logistic (z0 (ix2 r d)) * proj (fun k => o0 (ix2 r k)) (fun k d => w0 (ix3 0 k d)) d
        + Ideal.logistic (z1 (ix2 r d)) * proj (fun k => o1 (ix2 r k)) (fun k d => w1 (ix3 0 k d)) d
        + Ideal.logistic (z2 (ix2 r d)) * proj (fun k => o2 (ix2 r k)) (fun k d => w2 (ix3 0 k d)) d := by
  unfold_payloads
  pointwise [proj]

/-- The stored merged rows: the fourth branch's gated projection added to the first three. -/
theorem merged_at (f : FVec Ideal S256x1024 .f32) (o3 : FVec Ideal S256x256 .bf16) (w3 : FVec Ideal S1x256x1024 .bf16)
    (z3 : FVec Ideal S256x1024 .f32) (r : Fin 256) (d : Fin 1024) :
    k0_pay1 (F := Ideal) f o3 (k0_pay5 w3) (constant S256x1024 .f32 0x00000000#32) z3 (ix2 r d)
      = f (ix2 r d) + Ideal.logistic (z3 (ix2 r d)) * proj (fun k => o3 (ix2 r k)) (fun k d => w3 (ix3 0 k d)) d := by
  unfold_payloads
  pointwise [proj]

/-- The stored product: the merged rows against the output projection. -/
theorem prod_at (f : FVec Ideal S256x1024 .f32) (o3 : FVec Ideal S256x256 .bf16) (w : FVec Ideal S256x1024 .bf16)
    (q : FVec Ideal S256x1024 .f32) (z3 : FVec Ideal S256x1024 .f32) (wo : FVec Ideal S1024x1024 .bf16) (r : Fin 256) (e : Fin 1024) :
    k0_pay2 (F := Ideal) f o3 w q z3 wo (ix2 r e) = ∑ d : Fin 1024, k0_pay1 (F := Ideal) f o3 w q z3 (ix2 r d) * wo (ix2 d e) := by
  unfold k0_pay2
  pointwise

/-- The stored residual rows: the product, normed and added. -/
theorem out_at (f : FVec Ideal S256x1024 .f32) (o3 : FVec Ideal S256x256 .bf16) (w : FVec Ideal S256x1024 .bf16)
    (q : FVec Ideal S256x1024 .f32) (z3 : FVec Ideal S256x1024 .f32) (wo : FVec Ideal S1024x1024 .bf16)
    (x : FVec Ideal S256x1024 .f32) (g : FVec Ideal S1x1024 .f32) (r : Fin 256) (e : Fin 1024) :
    k0_pay3 (F := Ideal) f o3 w q z3 wo x g (ix2 r e)
      = addNorm (fun e => x (ix2 r e)) (fun e => k0_pay2 (F := Ideal) f o3 w q z3 wo (ix2 r e)) (fun e => g (ix2 0 e)) e := by
  unfold k0_pay3
  pointwise [addNorm, Cert.MergeSpec.inv, width, eps]

variable (m : (ℓ : Loc nD τ sig) → Buf (Elt Ideal) ℓ) (c : Dev nD)

/-- Every window's block index at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0]
    ∧ win0_6.index t = ![0, 0] ∧ win0_7.index t = ![t.val, 0] ∧ win0_8.index t = ![0, 0]
    ∧ win0_9.index t = ![t.val, 0] ∧ win0_10.index t = ![t.val, 0] ∧ win0_11.index t = ![t.val, 0] :=
  (by decide +kernel : ∀ t : Fin grid0.N, _)

/-- The first branch's output, by token. -/
def o0K (s : Fin 2048) : Fin 256 → EReal := fun k => m ((c : Thread nD τ).loc main_arg0) (ix2 s k)

/-- The second branch's output, by token. -/
def o1K (s : Fin 2048) : Fin 256 → EReal := fun k => m ((c : Thread nD τ).loc main_arg1) (ix2 s k)

/-- The third branch's output, by token. -/
def o2K (s : Fin 2048) : Fin 256 → EReal := fun k => m ((c : Thread nD τ).loc main_arg2) (ix2 s k)

/-- The fourth branch's output, by token. -/
def o3K (s : Fin 2048) : Fin 256 → EReal := fun k => m ((c : Thread nD τ).loc main_arg3) (ix2 s k)

/-- The four branches' outputs, by branch and token. -/
def oK (n : Fin 4) (s : Fin 2048) : Fin 256 → EReal := ![o0K m c s, o1K m c s, o2K m c s, o3K m c s] n

/-- The gates' logits, by branch and token. -/
def zK (n : Fin 4) (s : Fin 2048) : Row := fun d =>
  m ((c : Thread nD τ).loc main_arg4) (ix2 s ⟨n.val * 1024 + d.val, by have := n.isLt; have := d.isLt; omega⟩)

/-- The branches' projection weights. -/
def wK (n : Fin 4) (k : Fin 256) : Row := fun d => m ((c : Thread nD τ).loc main_arg5) (ix3 n k d)

/-- The output projection's weights. -/
def woK (d : Fin 1024) : Row := fun e => m ((c : Thread nD τ).loc main_arg6) (ix2 d e)

/-- The residual stream's rows, by token. -/
def xK (s : Fin 2048) : Row := fun d => m ((c : Thread nD τ).loc main_arg7) (ix2 s d)

/-- The norm's gain. -/
def gK : Row := fun d => m ((c : Thread nD τ).loc main_arg8) (ix2 0 d)

/-- The merged rows, by token. -/
def mergedK (s : Fin 2048) : Row := merged (fun n => zK m c n s) (fun n => oK m c n s) (wK m c)

/-- The merged rows through the output projection, by token. -/
def prodK (s : Fin 2048) : Row := outRow (fun n => zK m c n s) (fun n => oK m c n s) (wK m c) (woK m c)

/-- The token of row `r` of the block at grid point `t`. -/
def tok (t : Fin cfg0.N) (r : Fin 256) : Fin 2048 :=
  ⟨t.val * 256 + r.val, by have := t.isLt; have : cfg0.N = 8 := N_0; have := r.isLt; omega⟩

/-- The first branch's rows, read from their block. -/
theorem ld_o0 (t : Fin cfg0.N) (r k : Fin 256) :
    View.ld (iblk m c 0 t) (Rect.unit ![0, 0] ![256, 256] inb_S256x256_S256x256_0_0) (ix2 r k) = o0K m c (tok t r) k := by
  unfold o0K tok
  pointwise
  blk_ext [iblk, V, idx t]

/-- The first branch's gate logits, read from their block. -/
theorem ld_z0 (t : Fin cfg0.N) (r : Fin 256) (d : Fin 1024) :
    View.ld (iblk m c 4 t) (Rect.unit ![0, 0] ![256, 1024] inb_S256x4096_S256x1024_0_0) (ix2 r d)
      = zK m c 0 (tok t r) d := by
  unfold zK tok
  pointwise
  blk_ext [iblk, V, idx t]

/-- The first branch's weights, read from their block. -/
theorem ld_w0 (t : Fin cfg0.N) (k : Fin 256) (d : Fin 1024) :
    View.ld (iblk m c 5 t) (Rect.unit ![0, 0, 0] ![1, 256, 1024] inb_S4x256x1024_S1x256x1024_0_0_0) (ix3 0 k d) = wK m c 0 k d := by
  unfold wK
  pointwise
  blk_ext [iblk, V, idx t]

/-- The second branch's rows, read from their block. -/
theorem ld_o1 (t : Fin cfg0.N) (r k : Fin 256) :
    View.ld (iblk m c 1 t) (Rect.unit ![0, 0] ![256, 256] inb_S256x256_S256x256_0_0) (ix2 r k) = o1K m c (tok t r) k := by
  unfold o1K tok
  pointwise
  blk_ext [iblk, V, idx t]

/-- The second branch's gate logits, read from their block. -/
theorem ld_z1 (t : Fin cfg0.N) (r : Fin 256) (d : Fin 1024) :
    View.ld (iblk m c 4 t) (Rect.unit ![0, 1024] ![256, 1024] inb_S256x4096_S256x1024_0_1024) (ix2 r d)
      = zK m c 1 (tok t r) d := by
  unfold zK tok
  pointwise
  blk_ext [iblk, V, idx t]

/-- The second branch's weights, read from their block. -/
theorem ld_w1 (t : Fin cfg0.N) (k : Fin 256) (d : Fin 1024) :
    View.ld (iblk m c 5 t) (Rect.unit ![1, 0, 0] ![1, 256, 1024] inb_S4x256x1024_S1x256x1024_1_0_0) (ix3 0 k d) = wK m c 1 k d := by
  unfold wK
  pointwise
  blk_ext [iblk, V, idx t]

/-- The third branch's rows, read from their block. -/
theorem ld_o2 (t : Fin cfg0.N) (r k : Fin 256) :
    View.ld (iblk m c 2 t) (Rect.unit ![0, 0] ![256, 256] inb_S256x256_S256x256_0_0) (ix2 r k) = o2K m c (tok t r) k := by
  unfold o2K tok
  pointwise
  blk_ext [iblk, V, idx t]

/-- The third branch's gate logits, read from their block. -/
theorem ld_z2 (t : Fin cfg0.N) (r : Fin 256) (d : Fin 1024) :
    View.ld (iblk m c 4 t) (Rect.unit ![0, 2048] ![256, 1024] inb_S256x4096_S256x1024_0_2048) (ix2 r d)
      = zK m c 2 (tok t r) d := by
  unfold zK tok
  pointwise
  blk_ext [iblk, V, idx t]

/-- The third branch's weights, read from their block. -/
theorem ld_w2 (t : Fin cfg0.N) (k : Fin 256) (d : Fin 1024) :
    View.ld (iblk m c 5 t) (Rect.unit ![2, 0, 0] ![1, 256, 1024] inb_S4x256x1024_S1x256x1024_2_0_0) (ix3 0 k d) = wK m c 2 k d := by
  unfold wK
  pointwise
  blk_ext [iblk, V, idx t]

/-- The fourth branch's gate logits, read from their block. -/
theorem ld_z3 (t : Fin cfg0.N) (r : Fin 256) (d : Fin 1024) :
    View.ld (iblk m c 4 t) (Rect.unit ![0, 3072] ![256, 1024] inb_S256x4096_S256x1024_0_3072) (ix2 r d)
      = zK m c 3 (tok t r) d := by
  unfold zK tok
  pointwise
  blk_ext [iblk, V, idx t]

/-- The fourth branch's weights, read from their block. -/
theorem ld_w3 (t : Fin cfg0.N) (k : Fin 256) (d : Fin 1024) :
    View.ld (iblk m c 5 t) (Rect.unit ![3, 0, 0] ![1, 256, 1024] inb_S4x256x1024_S1x256x1024_3_0_0) (ix3 0 k d) = wK m c 3 k d := by
  unfold wK
  pointwise
  blk_ext [iblk, V, idx t]

/-- The output projection's block. -/
theorem blk_wo (t : Fin cfg0.N) (d e : Fin 1024) : iblk m c 6 t (ix2 d e) = woK m c d e := by
  unfold woK
  blk_ext [iblk, V, idx t]

/-- The residual stream's block. -/
theorem blk_x (t : Fin cfg0.N) (r : Fin 256) (d : Fin 1024) : iblk m c 7 t (ix2 r d) = xK m c (tok t r) d := by
  unfold xK tok
  blk_ext [iblk, V, idx t]

/-- The gain's block. -/
theorem blk_g (t : Fin cfg0.N) (d : Fin 1024) : iblk m c 8 t (ix2 0 d) = gK m c d := by
  unfold gK
  blk_ext [iblk, V, idx t]

/-- The first three branches' part of the merged rows at a grid point. -/
def front (t : Fin cfg0.N) : FVec Ideal S256x1024 .f32 :=
  k0_pay4 (F := Ideal) (View.ld (iblk m c 0 t) (Rect.unit ![0, 0] ![256, 256] inb_S256x256_S256x256_0_0))
    (View.ld (iblk m c 5 t) (Rect.unit ![0, 0, 0] ![1, 256, 1024] inb_S4x256x1024_S1x256x1024_0_0_0))
    (View.ld (iblk m c 4 t) (Rect.unit ![0, 0] ![256, 1024] inb_S256x4096_S256x1024_0_0))
    (View.ld (iblk m c 1 t) (Rect.unit ![0, 0] ![256, 256] inb_S256x256_S256x256_0_0))
    (View.ld (iblk m c 5 t) (Rect.unit ![1, 0, 0] ![1, 256, 1024] inb_S4x256x1024_S1x256x1024_1_0_0))
    (View.ld (iblk m c 4 t) (Rect.unit ![0, 1024] ![256, 1024] inb_S256x4096_S256x1024_0_1024))
    (View.ld (iblk m c 2 t) (Rect.unit ![0, 0] ![256, 256] inb_S256x256_S256x256_0_0))
    (View.ld (iblk m c 5 t) (Rect.unit ![2, 0, 0] ![1, 256, 1024] inb_S4x256x1024_S1x256x1024_2_0_0))
    (View.ld (iblk m c 4 t) (Rect.unit ![0, 2048] ![256, 1024] inb_S256x4096_S256x1024_0_2048))

/-- The first three branches' part of the merged rows, over the argument arrays. -/
theorem front_blk (t : Fin cfg0.N) (r : Fin 256) (d : Fin 1024) :
    front m c t (ix2 r d)
      = Ideal.logistic (zK m c 0 (tok t r) d) * proj (o0K m c (tok t r)) (wK m c 0) d
        + Ideal.logistic (zK m c 1 (tok t r) d) * proj (o1K m c (tok t r)) (wK m c 1) d
        + Ideal.logistic (zK m c 2 (tok t r) d) * proj (o2K m c (tok t r)) (wK m c 2) d := by
  unfold front
  rw [front_at]
  unfold proj
  simp only [ld_o0, ld_o1, ld_o2, ld_z0, ld_z1, ld_z2, ld_w0, ld_w1, ld_w2]

/-- The merged rows stored at a grid point. -/
def mergedBlk (t : Fin cfg0.N) : FVec Ideal S256x1024 .bf16 :=
  k0_pay1 (F := Ideal) (front m c t) (iblk m c 3 t)
    (k0_pay5 (View.ld (iblk m c 5 t) (Rect.unit ![3, 0, 0] ![1, 256, 1024] inb_S4x256x1024_S1x256x1024_3_0_0)))
    (constant S256x1024 .f32 0x00000000#32)
    (View.ld (iblk m c 4 t) (Rect.unit ![0, 3072] ![256, 1024] inb_S256x4096_S256x1024_0_3072))

/-- The fourth branch's block. -/
theorem blk_o3 (t : Fin cfg0.N) (r k : Fin 256) : iblk m c 3 t (ix2 r k) = o3K m c (tok t r) k := by
  unfold o3K tok
  blk_ext [iblk, V, idx t]

/-- The merged rows stored at a grid point, over the argument arrays. -/
theorem merged_blk (t : Fin cfg0.N) (r : Fin 256) (d : Fin 1024) : mergedBlk m c t (ix2 r d) = mergedK m c (tok t r) d := by
  unfold mergedBlk
  rw [merged_at, front_blk]
  unfold mergedK merged oK
  rw [Fin.sum_univ_four]
  unfold proj
  simp only [blk_o3, ld_z3, ld_w3]
  rfl

/-- The product stored at a grid point. -/
def prodBlk (t : Fin cfg0.N) : FVec Ideal S256x1024 .f32 :=
  k0_pay2 (F := Ideal) (front m c t) (iblk m c 3 t)
    (k0_pay5 (View.ld (iblk m c 5 t) (Rect.unit ![3, 0, 0] ![1, 256, 1024] inb_S4x256x1024_S1x256x1024_3_0_0)))
    (constant S256x1024 .f32 0x00000000#32)
    (View.ld (iblk m c 4 t) (Rect.unit ![0, 3072] ![256, 1024] inb_S256x4096_S256x1024_0_3072)) (iblk m c 6 t)

/-- The product stored at a grid point, over the argument arrays. -/
theorem prod_blk (t : Fin cfg0.N) (r : Fin 256) (e : Fin 1024) : prodBlk m c t (ix2 r e) = prodK m c (tok t r) e := by
  unfold prodBlk
  rw [prod_at]
  unfold prodK outRow
  exact Finset.sum_congr rfl fun d _ => congrArg₂ (· * ·) (merged_blk m c t r d) (blk_wo m c t d e)

/-- The residual rows stored at a grid point. -/
def outBlk (t : Fin cfg0.N) : FVec Ideal S256x1024 .f32 :=
  k0_pay3 (F := Ideal) (front m c t) (iblk m c 3 t)
    (k0_pay5 (View.ld (iblk m c 5 t) (Rect.unit ![3, 0, 0] ![1, 256, 1024] inb_S4x256x1024_S1x256x1024_3_0_0)))
    (constant S256x1024 .f32 0x00000000#32)
    (View.ld (iblk m c 4 t) (Rect.unit ![0, 3072] ![256, 1024] inb_S256x4096_S256x1024_0_3072)) (iblk m c 6 t) (iblk m c 7 t)
    (iblk m c 8 t)

/-- The residual rows stored at a grid point, over the argument arrays. -/
theorem out_blk (t : Fin cfg0.N) (r : Fin 256) (e : Fin 1024) :
    outBlk m c t (ix2 r e) = addNorm (xK m c (tok t r)) (prodK m c (tok t r)) (gK m c) e := by
  unfold outBlk
  rw [out_at]
  have h : (fun e => prodBlk m c t (ix2 r e)) = prodK m c (tok t r) := funext fun e => prod_blk m c t r e
  unfold prodBlk at h
  rw [h]
  simp only [blk_x, blk_g]

/-- The residual rows, as an array. -/
def outArr (i : S2048x1024.Idx) : EReal := addNorm (xK m c (i 0)) (prodK m c (i 0)) (gK m c) (i 1)

/-- Window 9 leaves the residual rows. -/
theorem arr9 : (dats m 0 c).arrAt 9 (cfgs 0).N = outArr m c := by
  refine (dats m 0 c).arrAt_eq_of_covers 9 _ (by decide +kernel) fun t hf y => ?_
  blk_simp
  rw [after0_9]
  idx_vars y
  have key : outArr m c (((View.whole main_v0_0).slice (win0_9.rect t)).emb (ix2 y0 y1)) = outArr m c (ix2 (tok t y0) y1) := by
    refine congrArg (outArr m c) ?_
    unfold tok
    blk_ext [idx t]
  unfold out0_9
  frame_out
  exact (out_blk m c t y0 y1).trans key.symm

/-- The merged rows, as an array. -/
def mergedArr (i : S2048x1024.Idx) : EReal := mergedK m c (i 0) (i 1)

/-- Window 10 leaves the merged rows. -/
theorem arr10 : (dats m 0 c).arrAt 10 (cfgs 0).N = mergedArr m c := by
  refine (dats m 0 c).arrAt_eq_of_covers 10 _ (by decide +kernel) fun t hf y => ?_
  blk_simp
  rw [after0_10]
  idx_vars y
  have key : mergedArr m c (((View.whole main_v0_1).slice (win0_10.rect t)).emb (ix2 y0 y1)) = mergedArr m c (ix2 (tok t y0) y1) := by
    refine congrArg (mergedArr m c) ?_
    unfold tok
    blk_ext [idx t]
  unfold out0_10
  frame_out
  exact (merged_blk m c t y0 y1).trans key.symm

/-- The products, as an array. -/
def prodArr (i : S2048x1024.Idx) : EReal := prodK m c (i 0) (i 1)

/-- Window 11 leaves the products. -/
theorem arr11 : (dats m 0 c).arrAt 11 (cfgs 0).N = prodArr m c := by
  refine (dats m 0 c).arrAt_eq_of_covers 11 _ (by decide +kernel) fun t hf y => ?_
  blk_simp
  rw [after0_11]
  idx_vars y
  have key : prodArr m c (((View.whole main_v0_2).slice (win0_11.rect t)).emb (ix2 y0 y1)) = prodArr m c (ix2 (tok t y0) y1) := by
    refine congrArg (prodArr m c) ?_
    unfold tok
    blk_ext [idx t]
  unfold out0_11
  frame_out
  exact (prod_blk m c t y0 y1).trans key.symm

section Reference

variable (x0 x1 x2 x3 : FVec Ideal Cert.Reference14Ideal.S2048x256 .bf16) (x4 : FVec Ideal Cert.Reference14Ideal.S2048x4096 .f32)
  (x5 : FVec Ideal Cert.Reference14Ideal.S4x256x1024 .bf16) (x6 : FVec Ideal Cert.Reference14Ideal.S1024x1024 .bf16)
  (x7 : FVec Ideal Cert.Reference14Ideal.S2048x1024 .f32) (x8 : FVec Ideal Cert.Reference14Ideal.S1x1024 .f32)

/-- The four branches' outputs, by branch and token. -/
def oR (n : Fin 4) (s : Fin 2048) : Fin 256 → EReal :=
  ![fun k => x0 (ix2 s k), fun k => x1 (ix2 s k), fun k => x2 (ix2 s k), fun k => x3 (ix2 s k)] n

/-- The gates' logits, by branch and token. -/
def zR (n : Fin 4) (s : Fin 2048) : Row := fun d =>
  x4 (ix2 s ⟨n.val * 1024 + d.val, by have := n.isLt; have := d.isLt; omega⟩)

/-- The branches' projection weights. -/
def wR (n : Fin 4) (k : Fin 256) : Row := fun d => x5 (ix3 n k d)

/-- The output projection's weights. -/
def woR (d : Fin 1024) : Row := fun e => x6 (ix2 d e)

/-- The merged rows, by token. -/
def mergedR (s : Fin 2048) : Row := merged (fun n => zR x4 n s) (fun n => oR x0 x1 x2 x3 n s) (wR x5)

/-- The merged rows through the output projection, by token. -/
def prodR (s : Fin 2048) : Row := outRow (fun n => zR x4 n s) (fun n => oR x0 x1 x2 x3 n s) (wR x5) (woR x6)

/-- The stacked branch outputs. -/
theorem stack_at (s : Fin 2048) (n : Fin 4) (k : Fin 256) :
    val_main_v17 (F := Ideal) x0 x1 x2 x3 (ix3 s n k) = oR x0 x1 x2 x3 n s k := by
  unfold oR
  pointwise [val_main_v17, val_main_v16, val_main_v15, val_main_v14, val_main_v13, val_main_v3, val_main_v2, val_main_v1, val_main_v0]
  fin_vals n with hn
  · obtain rfl : n = 0 := Fin.ext hn
    rfl
  · obtain rfl : n = 1 := Fin.ext hn
    rfl
  · obtain rfl : n = 2 := Fin.ext hn
    rfl
  · obtain rfl : n = 3 := Fin.ext hn
    rfl

/-- The branches' projections. -/
theorem proj_ref (s : Fin 2048) (n : Fin 4) (d : Fin 1024) :
    val_main_v19 (F := Ideal) x0 x1 x2 x3 x5 (ix3 s n d) = proj (oR x0 x1 x2 x3 n s) (wR x5 n) d := by
  pointwise [val_main_v19, val_main_v18, val_main_v4, stack_at]
  unfold proj wR
  exact Finset.sum_congr rfl fun k _ => mul_comm _ _

/-- The gates. -/
theorem gate_ref (s : Fin 2048) (n : Fin 4) (d : Fin 1024) :
    val_main_v12 (F := Ideal) x4 (ix3 s n d) = Ideal.logistic (zR x4 n s d) := by
  pointwise [val_main_v12, val_main_v11, val_main_v10, val_main_v9, val_main_v8, val_main_v7, val_main_v6, val_main_cst, val_main_cst_0, zR]
  rfl

/-- The reference's merged rows. -/
theorem merged_ref (s : Fin 2048) (d : Fin 1024) :
    val_main_v21 (F := Ideal) x0 x1 x2 x3 x4 x5 (ix2 s d) = mergedR x0 x1 x2 x3 x4 x5 s d := by
  pointwise [val_main_v21, val_main_v20, val_main_cst_1]
  simp only [gate_ref, proj_ref]
  rfl

/-- The reference's merged rows, as stored. -/
theorem stored_ref (s : Fin 2048) (d : Fin 1024) :
    val_main_v36 (F := Ideal) x0 x1 x2 x3 x4 x5 (ix2 s d) = mergedR x0 x1 x2 x3 x4 x5 s d := by
  pointwise [val_main_v36]
  exact merged_ref x0 x1 x2 x3 x4 x5 s d

/-- The reference's products. -/
theorem prod_ref (s : Fin 2048) (e : Fin 1024) :
    val_main_v22 (F := Ideal) x0 x1 x2 x3 x4 x5 x6 (ix2 s e) = prodR x0 x1 x2 x3 x4 x5 x6 s e := by
  pointwise [val_main_v22, val_main_v5]
  simp only [merged_ref]
  rfl

/-- The reference's residual rows. -/
theorem out_ref (s : Fin 2048) (e : Fin 1024) :
    val_main_v35 (F := Ideal) x0 x1 x2 x3 x4 x5 x6 x7 x8 (ix2 s e)
      = addNorm (fun e => x7 (ix2 s e)) (prodR x0 x1 x2 x3 x4 x5 x6 s) (fun e => x8 (ix2 0 e)) e := by
  pointwise [val_main_v35, val_main_v34, val_main_v33, val_main_v32, val_main_v31, val_main_v30, val_main_v29, val_main_v28,
    val_main_v27, val_main_v26, val_main_v25, val_main_v24, val_main_v23, val_main_cst_2, val_main_cst_3, val_main_cst_4]
  simp only [prod_ref]
  rfl

end Reference

/-- The reference runs to its end and leaves its arguments as they were. -/
theorem frame_ri : Cert.quiescent_Reference14Ideal := fun m ρ _ =>
  (θ_run Cert.Reference14Ideal.defs _ _).mono (fun r h => ⟨fun c => (h c).2.2.2,
    Idealize.ShloMosaic.sem_eq_zero_of_no_sems (by decide) r.2⟩) (Cert.Reference14Ideal.Value.run (F := Ideal) m ρ)

/-- The kernel's three results are the reference's. -/
theorem algebraic : Cert.algebraic_Kernel14Ideal_Reference14Ideal := by
  intro m g m' g' _ hagree
  refine ⟨fun c => outArr m c, fun c => mergedArr m c, fun c => prodArr m c,
    (θ_run _ _ _).mono (fun r h c => ⟨(h c).1.trans (arr9 m c), (h c).2.1.trans (arr10 m c), (h c).2.2.1.trans (arr11 m c),
      (h c).2.2.2⟩) (run_blocks m g),
    (θ_run _ _ _).mono (fun r h c => ⟨(h c).1.trans ?_, (h c).2.1.trans ?_, (h c).2.2.1.trans ?_, (h c).2.2.2⟩)
      (Cert.Reference14Ideal.Value.run m' g')⟩
  · obtain ⟨h0, h1, h2, h3, h4, h5, h6, h7, h8⟩ := hagree c
    refine (val_main_v35_eq m' c).trans ?_
    rw [h0, h1, h2, h3, h4, h5, h6, h7, h8]
    funext i
    obtain ⟨s, d, rfl⟩ : ∃ (s : Fin 2048) (d : Fin 1024), i = ix2 s d := ⟨i 0, i 1, by idx_vars i; blk_ext⟩
    exact out_ref _ _ _ _ _ _ _ _ _ s d
  · obtain ⟨h0, h1, h2, h3, h4, h5, _⟩ := hagree c
    refine (val_main_v36_eq _ _ _ _ _ _).trans ?_
    rw [h0, h1, h2, h3, h4, h5]
    funext i
    obtain ⟨s, d, rfl⟩ : ∃ (s : Fin 2048) (d : Fin 1024), i = ix2 s d := ⟨i 0, i 1, by idx_vars i; blk_ext⟩
    exact stored_ref _ _ _ _ _ _ s d
  · obtain ⟨h0, h1, h2, h3, h4, h5, h6, _⟩ := hagree c
    refine (val_main_v22_eq _ _ _ _ _ _ _).trans ?_
    rw [h0, h1, h2, h3, h4, h5, h6]
    funext i
    obtain ⟨s, d, rfl⟩ : ∃ (s : Fin 2048) (d : Fin 1024), i = ix2 s d := ⟨i 0, i 1, by idx_vars i; blk_ext⟩
    exact prod_ref _ _ _ _ _ _ _ s d

end Cert.MergeForward

end
-- ==== Proof.AttnBranchGrad.lean ====
/- The gradient in the projection of the attention branch: the product call's array is the reference's. -/
module

public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.AttnBranchGrad

open Cert.Kernel15Ideal Cert.Kernel15Ideal.Gen Cert.Kernel15Ideal.Value Idealize.ShloMosaic Idealize.ShloMosaic.TcCoe
open Idealize.SL.Sem Cert.Reference15Ideal.Read

/-- The stored block: the tokens' products, added up. -/
theorem pay_at (a : FVec Ideal S2048x256 .bf16) (b : FVec Ideal S2048x1024 .bf16) (r : Fin 256) (q : Fin 1024) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, 0] ∧ win0_1.index t = ![0, 0] ∧ win0_2.index t = ![0, 0] :=
  (by decide +kernel : ∀ t : Fin grid0.N, _)

/-- The branch's rows, by token. -/
def rowK (s : Fin 2048) (k : Fin 256) : EReal := m ((c : Thread nD τ).loc main_arg0) (ix2 s k)

/-- The gradient in the four branches' projections, by token. -/
def ctK (s : Fin 2048) (k : Fin 4096) : EReal := m ((c : Thread nD τ).loc main_arg1) (ix2 s k)

/-- The host's slice: the first branch's columns. -/
theorem V_ct : V m c main_v0 = extractStridedSlice S2048x1024 ![0, 0] (m ((c : Thread nD τ).loc main_arg1)) slices_S2048x4096_S2048x1024_0_0 := by
  unfold V
  after_results_simp

/-- The slice at an index. -/
theorem ct_at (s : Fin 2048) (j : Fin 1024) : V m c main_v0 (ix2 s j) = ctK m c s ⟨0 + j.val, by omega⟩ := by
  rw [V_ct]
  unfold ctK
  pointwise

/-- The gradient as an array, over the argument arrays. -/
def grad (i : S256x1024.Idx) : EReal := ∑ s : Fin 2048, rowK m c s (i 0) * ctK m c s ⟨0 + (i 1).val, by have : (i 1).val < 1024 := (i 1).isLt; omega⟩

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S256x1024.Idx, (i 0).val = y0.val → (i 1).val = y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · refine (ct_at m c s (i 1)).symm.trans ?_
      blk_ext [iblk, idx t, h1]
  have k := key (((View.whole main_v1).slice (win0_2.rect t)).emb (ix2 y0 y1)) (by blk_simp [idx t]) (by blk_simp [idx t])
  frame_out
  exact k.symm

/-- The reference's gradient, over the same arrays. -/
theorem ref (a : (⟨Cert.Reference15Ideal.S2048x256, .bf16⟩ : BufTy).Contents (Elt Ideal))
    (b : (⟨Cert.Reference15Ideal.S2048x4096, .bf16⟩ : BufTy).Contents (Elt Ideal)) (i : Fin 256) (j : Fin 1024) :
    val_main_v5 (F := Ideal) a b (ix2 i j) = ∑ s : Fin 2048, (a (ix2 s i) : EReal) * b (ix2 s ⟨0 + j.val, by omega⟩) := by
  pointwise [val_main_v5, val_main_v4, val_main_v3, val_main_v2, val_main_v1, val_main_v0]
  exact Finset.sum_congr rfl fun s _ => mul_comm _ _

/-- The reference runs to its end and leaves its arguments as they were. -/
theorem frame_ri : Cert.quiescent_Reference15Ideal := fun m ρ _ =>
  (θ_run Cert.Reference15Ideal.defs _ _).mono (fun r h => ⟨fun c => (h c).2,
    Idealize.ShloMosaic.sem_eq_zero_of_no_sems (by decide) r.2⟩) (Cert.Reference15Ideal.Value.run (F := Ideal) m ρ)

/-- The kernel's gradient is the reference's. -/
theorem algebraic : Cert.algebraic_Kernel15Ideal_Reference15Ideal := by
  pair_intro
  · run_from Cert.Kernel15Ideal.Value.run_blocks m g
  · run_from Cert.Reference15Ideal.Value.run m' g'
    refine (val_main_v5_eq _ _).trans (Eq.trans ?_ (arr m c).symm)
    funext i
    obtain ⟨r, q, rfl⟩ : ∃ (r : Fin 256) (q : Fin 1024), i = ix2 r q := ⟨i 0, i 1, by idx_vars i; blk_ext⟩
    exact ref _ _ r q

end Cert.AttnBranchGrad

end
-- ==== Proof.HgrnBranchGrad.lean ====
/- The gradient in the projection of the HGRN2 branch: the product call's array is the reference's. -/
module

public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.HgrnBranchGrad

open Cert.Kernel16Ideal Cert.Kernel16Ideal.Gen Cert.Kernel16Ideal.Value Idealize.ShloMosaic Idealize.ShloMosaic.TcCoe
open Idealize.SL.Sem Cert.Reference16Ideal.Read

/-- The stored block: the tokens' products, added up. -/
theorem pay_at (a : FVec Ideal S2048x256 .bf16) (b : FVec Ideal S2048x1024 .bf16) (r : Fin 256) (q : Fin 1024) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, 0] ∧ win0_1.index t = ![0, 1] ∧ win0_2.index t = ![0, 0] :=
  (by decide +kernel : ∀ t : Fin grid0.N, _)

/-- The branch's rows, by token. -/
def rowK (s : Fin 2048) (k : Fin 256) : EReal := m ((c : Thread nD τ).loc main_arg0) (ix2 s k)

/-- The gradient in the four branches' projections, by token. -/
def ctK (s : Fin 2048) (k : Fin 4096) : EReal := m ((c : Thread nD τ).loc main_arg1) (ix2 s k)

/-- The gradient as an array, over the argument arrays. -/
def grad (i : S256x1024.Idx) : EReal := ∑ s : Fin 2048, rowK m c s (i 0) * ctK m c s ⟨1024 + (i 1).val, by have : (i 1).val < 1024 := (i 1).isLt; omega⟩

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S256x1024.Idx, (i 0).val = y0.val → (i 1).val = y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · unfold ctK
      blk_ext [iblk, V, idx t, h1]
  have k := key (((View.whole main_v0).slice (win0_2.rect t)).emb (ix2 y0 y1)) (by blk_simp [idx t]) (by blk_simp [idx t])
  frame_out
  exact k.symm

/-- The reference's gradient, over the same arrays. -/
theorem ref (a : (⟨Cert.Reference16Ideal.S2048x256, .bf16⟩ : BufTy).Contents (Elt Ideal))
    (b : (⟨Cert.Reference16Ideal.S2048x4096, .bf16⟩ : BufTy).Contents (Elt Ideal)) (i : Fin 256) (j : Fin 1024) :
    val_main_v5 (F := Ideal) a b (ix2 i j) = ∑ s : Fin 2048, (a (ix2 s i) : EReal) * b (ix2 s ⟨1024 + j.val, by omega⟩) := by
  pointwise [val_main_v5, val_main_v4, val_main_v3, val_main_v2, val_main_v1, val_main_v0]
  exact Finset.sum_congr rfl fun s _ => mul_comm _ _

/-- The reference runs to its end and leaves its arguments as they were. -/
theorem frame_ri : Cert.quiescent_Reference16Ideal := fun m ρ _ =>
  (θ_run Cert.Reference16Ideal.defs _ _).mono (fun r h => ⟨fun c => (h c).2,
    Idealize.ShloMosaic.sem_eq_zero_of_no_sems (by decide) r.2⟩) (Cert.Reference16Ideal.Value.run (F := Ideal) m ρ)

/-- The kernel's gradient is the reference's. -/
theorem algebraic : Cert.algebraic_Kernel16Ideal_Reference16Ideal := by
  pair_intro
  · run_from Cert.Kernel16Ideal.Value.run_blocks m g
  · run_from Cert.Reference16Ideal.Value.run m' g'
    refine (val_main_v5_eq _ _).trans (Eq.trans ?_ (arr m c).symm)
    funext i
    obtain ⟨r, q, rfl⟩ : ∃ (r : Fin 256) (q : Fin 1024), i = ix2 r q := ⟨i 0, i 1, by idx_vars i; blk_ext⟩
    exact ref _ _ r q

end Cert.HgrnBranchGrad

end
-- ==== Proof.GatingBranchGrad.lean ====
/- The gradient in the projection of the spatial gating branch: the product call's array is the reference's. -/
module

public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.GatingBranchGrad

open Cert.Kernel17Ideal Cert.Kernel17Ideal.Gen Cert.Kernel17Ideal.Value Idealize.ShloMosaic Idealize.ShloMosaic.TcCoe
open Idealize.SL.Sem Cert.Reference17Ideal.Read

/-- The stored block: the tokens' products, added up. -/
theorem pay_at (a : FVec Ideal S2048x256 .bf16) (b : FVec Ideal S2048x1024 .bf16) (r : Fin 256) (q : Fin 1024) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, 0] ∧ win0_1.index t = ![0, 2] ∧ win0_2.index t = ![0, 0] :=
  (by decide +kernel : ∀ t : Fin grid0.N, _)

/-- The branch's rows, by token. -/
def rowK (s : Fin 2048) (k : Fin 256) : EReal := m ((c : Thread nD τ).loc main_arg0) (ix2 s k)

/-- The gradient in the four branches' projections, by token. -/
def ctK (s : Fin 2048) (k : Fin 4096) : EReal := m ((c : Thread nD τ).loc main_arg1) (ix2 s k)

/-- The gradient as an array, over the argument arrays. -/
def grad (i : S256x1024.Idx) : EReal := ∑ s : Fin 2048, rowK m c s (i 0) * ctK m c s ⟨2048 + (i 1).val, by have : (i 1).val < 1024 := (i 1).isLt; omega⟩

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S256x1024.Idx, (i 0).val = y0.val → (i 1).val = y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · unfold ctK
      blk_ext [iblk, V, idx t, h1]
  have k := key (((View.whole main_v0).slice (win0_2.rect t)).emb (ix2 y0 y1)) (by blk_simp [idx t]) (by blk_simp [idx t])
  frame_out
  exact k.symm

/-- The reference's gradient, over the same arrays. -/
theorem ref (a : (⟨Cert.Reference17Ideal.S2048x256, .bf16⟩ : BufTy).Contents (Elt Ideal))
    (b : (⟨Cert.Reference17Ideal.S2048x4096, .bf16⟩ : BufTy).Contents (Elt Ideal)) (i : Fin 256) (j : Fin 1024) :
    val_main_v5 (F := Ideal) a b (ix2 i j) = ∑ s : Fin 2048, (a (ix2 s i) : EReal) * b (ix2 s ⟨2048 + j.val, by omega⟩) := by
  pointwise [val_main_v5, val_main_v4, val_main_v3, val_main_v2, val_main_v1, val_main_v0]
  exact Finset.sum_congr rfl fun s _ => mul_comm _ _

/-- The reference runs to its end and leaves its arguments as they were. -/
theorem frame_ri : Cert.quiescent_Reference17Ideal := fun m ρ _ =>
  (θ_run Cert.Reference17Ideal.defs _ _).mono (fun r h => ⟨fun c => (h c).2,
    Idealize.ShloMosaic.sem_eq_zero_of_no_sems (by decide) r.2⟩) (Cert.Reference17Ideal.Value.run (F := Ideal) m ρ)

/-- The kernel's gradient is the reference's. -/
theorem algebraic : Cert.algebraic_Kernel17Ideal_Reference17Ideal := by
  pair_intro
  · run_from Cert.Kernel17Ideal.Value.run_blocks m g
  · run_from Cert.Reference17Ideal.Value.run m' g'
    refine (val_main_v5_eq _ _).trans (Eq.trans ?_ (arr m c).symm)
    funext i
    obtain ⟨r, q, rfl⟩ : ∃ (r : Fin 256) (q : Fin 1024), i = ix2 r q := ⟨i 0, i 1, by idx_vars i; blk_ext⟩
    exact ref _ _ r q

end Cert.GatingBranchGrad

end
-- ==== Proof.LruBranchGrad.lean ====
/- The gradient in the projection of the RG-LRU branch: the product call's array is the reference's. -/
module

public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.LruBranchGrad

open Cert.Kernel18Ideal Cert.Kernel18Ideal.Gen Cert.Kernel18Ideal.Value Idealize.ShloMosaic Idealize.ShloMosaic.TcCoe
open Idealize.SL.Sem Cert.Reference18Ideal.Read

/-- The stored block: the tokens' products, added up. -/
theorem pay_at (a : FVec Ideal S2048x256 .bf16) (b : FVec Ideal S2048x1024 .bf16) (r : Fin 256) (q : Fin 1024) :
    k0_pay1 (F := Ideal) a b (ix2 r q) = ∑ s : Fin 2048, a (ix2 s r) * b (ix2 s q) := by
  unfold_payloads
  pointwise

variable (m : (ℓ : Loc nD τ sig) → Buf (Elt Ideal) ℓ) (c : Dev nD)

/-- Every window's block index at a grid point. -/
theorem idx : ∀ t : Fin cfg0.N, win0_0.index t = ![0, 0] ∧ win0_1.index t = ![0, 3] ∧ win0_2.index t = ![0, 0] :=
  (by decide +kernel : ∀ t : Fin grid0.N, _)

/-- The branch's rows, by token. -/
def rowK (s : Fin 2048) (k : Fin 256) : EReal := m ((c : Thread nD τ).loc main_arg0) (ix2 s k)

/-- The gradient in the four branches' projections, by token. -/
def ctK (s : Fin 2048) (k : Fin 4096) : EReal := m ((c : Thread nD τ).loc main_arg1) (ix2 s k)

/-- The gradient as an array, over the argument arrays. -/
def grad (i : S256x1024.Idx) : EReal := ∑ s : Fin 2048, rowK m c s (i 0) * ctK m c s ⟨3072 + (i 1).val, by have : (i 1).val < 1024 := (i 1).isLt; omega⟩

/-- The call leaves the gradient. -/
theorem arr : (dats m 0 c).arrAt 2 (cfgs 0).N = grad m c := by
  refine (dats m 0 c).arrAt_eq_of_covers 2 _ (by decide +kernel) fun t hf y => ?_
  blk_simp
  rw [after0_2]
  idx_vars y
  have key : ∀ i : S256x1024.Idx, (i 0).val = y0.val → (i 1).val = y1.val →
      grad m c i = k0_pay1 (F := Ideal) (iblk m c 0 t) (iblk m c 1 t) (ix2 y0 y1) := by
    intro i h0 h1
    rw [pay_at]
    unfold grad
    refine Finset.sum_congr rfl fun s _ => congr (congrArg HMul.hMul ?_) ?_
    · unfold rowK
      blk_ext [iblk, V, idx t, h0]
    · unfold ctK
      blk_ext [iblk, V, idx t, h1]
  have k := key (((View.whole main_v0).slice (win0_2.rect t)).emb (ix2 y0 y1)) (by blk_simp [idx t]) (by blk_simp [idx t])
  frame_out
  exact k.symm

/-- The reference's gradient, over the same arrays. -/
theorem ref (a : (⟨Cert.Reference18Ideal.S2048x256, .bf16⟩ : BufTy).Contents (Elt Ideal))
    (b : (⟨Cert.Reference18Ideal.S2048x4096, .bf16⟩ : BufTy).Contents (Elt Ideal)) (i : Fin 256) (j : Fin 1024) :
    val_main_v5 (F := Ideal) a b (ix2 i j) = ∑ s : Fin 2048, (a (ix2 s i) : EReal) * b (ix2 s ⟨3072 + j.val, by omega⟩) := by
  pointwise [val_main_v5, val_main_v4, val_main_v3, val_main_v2, val_main_v1, val_main_v0]
  exact Finset.sum_congr rfl fun s _ => mul_comm _ _

/-- The reference runs to its end and leaves its arguments as they were. -/
theorem frame_ri : Cert.quiescent_Reference18Ideal := fun m ρ _ =>
  (θ_run Cert.Reference18Ideal.defs _ _).mono (fun r h => ⟨fun c => (h c).2,
    Idealize.ShloMosaic.sem_eq_zero_of_no_sems (by decide) r.2⟩) (Cert.Reference18Ideal.Value.run (F := Ideal) m ρ)

/-- The kernel's gradient is the reference's. -/
theorem algebraic : Cert.algebraic_Kernel18Ideal_Reference18Ideal := by
  pair_intro
  · run_from Cert.Kernel18Ideal.Value.run_blocks m g
  · run_from Cert.Reference18Ideal.Value.run m' g'
    refine (val_main_v5_eq _ _).trans (Eq.trans ?_ (arr m c).symm)
    funext i
    obtain ⟨r, q, rfl⟩ : ∃ (r : Fin 256) (q : Fin 1024), i = ix2 r q := ⟨i 0, i 1, by idx_vars i; blk_ext⟩
    exact ref _ _ r q

end Cert.LruBranchGrad

end
-- ==== Proof.AdamSpec.lean ====
/- One step of AdamW on one element, over the extended reals: the two moments and the update. -/
module

public import Idealize.ShloMosaic.PureOps.Ideal
public import Idealize.ShloMosaic.PureOps.Ideal.Laws

@[expose] public section

noncomputable section

namespace Cert.AdamSpec

open Idealize.ShloMosaic

/-- The first moment after the step. -/
def moment1 (m g : EReal) : EReal := Ideal.ofBits .f32 0x3F666666#32 * m + Ideal.ofBits .f32 0x3DCCCCCD#32 * g

/-- The second moment after the step. -/
def moment2 (v g : EReal) : EReal := Ideal.ofBits .f32 0x3F7FBE77#32 * v + Ideal.ofBits .f32 0x3A83126F#32 * (g * g)

/-- The update of the weight: the corrected first moment over the root of the corrected second one, with the decay. -/
def update (w m v g : EReal) : EReal :=
  Ideal.ofBits .f32 0xBA83126F#32 * (Ideal.div (Ideal.div (moment1 m g) (Ideal.ofBits .f32 0x3F26BD02#32))
    (Ideal.sqrt (Ideal.div (moment2 v g) (Ideal.ofBits .f32 0x3C231ACC#32)) + Ideal.ofBits .f32 0x322BCC77#32)
    + Ideal.ofBits .f32 0x3C23D70A#32 * w)

/-- The first moment's correction as a real number. -/
theorem corr1 : Ideal.ofBits .f32 0x3F26BD02#32 = ((5463681 / 8388608 : ℝ) : EReal) := by
  simp [Ideal.ofBits, Ideal.ieee, -EReal.coe_mul]; norm_num

/-- The second moment's correction as a real number. -/
theorem corr2 : Ideal.ofBits .f32 0x3C231ACC#32 = ((2672307 / 268435456 : ℝ) : EReal) := by
  simp [Ideal.ofBits, Ideal.ieee, -EReal.coe_mul]; norm_num

/-- Dividing by the first correction is multiplying by its reciprocal. -/
theorem div_corr1 (x : EReal) : Ideal.div x (Ideal.ofBits .f32 0x3F26BD02#32) = x * (((5463681 / 8388608 : ℝ)⁻¹ : ℝ) : EReal) := by
  rw [corr1, Ideal.div_coe (by norm_num), one_div]

/-- Dividing by the second correction is multiplying by its reciprocal. -/
theorem div_corr2 (x : EReal) : Ideal.div x (Ideal.ofBits .f32 0x3C231ACC#32) = x * (((2672307 / 268435456 : ℝ)⁻¹ : ℝ) : EReal) := by
  rw [corr2, Ideal.div_coe (by norm_num), one_div]

/-- The update with the corrections multiplied in. -/
theorem update_eq (w m v g : EReal) : update w m v g =
    Ideal.ofBits .f32 0xBA83126F#32 * (Ideal.div (moment1 m g * (((5463681 / 8388608 : ℝ)⁻¹ : ℝ) : EReal))
      (Ideal.sqrt (moment2 v g * (((2672307 / 268435456 : ℝ)⁻¹ : ℝ) : EReal)) + Ideal.ofBits .f32 0x322BCC77#32)
      + Ideal.ofBits .f32 0x3C23D70A#32 * w) := by
  rw [update, div_corr1, div_corr2]

/-- Eight devices' parts, added one after another, are their sum. -/
theorem sum8 (p : Fin 8 → EReal) : p 0 + p 1 + p 2 + p 3 + p 4 + p 5 + p 6 + p 7 = ∑ k, p k := by
  rw [Fin.sum_univ_eight]

end Cert.AdamSpec

end
-- ==== Proof.AdamIn.lean ====
/- AdamW on the first layer of the mixer's input projection: the call's four arrays are the reference's. -/
module

public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.AdamSpec
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.AdamIn

open Cert.Kernel19Ideal Cert.Kernel19Ideal.Gen Cert.Kernel19Ideal.Value Idealize.ShloMosaic Idealize.ShloMosaic.TcCoe
open Idealize.SL.Sem Cert.Reference19Ideal.Read Cert.AdamSpec

/-- The sum of the eight devices' parts, in a block. -/
theorem g_at (p0 p1 p2 p3 p4 p5 p6 p7 : FVec Ideal S1x256x864 .bf16) (r : Fin 256) (q : Fin 864) :
    k0_pay2 (F := Ideal) p0 p1 p2 p3 p4 p5 p6 p7 (ix2 r q) =
      (p0 (ix3 0 r q) : EReal) + p1 (ix3 0 r q) + p2 (ix3 0 r q) + p3 (ix3 0 r q) + p4 (ix3 0 r q) + p5 (ix3 0 r q)
        + p6 (ix3 0 r q) + p7 (ix3 0 r q) := by
  unfold_payloads
  pointwise

/-- The first moment's named reciprocal. -/
theorem c1 : Named.named (F := Ideal) κ "c1" (φ := .f32) 0x3FC48605#32 = (((5463681 / 8388608 : ℝ)⁻¹ : ℝ) : EReal) :=
  IdealRules.named_const.ideal_named_scalar _ _ _ _ rfl

/-- The second moment's named reciprocal. -/
theorem c2 : Named.named (F := Ideal) κ "c2" (φ := .f32) 0x42C8E6D3#32 = (((2672307 / 268435456 : ℝ)⁻¹ : ℝ) : EReal) :=
  IdealRules.named_const.ideal_named_scalar _ _ _ _ rfl

/-- The first moment, in a block. -/
theorem m_at (g : FVec Ideal S256x864 .f32) (m : FVec Ideal S1x256x864 .f32) (r : Fin 256) (q : Fin 864) :
    k0_pay3 (F := Ideal) g m (ix2 r q) = moment1 (m (ix3 0 r q)) (g (ix2 r q)) := by
  unfold k0_pay3 moment1
  pointwise

/-- The second moment, in a block. -/
theorem v_at (g : FVec Ideal S256x864 .f32) (v : FVec Ideal S1x256x864 .f32) (r : Fin 256) (q : Fin 864) :
    k0_pay4 (F := Ideal) g v (ix2 r q) = moment2 (v (ix3 0 r q)) (g (ix2 r q)) := by
  unfold k0_pay4 moment2
  pointwise

/-- The update, in a block. -/
theorem d_at (g : FVec Ideal S256x864 .f32) (m v w : FVec Ideal S1x256x864 .f32) (r : Fin 256) (q : Fin 864) :
    k0_pay1 (F := Ideal) (k0_pay8 g m v) (k0_pay9 w) k0_pay10 (ix3 0 r q) =
      update (w (ix3 0 r q)) (m (ix3 0 r q)) (v (ix3 0 r q)) (g (ix2 r q)) := by
  rw [update_eq, ← m_at, ← v_at]
  unfold k0_pay1 k0_pay8 k0_pay9 k0_pay10
  pointwise [c1, c2]

variable (m : (ℓ : Loc nD τ sig) → Buf (Elt Ideal) ℓ) (c : Dev nD)

/-- Every window's block index at a grid point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The gradient of the layer at an element: the sum of the devices' parts. -/
def grad (r : Fin 1024) (q : Fin 864) : EReal := ∑ k : Fin 8, m ((c : Thread nD τ).loc main_arg0) (ix3 k r q)

/-- The layer's weight. -/
def wgt (r : Fin 1024) (q : Fin 864) : EReal := m ((c : Thread nD τ).loc main_arg1) (ix3 0 r q)

/-- The layer's first moment before the step. -/
def mom1 (r : Fin 1024) (q : Fin 864) : EReal := m ((c : Thread nD τ).loc main_arg2) (ix3 0 r q)

/-- The layer's second moment before the step. -/
def mom2 (r : Fin 1024) (q : Fin 864) : EReal := m ((c : Thread nD τ).loc main_arg3) (ix3 0 r q)

/-- The devices' parts summed in a block, as the body does. -/
def gBlk (t : Fin cfg0.N) : FVec Ideal S256x864 .f32 :=
  k0_pay2 (F := Ideal) (View.ld (iblk m c 0 t) (Rect.unit ![0, 0, 0] ![1, 256, 864] inb_S8x256x864_S1x256x864_0_0_0))
    (View.ld (iblk m c 0 t) (Rect.unit ![1, 0, 0] ![1, 256, 864] inb_S8x256x864_S1x256x864_1_0_0))
    (View.ld (iblk m c 0 t) (Rect.unit ![2, 0, 0] ![1, 256, 864] inb_S8x256x864_S1x256x864_2_0_0))
    (View.ld (iblk m c 0 t) (Rect.unit ![3, 0, 0] ![1, 256, 864] inb_S8x256x864_S1x256x864_3_0_0))
    (View.ld (iblk m c 0 t) (Rect.unit ![4, 0, 0] ![1, 256, 864] inb_S8x256x864_S1x256x864_4_0_0))
    (View.ld (iblk m c 0 t) (Rect.unit ![5, 0, 0] ![1, 256, 864] inb_S8x256x864_S1x256x864_5_0_0))
    (View.ld (iblk m c 0 t) (Rect.unit ![6, 0, 0] ![1, 256, 864] inb_S8x256x864_S1x256x864_6_0_0))
    (View.ld (iblk m c 0 t) (Rect.unit ![7, 0, 0] ![1, 256, 864] inb_S8x256x864_S1x256x864_7_0_0))

variable {t : Fin cfg0.N} {r : Fin 256} {q : Fin 864} {r' : Fin 1024} {q' : Fin 864}

/-- The summed parts of a block are the gradient's. -/
theorem gBlk_at (h1 : r'.val = t.val * 256 + r.val) (h2 : q'.val = q.val) : gBlk m c t (ix2 r q) = grad m c r' q' := by
  unfold gBlk
  rw [g_at]
  unfold grad
  rw [← sum8]
  have part : ∀ k : Fin 8, iblk m c 0 t (ix3 k r q) = m ((c : Thread nD τ).loc main_arg0) (ix3 k r' q') := fun k => by
    blk_ext [iblk, V, idx t, h1, h2]
  rw [← part, ← part, ← part, ← part, ← part, ← part, ← part, ← part]
  pointwise

/-- The weight's block. -/
theorem w_blk (h1 : r'.val = t.val * 256 + r.val) (h2 : q'.val = q.val) : iblk m c 1 t (ix3 0 r q) = wgt m c r' q' := by
  unfold wgt
  blk_ext [iblk, V, idx t, h1, h2]

/-- The first moment's block. -/
theorem m_blk (h1 : r'.val = t.val * 256 + r.val) (h2 : q'.val = q.val) : iblk m c 2 t (ix3 0 r q) = mom1 m c r' q' := by
  unfold mom1
  blk_ext [iblk, V, idx t, h1, h2]

/-- The second moment's block. -/
theorem v_blk (h1 : r'.val = t.val * 256 + r.val) (h2 : q'.val = q.val) : iblk m c 3 t (ix3 0 r q) = mom2 m c r' q' := by
  unfold mom2
  blk_ext [iblk, V, idx t, h1, h2]

/-- An array whose first layer is `f` and whose other layers are those of `old`. -/
def first (f : Fin 1024 → Fin 864 → EReal) (old : S4x1024x864.Idx → EReal) (i : S4x1024x864.Idx) : EReal :=
  if (i 0).val / 1 = 0 then f (i 1) (i 2) else old i

/-- The gradient's array. -/
theorem arr4 : (dats m 0 c).arrAt 4 (cfgs 0).N = first (grad m c) (m ((c : Thread nD τ).loc main_arg4)) := by
  refine ((dats m 0 c).arrAt_eq_of_coversWhere 4 (fun i : S4x1024x864.Idx => grad m c (i 1) (i 2)) (P := fun i : S4x1024x864.Idx => (i 0).val / 1 = 0)
    (fun β => β (0 : Fin 3) = 0) (by decide +kernel) (fun t hf y => ?_) (fun j => Iff.rfl)).trans ?_
  · blk_simp
    rw [after0_4, outsAt0]
    idx_vars y
    frame_out
    change k0_pay5 (F := Ideal) (gBlk m c t) (ix3 y0 y1 y2) = _
    have k : k0_pay5 (F := Ideal) (gBlk m c t) (ix3 y0 y1 y2) = gBlk m c t (ix2 y1 y2) := by
      unfold k0_pay5
      pointwise
    rw [k]
    exact gBlk_at m c (by blk_simp [idx t]) (by blk_simp [idx t])
  · rfl

/-- The update's array. -/
theorem arr5 : (dats m 0 c).arrAt 5 (cfgs 0).N
    = first (fun r q => update (wgt m c r q) (mom1 m c r q) (mom2 m c r q) (grad m c r q)) (m ((c : Thread nD τ).loc main_arg5)) := by
  refine ((dats m 0 c).arrAt_eq_of_coversWhere 5 (fun i : S4x1024x864.Idx => update (wgt m c (i 1) (i 2)) (mom1 m c (i 1) (i 2)) (mom2 m c (i 1) (i 2)) (grad m c (i 1) (i 2)))
    (P := fun i : S4x1024x864.Idx => (i 0).val / 1 = 0)
    (fun β => β (0 : Fin 3) = 0) (by decide +kernel) (fun t hf y => ?_) (fun j => Iff.rfl)).trans ?_
  · blk_simp
    rw [after0_5, outsAt0]
    idx_vars y
    frame_out
    obtain rfl : y0 = 0 := Subsingleton.elim _ _
    refine (d_at (gBlk m c t) (iblk m c 2 t) (iblk m c 3 t) (iblk m c 1 t) y1 y2).trans ?_
    have e1 : (((View.whole main_v0_1).slice (win0_5.rect t)).emb (ix3 0 y1 y2) 1).val = t.val * 256 + y1.val := by blk_simp [idx t]
    have e2 : (((View.whole main_v0_1).slice (win0_5.rect t)).emb (ix3 0 y1 y2) 2).val = y2.val := by blk_simp [idx t]
    rw [w_blk m c e1 e2, m_blk m c e1 e2, v_blk m c e1 e2, gBlk_at m c e1 e2]
  · rfl

/-- The first moment's array. -/
theorem arr6 : (dats m 0 c).arrAt 6 (cfgs 0).N
    = first (fun r q => moment1 (mom1 m c r q) (grad m c r q)) (m ((c : Thread nD τ).loc main_arg6)) := by
  refine ((dats m 0 c).arrAt_eq_of_coversWhere 6 (fun i : S4x1024x864.Idx => moment1 (mom1 m c (i 1) (i 2)) (grad m c (i 1) (i 2)))
    (P := fun i : S4x1024x864.Idx => (i 0).val / 1 = 0)
    (fun β => β (0 : Fin 3) = 0) (by decide +kernel) (fun t hf y => ?_) (fun j => Iff.rfl)).trans ?_
  · blk_simp
    rw [after0_6, outsAt0]
    idx_vars y
    frame_out
    obtain rfl : y0 = 0 := Subsingleton.elim _ _
    have k : k0_pay6 (F := Ideal) (gBlk m c t) (iblk m c 2 t) (ix3 0 y1 y2) = k0_pay3 (F := Ideal) (gBlk m c t) (iblk m c 2 t) (ix2 y1 y2) := by
      unfold k0_pay6
      pointwise
    refine k.trans ((m_at _ _ y1 y2).trans ?_)
    have e1 : (((View.whole main_v0_2).slice (win0_6.rect t)).emb (ix3 0 y1 y2) 1).val = t.val * 256 + y1.val := by blk_simp [idx t]
    have e2 : (((View.whole main_v0_2).slice (win0_6.rect t)).emb (ix3 0 y1 y2) 2).val = y2.val := by blk_simp [idx t]
    rw [m_blk m c e1 e2, gBlk_at m c e1 e2]
  · rfl

/-- The second moment's array. -/
theorem arr7 : (dats m 0 c).arrAt 7 (cfgs 0).N
    = first (fun r q => moment2 (mom2 m c r q) (grad m c r q)) (m ((c : Thread nD τ).loc main_arg7)) := by
  refine ((dats m 0 c).arrAt_eq_of_coversWhere 7 (fun i : S4x1024x864.Idx => moment2 (mom2 m c (i 1) (i 2)) (grad m c (i 1) (i 2)))
    (P := fun i : S4x1024x864.Idx => (i 0).val / 1 = 0)
    (fun β => β (0 : Fin 3) = 0) (by decide +kernel) (fun t hf y => ?_) (fun j => Iff.rfl)).trans ?_
  · blk_simp
    rw [after0_7, outsAt0]
    idx_vars y
    frame_out
    obtain rfl : y0 = 0 := Subsingleton.elim _ _
    have k : k0_pay7 (F := Ideal) (gBlk m c t) (iblk m c 3 t) (ix3 0 y1 y2) = k0_pay4 (F := Ideal) (gBlk m c t) (iblk m c 3 t) (ix2 y1 y2) := by
      unfold k0_pay7
      pointwise
    refine k.trans ((v_at _ _ y1 y2).trans ?_)
    have e1 : (((View.whole main_v0_3).slice (win0_7.rect t)).emb (ix3 0 y1 y2) 1).val = t.val * 256 + y1.val := by blk_simp [idx t]
    have e2 : (((View.whole main_v0_3).slice (win0_7.rect t)).emb (ix3 0 y1 y2) 2).val = y2.val := by blk_simp [idx t]
    rw [v_blk m c e1 e2, gBlk_at m c e1 e2]
  · rfl

section Reference

variable (x0 : (⟨Cert.Reference19Ideal.S8x1024x864, .bf16⟩ : BufTy).Contents (Elt Ideal))
  (x1 x2 x3 x4 x5 x6 x7 : (⟨Cert.Reference19Ideal.S4x1024x864, .f32⟩ : BufTy).Contents (Elt Ideal))

/-- The reference's gradient. -/
theorem ref_g (r : Fin 1024) (q : Fin 864) : val_main_v1 (F := Ideal) x0 (ix2 r q) = ∑ k : Fin 8, (x0 (ix3 k r q) : EReal) := by
  pointwise [val_main_v1, val_main_v0, val_main_cst]

/-- The reference's first moment. -/
theorem ref_m (r : Fin 1024) (q : Fin 864) : val_main_v12 (F := Ideal) x0 x2 (ix2 r q)
    = moment1 (x2 (ix3 0 r q)) (val_main_v1 (F := Ideal) x0 (ix2 r q)) := by
  unfold moment1 val_main_v12 val_main_v11
  generalize val_main_v1 (F := Ideal) x0 = g
  pointwise [val_main_v10, val_main_v9, val_main_v8, val_main_v5, val_main_v4, val_main_cst_0, val_main_cst_1]

/-- The reference's second moment. -/
theorem ref_v (r : Fin 1024) (q : Fin 864) : val_main_v18 (F := Ideal) x0 x3 (ix2 r q)
    = moment2 (x3 (ix3 0 r q)) (val_main_v1 (F := Ideal) x0 (ix2 r q)) := by
  unfold moment2 val_main_v18 val_main_v17 val_main_v15
  generalize val_main_v1 (F := Ideal) x0 = g
  pointwise [val_main_v16, val_main_v14, val_main_v13, val_main_v7, val_main_v6, val_main_cst_2, val_main_cst_3]

/-- The reference's update. -/
theorem ref_d (r : Fin 1024) (q : Fin 864) : val_main_v31 (F := Ideal) x0 x1 x2 x3 (ix2 r q)
    = update (x1 (ix3 0 r q)) (x2 (ix3 0 r q)) (x3 (ix3 0 r q)) (val_main_v1 (F := Ideal) x0 (ix2 r q)) := by
  unfold update
  rw [← ref_m, ← ref_v]
  unfold val_main_v31 val_main_v29 val_main_v26 val_main_v25 val_main_v23 val_main_v22 val_main_v20
  generalize val_main_v12 (F := Ideal) x0 x2 = m1
  generalize val_main_v18 (F := Ideal) x0 x3 = v1
  pointwise [val_main_v30, val_main_v28, val_main_v27, val_main_v24, val_main_v21, val_main_v19, val_main_v3, val_main_v2,
    val_main_cst_4, val_main_cst_5, val_main_cst_6, val_main_cst_7, val_main_cst_8]

/-- Putting a new first layer before the old others, in the host's way. -/
theorem ref_first (f : Fin 1024 → Fin 864 → EReal) (new : FVec Ideal Cert.Reference19Ideal.S1024x864 .f32)
    (old : (⟨Cert.Reference19Ideal.S4x1024x864, .f32⟩ : BufTy).Contents (Elt Ideal)) (h : ∀ r q, new (ix2 r q) = f r q) :
    concatenate Cert.Reference19Ideal.S4x1024x864 0
      [⟨Cert.Reference19Ideal.S1x1024x864, broadcastInDim Cert.Reference19Ideal.S1x1024x864 ![1, 2] Cert.Reference19Ideal.Gen.bcast_S1024x864_S1x1024x864_1_2 new⟩,
       ⟨Cert.Reference19Ideal.S3x1024x864, extractStridedSlice Cert.Reference19Ideal.S3x1024x864 ![1, 0, 0] old Cert.Reference19Ideal.Gen.slices_S4x1024x864_S3x1024x864_1_0_0⟩]
      Cert.Reference19Ideal.Gen.concatenates_S1x1024x864_S3x1024x864_S4x1024x864_d0 = first f old := by
  funext i
  idx_vars i
  change _ = if i0.val / 1 = 0 then f i1 i2 else old (ix3 i0 i1 i2)
  rw [← h]
  pointwise
  by_cases h0 : i0.val = 0
  · rw [dif_pos (by omega), if_pos h0]
  · rw [dif_neg (by omega), if_neg h0]
    exact congrArg (fun k => old (ix3 k i1 i2)) (Fin.ext (by show 1 + (i0.val - 1) = i0.val; omega))

end Reference

/-- The reference runs to its end and leaves its arguments as they were. -/
theorem frame_ri : Cert.quiescent_Reference19Ideal := fun m ρ _ =>
  (θ_run Cert.Reference19Ideal.defs _ _).mono (fun r h => ⟨fun c => (h c).2.2.2.2,
    Idealize.ShloMosaic.sem_eq_zero_of_no_sems (by decide) r.2⟩) (Cert.Reference19Ideal.Value.run (F := Ideal) m ρ)

/-- The two named constants are the reciprocals that they are named. -/
theorem preserves : Cert.preserves_Kernel19_Kernel19Ideal :=
  ⟨IdealRules.named_const.statement Cert.Kernel19Ideal.κ "c1" .f32 0x3FC48605#32 _ rfl,
    IdealRules.named_const.statement Cert.Kernel19Ideal.κ "c2" .f32 0x42C8E6D3#32 _ rfl⟩

/-- The kernel's four arrays are the reference's. -/
theorem algebraic : Cert.algebraic_Kernel19Ideal_Reference19Ideal := by
  pair_intro
  · run_from Cert.Kernel19Ideal.Value.run_blocks m g
  · run_from Cert.Reference19Ideal.Value.run m' g'
    · refine (val_main_v34_eq _ _).trans ?_
      try rw [(hagree c).1]
      try rw [(hagree c).2.2.2.2.1]
      unfold val_main_v34 val_main_v33 val_main_v32
      exact (ref_first _ _ _ (fun r q => ref_g _ r q)).trans (arr4 m c).symm
    · refine (val_main_v37_eq _ _ _ _ _).trans ?_
      try rw [(hagree c).1]
      try rw [(hagree c).2.1]
      try rw [(hagree c).2.2.1]
      try rw [(hagree c).2.2.2.1]
      try rw [(hagree c).2.2.2.2.2.1]
      unfold val_main_v37 val_main_v36 val_main_v35
      exact (ref_first _ _ _ (fun r q => (ref_d _ _ _ _ r q).trans (congrArg _ (ref_g _ r q)))).trans (arr5 m c).symm
    · refine (val_main_v40_eq _ _ _).trans ?_
      try rw [(hagree c).1]
      try rw [(hagree c).2.2.1]
      try rw [(hagree c).2.2.2.2.2.2.1]
      unfold val_main_v40 val_main_v39 val_main_v38
      exact (ref_first _ _ _ (fun r q => (ref_m _ _ r q).trans (congrArg _ (ref_g _ r q)))).trans (arr6 m c).symm
    · refine (val_main_v43_eq _ _ _).trans ?_
      try rw [(hagree c).1]
      try rw [(hagree c).2.2.2.1]
      try rw [(hagree c).2.2.2.2.2.2.2]
      unfold val_main_v43 val_main_v42 val_main_v41
      exact (ref_first _ _ _ (fun r q => (ref_v _ _ r q).trans (congrArg _ (ref_g _ r q)))).trans (arr7 m c).symm

end Cert.AdamIn

end
-- ==== Proof.AdamBranch.lean ====
/- AdamW on the first layer of the branches' projections: the call's four arrays are the reference's. -/
module

public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.AdamSpec
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.AdamBranch

open Cert.Kernel20Ideal Cert.Kernel20Ideal.Gen Cert.Kernel20Ideal.Value Idealize.ShloMosaic Idealize.ShloMosaic.TcCoe
open Idealize.SL.Sem Cert.Reference20Ideal.Read Cert.AdamSpec

/-- The sum of the eight devices' parts, in a block. -/
theorem g_at (p0 p1 p2 p3 p4 p5 p6 p7 : FVec Ideal S1x1024x128 .bf16) (r : Fin 1024) (q : Fin 128) :
    k0_pay2 (F := Ideal) p0 p1 p2 p3 p4 p5 p6 p7 (ix2 r q) =
      (p0 (ix3 0 r q) : EReal) + p1 (ix3 0 r q) + p2 (ix3 0 r q) + p3 (ix3 0 r q) + p4 (ix3 0 r q) + p5 (ix3 0 r q)
        + p6 (ix3 0 r q) + p7 (ix3 0 r q) := by
  unfold_payloads
  pointwise

/-- The first moment's named reciprocal. -/
theorem c1 : Named.named (F := Ideal) κ "c1" (φ := .f32) 0x3FC48605#32 = (((5463681 / 8388608 : ℝ)⁻¹ : ℝ) : EReal) :=
  IdealRules.named_const.ideal_named_scalar _ _ _ _ rfl

/-- The second moment's named reciprocal. -/
theorem c2 : Named.named (F := Ideal) κ "c2" (φ := .f32) 0x42C8E6D3#32 = (((2672307 / 268435456 : ℝ)⁻¹ : ℝ) : EReal) :=
  IdealRules.named_const.ideal_named_scalar _ _ _ _ rfl

/-- The first moment, in a block. -/
theorem m_at (g : FVec Ideal S1024x128 .f32) (m : FVec Ideal S1x1024x128 .f32) (r : Fin 1024) (q : Fin 128) :
    k0_pay3 (F := Ideal) g m (ix2 r q) = moment1 (m (ix3 0 r q)) (g (ix2 r q)) := by
  unfold k0_pay3 moment1
  pointwise

/-- The second moment, in a block. -/
theorem v_at (g : FVec Ideal S1024x128 .f32) (v : FVec Ideal S1x1024x128 .f32) (r : Fin 1024) (q : Fin 128) :
    k0_pay4 (F := Ideal) g v (ix2 r q) = moment2 (v (ix3 0 r q)) (g (ix2 r q)) := by
  unfold k0_pay4 moment2
  pointwise

/-- The update, in a block. -/
theorem d_at (g : FVec Ideal S1024x128 .f32) (m v w : FVec Ideal S1x1024x128 .f32) (r : Fin 1024) (q : Fin 128) :
    k0_pay1 (F := Ideal) (k0_pay8 g m v) (k0_pay9 w) k0_pay10 (ix3 0 r q) =
      update (w (ix3 0 r q)) (m (ix3 0 r q)) (v (ix3 0 r q)) (g (ix2 r q)) := by
  rw [update_eq, ← m_at, ← v_at]
  unfold k0_pay1 k0_pay8 k0_pay9 k0_pay10
  pointwise [c1, c2]

variable (m : (ℓ : Loc nD τ sig) → Buf (Elt Ideal) ℓ) (c : Dev nD)

/-- Every window's block index at a grid point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The gradient of the layer at an element: the sum of the devices' parts. -/
def grad (r : Fin 1024) (q : Fin 128) : EReal := ∑ k : Fin 8, m ((c : Thread nD τ).loc main_arg0) (ix3 k r q)

/-- The layer's weight. -/
def wgt (r : Fin 1024) (q : Fin 128) : EReal := m ((c : Thread nD τ).loc main_arg1) (ix3 0 r q)

/-- The layer's first moment before the step. -/
def mom1 (r : Fin 1024) (q : Fin 128) : EReal := m ((c : Thread nD τ).loc main_arg2) (ix3 0 r q)

/-- The layer's second moment before the step. -/
def mom2 (r : Fin 1024) (q : Fin 128) : EReal := m ((c : Thread nD τ).loc main_arg3) (ix3 0 r q)

/-- The devices' parts summed in a block, as the body does. -/
def gBlk (t : Fin cfg0.N) : FVec Ideal S1024x128 .f32 :=
  k0_pay2 (F := Ideal) (View.ld (iblk m c 0 t) (Rect.unit ![0, 0, 0] ![1, 1024, 128] inb_S8x1024x128_S1x1024x128_0_0_0))
    (View.ld (iblk m c 0 t) (Rect.unit ![1, 0, 0] ![1, 1024, 128] inb_S8x1024x128_S1x1024x128_1_0_0))
    (View.ld (iblk m c 0 t) (Rect.unit ![2, 0, 0] ![1, 1024, 128] inb_S8x1024x128_S1x1024x128_2_0_0))
    (View.ld (iblk m c 0 t) (Rect.unit ![3, 0, 0] ![1, 1024, 128] inb_S8x1024x128_S1x1024x128_3_0_0))
    (View.ld (iblk m c 0 t) (Rect.unit ![4, 0, 0] ![1, 1024, 128] inb_S8x1024x128_S1x1024x128_4_0_0))
    (View.ld (iblk m c 0 t) (Rect.unit ![5, 0, 0] ![1, 1024, 128] inb_S8x1024x128_S1x1024x128_5_0_0))
    (View.ld (iblk m c 0 t) (Rect.unit ![6, 0, 0] ![1, 1024, 128] inb_S8x1024x128_S1x1024x128_6_0_0))
    (View.ld (iblk m c 0 t) (Rect.unit ![7, 0, 0] ![1, 1024, 128] inb_S8x1024x128_S1x1024x128_7_0_0))

variable {t : Fin cfg0.N} {r : Fin 1024} {q : Fin 128} {r' : Fin 1024} {q' : Fin 128}

/-- The summed parts of a block are the gradient's. -/
theorem gBlk_at (h1 : r'.val = t.val * 1024 + r.val) (h2 : q'.val = q.val) : gBlk m c t (ix2 r q) = grad m c r' q' := by
  unfold gBlk
  rw [g_at]
  unfold grad
  rw [← sum8]
  have part : ∀ k : Fin 8, iblk m c 0 t (ix3 k r q) = m ((c : Thread nD τ).loc main_arg0) (ix3 k r' q') := fun k => by
    blk_ext [iblk, V, idx t, h1, h2]
  rw [← part, ← part, ← part, ← part, ← part, ← part, ← part, ← part]
  pointwise

/-- The weight's block. -/
theorem w_blk (h1 : r'.val = t.val * 1024 + r.val) (h2 : q'.val = q.val) : iblk m c 1 t (ix3 0 r q) = wgt m c r' q' := by
  unfold wgt
  blk_ext [iblk, V, idx t, h1, h2]

/-- The first moment's block. -/
theorem m_blk (h1 : r'.val = t.val * 1024 + r.val) (h2 : q'.val = q.val) : iblk m c 2 t (ix3 0 r q) = mom1 m c r' q' := by
  unfold mom1
  blk_ext [iblk, V, idx t, h1, h2]

/-- The second moment's block. -/
theorem v_blk (h1 : r'.val = t.val * 1024 + r.val) (h2 : q'.val = q.val) : iblk m c 3 t (ix3 0 r q) = mom2 m c r' q' := by
  unfold mom2
  blk_ext [iblk, V, idx t, h1, h2]

/-- An array whose first layer is `f` and whose other layers are those of `old`. -/
def first (f : Fin 1024 → Fin 128 → EReal) (old : S4x1024x128.Idx → EReal) (i : S4x1024x128.Idx) : EReal :=
  if (i 0).val / 1 = 0 then f (i 1) (i 2) else old i

/-- The gradient's array. -/
theorem arr4 : (dats m 0 c).arrAt 4 (cfgs 0).N = first (grad m c) (m ((c : Thread nD τ).loc main_arg4)) := by
  refine ((dats m 0 c).arrAt_eq_of_coversWhere 4 (fun i : S4x1024x128.Idx => grad m c (i 1) (i 2)) (P := fun i : S4x1024x128.Idx => (i 0).val / 1 = 0)
    (fun β => β (0 : Fin 3) = 0) (by decide +kernel) (fun t hf y => ?_) (fun j => Iff.rfl)).trans ?_
  · blk_simp
    rw [after0_4, outsAt0]
    idx_vars y
    frame_out
    change k0_pay5 (F := Ideal) (gBlk m c t) (ix3 y0 y1 y2) = _
    have k : k0_pay5 (F := Ideal) (gBlk m c t) (ix3 y0 y1 y2) = gBlk m c t (ix2 y1 y2) := by
      unfold k0_pay5
      pointwise
    rw [k]
    exact gBlk_at m c (by blk_simp [idx t]) (by blk_simp [idx t])
  · rfl

/-- The update's array. -/
theorem arr5 : (dats m 0 c).arrAt 5 (cfgs 0).N
    = first (fun r q => update (wgt m c r q) (mom1 m c r q) (mom2 m c r q) (grad m c r q)) (m ((c : Thread nD τ).loc main_arg5)) := by
  refine ((dats m 0 c).arrAt_eq_of_coversWhere 5 (fun i : S4x1024x128.Idx => update (wgt m c (i 1) (i 2)) (mom1 m c (i 1) (i 2)) (mom2 m c (i 1) (i 2)) (grad m c (i 1) (i 2)))
    (P := fun i : S4x1024x128.Idx => (i 0).val / 1 = 0)
    (fun β => β (0 : Fin 3) = 0) (by decide +kernel) (fun t hf y => ?_) (fun j => Iff.rfl)).trans ?_
  · blk_simp
    rw [after0_5, outsAt0]
    idx_vars y
    frame_out
    obtain rfl : y0 = 0 := Subsingleton.elim _ _
    refine (d_at (gBlk m c t) (iblk m c 2 t) (iblk m c 3 t) (iblk m c 1 t) y1 y2).trans ?_
    have e1 : (((View.whole main_v0_1).slice (win0_5.rect t)).emb (ix3 0 y1 y2) 1).val = t.val * 1024 + y1.val := by blk_simp [idx t]
    have e2 : (((View.whole main_v0_1).slice (win0_5.rect t)).emb (ix3 0 y1 y2) 2).val = y2.val := by blk_simp [idx t]
    rw [w_blk m c e1 e2, m_blk m c e1 e2, v_blk m c e1 e2, gBlk_at m c e1 e2]
  · rfl

/-- The first moment's array. -/
theorem arr6 : (dats m 0 c).arrAt 6 (cfgs 0).N
    = first (fun r q => moment1 (mom1 m c r q) (grad m c r q)) (m ((c : Thread nD τ).loc main_arg6)) := by
  refine ((dats m 0 c).arrAt_eq_of_coversWhere 6 (fun i : S4x1024x128.Idx => moment1 (mom1 m c (i 1) (i 2)) (grad m c (i 1) (i 2)))
    (P := fun i : S4x1024x128.Idx => (i 0).val / 1 = 0)
    (fun β => β (0 : Fin 3) = 0) (by decide +kernel) (fun t hf y => ?_) (fun j => Iff.rfl)).trans ?_
  · blk_simp
    rw [after0_6, outsAt0]
    idx_vars y
    frame_out
    obtain rfl : y0 = 0 := Subsingleton.elim _ _
    have k : k0_pay6 (F := Ideal) (gBlk m c t) (iblk m c 2 t) (ix3 0 y1 y2) = k0_pay3 (F := Ideal) (gBlk m c t) (iblk m c 2 t) (ix2 y1 y2) := by
      unfold k0_pay6
      pointwise
    refine k.trans ((m_at _ _ y1 y2).trans ?_)
    have e1 : (((View.whole main_v0_2).slice (win0_6.rect t)).emb (ix3 0 y1 y2) 1).val = t.val * 1024 + y1.val := by blk_simp [idx t]
    have e2 : (((View.whole main_v0_2).slice (win0_6.rect t)).emb (ix3 0 y1 y2) 2).val = y2.val := by blk_simp [idx t]
    rw [m_blk m c e1 e2, gBlk_at m c e1 e2]
  · rfl

/-- The second moment's array. -/
theorem arr7 : (dats m 0 c).arrAt 7 (cfgs 0).N
    = first (fun r q => moment2 (mom2 m c r q) (grad m c r q)) (m ((c : Thread nD τ).loc main_arg7)) := by
  refine ((dats m 0 c).arrAt_eq_of_coversWhere 7 (fun i : S4x1024x128.Idx => moment2 (mom2 m c (i 1) (i 2)) (grad m c (i 1) (i 2)))
    (P := fun i : S4x1024x128.Idx => (i 0).val / 1 = 0)
    (fun β => β (0 : Fin 3) = 0) (by decide +kernel) (fun t hf y => ?_) (fun j => Iff.rfl)).trans ?_
  · blk_simp
    rw [after0_7, outsAt0]
    idx_vars y
    frame_out
    obtain rfl : y0 = 0 := Subsingleton.elim _ _
    have k : k0_pay7 (F := Ideal) (gBlk m c t) (iblk m c 3 t) (ix3 0 y1 y2) = k0_pay4 (F := Ideal) (gBlk m c t) (iblk m c 3 t) (ix2 y1 y2) := by
      unfold k0_pay7
      pointwise
    refine k.trans ((v_at _ _ y1 y2).trans ?_)
    have e1 : (((View.whole main_v0_3).slice (win0_7.rect t)).emb (ix3 0 y1 y2) 1).val = t.val * 1024 + y1.val := by blk_simp [idx t]
    have e2 : (((View.whole main_v0_3).slice (win0_7.rect t)).emb (ix3 0 y1 y2) 2).val = y2.val := by blk_simp [idx t]
    rw [v_blk m c e1 e2, gBlk_at m c e1 e2]
  · rfl

section Reference

variable (x0 : (⟨Cert.Reference20Ideal.S8x1024x128, .bf16⟩ : BufTy).Contents (Elt Ideal))
  (x1 x2 x3 x4 x5 x6 x7 : (⟨Cert.Reference20Ideal.S4x1024x128, .f32⟩ : BufTy).Contents (Elt Ideal))

/-- The reference's gradient. -/
theorem ref_g (r : Fin 1024) (q : Fin 128) : val_main_v1 (F := Ideal) x0 (ix2 r q) = ∑ k : Fin 8, (x0 (ix3 k r q) : EReal) := by
  pointwise [val_main_v1, val_main_v0, val_main_cst]

/-- The reference's first moment. -/
theorem ref_m (r : Fin 1024) (q : Fin 128) : val_main_v12 (F := Ideal) x0 x2 (ix2 r q)
    = moment1 (x2 (ix3 0 r q)) (val_main_v1 (F := Ideal) x0 (ix2 r q)) := by
  unfold moment1 val_main_v12 val_main_v11
  generalize val_main_v1 (F := Ideal) x0 = g
  pointwise [val_main_v10, val_main_v9, val_main_v8, val_main_v5, val_main_v4, val_main_cst_0, val_main_cst_1]

/-- The reference's second moment. -/
theorem ref_v (r : Fin 1024) (q : Fin 128) : val_main_v18 (F := Ideal) x0 x3 (ix2 r q)
    = moment2 (x3 (ix3 0 r q)) (val_main_v1 (F := Ideal) x0 (ix2 r q)) := by
  unfold moment2 val_main_v18 val_main_v17 val_main_v15
  generalize val_main_v1 (F := Ideal) x0 = g
  pointwise [val_main_v16, val_main_v14, val_main_v13, val_main_v7, val_main_v6, val_main_cst_2, val_main_cst_3]

/-- The reference's update. -/
theorem ref_d (r : Fin 1024) (q : Fin 128) : val_main_v31 (F := Ideal) x0 x1 x2 x3 (ix2 r q)
    = update (x1 (ix3 0 r q)) (x2 (ix3 0 r q)) (x3 (ix3 0 r q)) (val_main_v1 (F := Ideal) x0 (ix2 r q)) := by
  unfold update
  rw [← ref_m, ← ref_v]
  unfold val_main_v31 val_main_v29 val_main_v26 val_main_v25 val_main_v23 val_main_v22 val_main_v20
  generalize val_main_v12 (F := Ideal) x0 x2 = m1
  generalize val_main_v18 (F := Ideal) x0 x3 = v1
  pointwise [val_main_v30, val_main_v28, val_main_v27, val_main_v24, val_main_v21, val_main_v19, val_main_v3, val_main_v2,
    val_main_cst_4, val_main_cst_5, val_main_cst_6, val_main_cst_7, val_main_cst_8]

/-- Putting a new first layer before the old others, in the host's way. -/
theorem ref_first (f : Fin 1024 → Fin 128 → EReal) (new : FVec Ideal Cert.Reference20Ideal.S1024x128 .f32)
    (old : (⟨Cert.Reference20Ideal.S4x1024x128, .f32⟩ : BufTy).Contents (Elt Ideal)) (h : ∀ r q, new (ix2 r q) = f r q) :
    concatenate Cert.Reference20Ideal.S4x1024x128 0
      [⟨Cert.Reference20Ideal.S1x1024x128, broadcastInDim Cert.Reference20Ideal.S1x1024x128 ![1, 2] Cert.Reference20Ideal.Gen.bcast_S1024x128_S1x1024x128_1_2 new⟩,
       ⟨Cert.Reference20Ideal.S3x1024x128, extractStridedSlice Cert.Reference20Ideal.S3x1024x128 ![1, 0, 0] old Cert.Reference20Ideal.Gen.slices_S4x1024x128_S3x1024x128_1_0_0⟩]
      Cert.Reference20Ideal.Gen.concatenates_S1x1024x128_S3x1024x128_S4x1024x128_d0 = first f old := by
  funext i
  idx_vars i
  change _ = if i0.val / 1 = 0 then f i1 i2 else old (ix3 i0 i1 i2)
  rw [← h]
  pointwise
  by_cases h0 : i0.val = 0
  · rw [dif_pos (by omega), if_pos h0]
  · rw [dif_neg (by omega), if_neg h0]
    exact congrArg (fun k => old (ix3 k i1 i2)) (Fin.ext (by show 1 + (i0.val - 1) = i0.val; omega))

end Reference

/-- The reference runs to its end and leaves its arguments as they were. -/
theorem frame_ri : Cert.quiescent_Reference20Ideal := fun m ρ _ =>
  (θ_run Cert.Reference20Ideal.defs _ _).mono (fun r h => ⟨fun c => (h c).2.2.2.2,
    Idealize.ShloMosaic.sem_eq_zero_of_no_sems (by decide) r.2⟩) (Cert.Reference20Ideal.Value.run (F := Ideal) m ρ)

/-- The two named constants are the reciprocals that they are named. -/
theorem preserves : Cert.preserves_Kernel20_Kernel20Ideal :=
  ⟨IdealRules.named_const.statement Cert.Kernel20Ideal.κ "c1" .f32 0x3FC48605#32 _ rfl,
    IdealRules.named_const.statement Cert.Kernel20Ideal.κ "c2" .f32 0x42C8E6D3#32 _ rfl⟩

/-- The kernel's four arrays are the reference's. -/
theorem algebraic : Cert.algebraic_Kernel20Ideal_Reference20Ideal := by
  pair_intro
  · run_from Cert.Kernel20Ideal.Value.run_blocks m g
  · run_from Cert.Reference20Ideal.Value.run m' g'
    · refine (val_main_v34_eq _ _).trans ?_
      try rw [(hagree c).1]
      try rw [(hagree c).2.2.2.2.1]
      unfold val_main_v34 val_main_v33 val_main_v32
      exact (ref_first _ _ _ (fun r q => ref_g _ r q)).trans (arr4 m c).symm
    · refine (val_main_v37_eq _ _ _ _ _).trans ?_
      try rw [(hagree c).1]
      try rw [(hagree c).2.1]
      try rw [(hagree c).2.2.1]
      try rw [(hagree c).2.2.2.1]
      try rw [(hagree c).2.2.2.2.2.1]
      unfold val_main_v37 val_main_v36 val_main_v35
      exact (ref_first _ _ _ (fun r q => (ref_d _ _ _ _ r q).trans (congrArg _ (ref_g _ r q)))).trans (arr5 m c).symm
    · refine (val_main_v40_eq _ _ _).trans ?_
      try rw [(hagree c).1]
      try rw [(hagree c).2.2.1]
      try rw [(hagree c).2.2.2.2.2.2.1]
      unfold val_main_v40 val_main_v39 val_main_v38
      exact (ref_first _ _ _ (fun r q => (ref_m _ _ r q).trans (congrArg _ (ref_g _ r q)))).trans (arr6 m c).symm
    · refine (val_main_v43_eq _ _ _).trans ?_
      try rw [(hagree c).1]
      try rw [(hagree c).2.2.2.1]
      try rw [(hagree c).2.2.2.2.2.2.2]
      unfold val_main_v43 val_main_v42 val_main_v41
      exact (ref_first _ _ _ (fun r q => (ref_v _ _ r q).trans (congrArg _ (ref_g _ r q)))).trans (arr7 m c).symm

end Cert.AdamBranch

end
-- ==== Proof.AdamOut.lean ====
/- AdamW on the first layer of the mixer's output projection: the call's four arrays are the reference's. -/
module

public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.AdamSpec
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.AdamOut

open Cert.Kernel21Ideal Cert.Kernel21Ideal.Gen Cert.Kernel21Ideal.Value Idealize.ShloMosaic Idealize.ShloMosaic.TcCoe
open Idealize.SL.Sem Cert.Reference21Ideal.Read Cert.AdamSpec

/-- The sum of the eight devices' parts, in a block. -/
theorem g_at (p0 p1 p2 p3 p4 p5 p6 p7 : FVec Ideal S1x128x1024 .bf16) (r : Fin 128) (q : Fin 1024) :
    k0_pay2 (F := Ideal) p0 p1 p2 p3 p4 p5 p6 p7 (ix2 r q) =
      (p0 (ix3 0 r q) : EReal) + p1 (ix3 0 r q) + p2 (ix3 0 r q) + p3 (ix3 0 r q) + p4 (ix3 0 r q) + p5 (ix3 0 r q)
        + p6 (ix3 0 r q) + p7 (ix3 0 r q) := by
  unfold_payloads
  pointwise

/-- The first moment's named reciprocal. -/
theorem c1 : Named.named (F := Ideal) κ "c1" (φ := .f32) 0x3FC48605#32 = (((5463681 / 8388608 : ℝ)⁻¹ : ℝ) : EReal) :=
  IdealRules.named_const.ideal_named_scalar _ _ _ _ rfl

/-- The second moment's named reciprocal. -/
theorem c2 : Named.named (F := Ideal) κ "c2" (φ := .f32) 0x42C8E6D3#32 = (((2672307 / 268435456 : ℝ)⁻¹ : ℝ) : EReal) :=
  IdealRules.named_const.ideal_named_scalar _ _ _ _ rfl

/-- The first moment, in a block. -/
theorem m_at (g : FVec Ideal S128x1024 .f32) (m : FVec Ideal S1x128x1024 .f32) (r : Fin 128) (q : Fin 1024) :
    k0_pay3 (F := Ideal) g m (ix2 r q) = moment1 (m (ix3 0 r q)) (g (ix2 r q)) := by
  unfold k0_pay3 moment1
  pointwise

/-- The second moment, in a block. -/
theorem v_at (g : FVec Ideal S128x1024 .f32) (v : FVec Ideal S1x128x1024 .f32) (r : Fin 128) (q : Fin 1024) :
    k0_pay4 (F := Ideal) g v (ix2 r q) = moment2 (v (ix3 0 r q)) (g (ix2 r q)) := by
  unfold k0_pay4 moment2
  pointwise

/-- The update, in a block. -/
theorem d_at (g : FVec Ideal S128x1024 .f32) (m v w : FVec Ideal S1x128x1024 .f32) (r : Fin 128) (q : Fin 1024) :
    k0_pay1 (F := Ideal) (k0_pay8 g m v) (k0_pay9 w) k0_pay10 (ix3 0 r q) =
      update (w (ix3 0 r q)) (m (ix3 0 r q)) (v (ix3 0 r q)) (g (ix2 r q)) := by
  rw [update_eq, ← m_at, ← v_at]
  unfold k0_pay1 k0_pay8 k0_pay9 k0_pay10
  pointwise [c1, c2]

variable (m : (ℓ : Loc nD τ sig) → Buf (Elt Ideal) ℓ) (c : Dev nD)

/-- Every window's block index at a grid point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The gradient of the layer at an element: the sum of the devices' parts. -/
def grad (r : Fin 128) (q : Fin 1024) : EReal := ∑ k : Fin 8, m ((c : Thread nD τ).loc main_arg0) (ix3 k r q)

/-- The layer's weight. -/
def wgt (r : Fin 128) (q : Fin 1024) : EReal := m ((c : Thread nD τ).loc main_arg1) (ix3 0 r q)

/-- The layer's first moment before the step. -/
def mom1 (r : Fin 128) (q : Fin 1024) : EReal := m ((c : Thread nD τ).loc main_arg2) (ix3 0 r q)

/-- The layer's second moment before the step. -/
def mom2 (r : Fin 128) (q : Fin 1024) : EReal := m ((c : Thread nD τ).loc main_arg3) (ix3 0 r q)

/-- The devices' parts summed in a block, as the body does. -/
def gBlk (t : Fin cfg0.N) : FVec Ideal S128x1024 .f32 :=
  k0_pay2 (F := Ideal) (View.ld (iblk m c 0 t) (Rect.unit ![0, 0, 0] ![1, 128, 1024] inb_S8x128x1024_S1x128x1024_0_0_0))
    (View.ld (iblk m c 0 t) (Rect.unit ![1, 0, 0] ![1, 128, 1024] inb_S8x128x1024_S1x128x1024_1_0_0))
    (View.ld (iblk m c 0 t) (Rect.unit ![2, 0, 0] ![1, 128, 1024] inb_S8x128x1024_S1x128x1024_2_0_0))
    (View.ld (iblk m c 0 t) (Rect.unit ![3, 0, 0] ![1, 128, 1024] inb_S8x128x1024_S1x128x1024_3_0_0))
    (View.ld (iblk m c 0 t) (Rect.unit ![4, 0, 0] ![1, 128, 1024] inb_S8x128x1024_S1x128x1024_4_0_0))
    (View.ld (iblk m c 0 t) (Rect.unit ![5, 0, 0] ![1, 128, 1024] inb_S8x128x1024_S1x128x1024_5_0_0))
    (View.ld (iblk m c 0 t) (Rect.unit ![6, 0, 0] ![1, 128, 1024] inb_S8x128x1024_S1x128x1024_6_0_0))
    (View.ld (iblk m c 0 t) (Rect.unit ![7, 0, 0] ![1, 128, 1024] inb_S8x128x1024_S1x128x1024_7_0_0))

variable {t : Fin cfg0.N} {r : Fin 128} {q : Fin 1024} {r' : Fin 128} {q' : Fin 1024}

/-- The summed parts of a block are the gradient's. -/
theorem gBlk_at (h1 : r'.val = t.val * 128 + r.val) (h2 : q'.val = q.val) : gBlk m c t (ix2 r q) = grad m c r' q' := by
  unfold gBlk
  rw [g_at]
  unfold grad
  rw [← sum8]
  have part : ∀ k : Fin 8, iblk m c 0 t (ix3 k r q) = m ((c : Thread nD τ).loc main_arg0) (ix3 k r' q') := fun k => by
    blk_ext [iblk, V, idx t, h1, h2]
  rw [← part, ← part, ← part, ← part, ← part, ← part, ← part, ← part]
  pointwise

/-- The weight's block. -/
theorem w_blk (h1 : r'.val = t.val * 128 + r.val) (h2 : q'.val = q.val) : iblk m c 1 t (ix3 0 r q) = wgt m c r' q' := by
  unfold wgt
  blk_ext [iblk, V, idx t, h1, h2]

/-- The first moment's block. -/
theorem m_blk (h1 : r'.val = t.val * 128 + r.val) (h2 : q'.val = q.val) : iblk m c 2 t (ix3 0 r q) = mom1 m c r' q' := by
  unfold mom1
  blk_ext [iblk, V, idx t, h1, h2]

/-- The second moment's block. -/
theorem v_blk (h1 : r'.val = t.val * 128 + r.val) (h2 : q'.val = q.val) : iblk m c 3 t (ix3 0 r q) = mom2 m c r' q' := by
  unfold mom2
  blk_ext [iblk, V, idx t, h1, h2]

/-- An array whose first layer is `f` and whose other layers are those of `old`. -/
def first (f : Fin 128 → Fin 1024 → EReal) (old : S4x128x1024.Idx → EReal) (i : S4x128x1024.Idx) : EReal :=
  if (i 0).val / 1 = 0 then f (i 1) (i 2) else old i

/-- The gradient's array. -/
theorem arr4 : (dats m 0 c).arrAt 4 (cfgs 0).N = first (grad m c) (m ((c : Thread nD τ).loc main_arg4)) := by
  refine ((dats m 0 c).arrAt_eq_of_coversWhere 4 (fun i : S4x128x1024.Idx => grad m c (i 1) (i 2)) (P := fun i : S4x128x1024.Idx => (i 0).val / 1 = 0)
    (fun β => β (0 : Fin 3) = 0) (by decide +kernel) (fun t hf y => ?_) (fun j => Iff.rfl)).trans ?_
  · blk_simp
    rw [after0_4, outsAt0]
    idx_vars y
    frame_out
    change k0_pay5 (F := Ideal) (gBlk m c t) (ix3 y0 y1 y2) = _
    have k : k0_pay5 (F := Ideal) (gBlk m c t) (ix3 y0 y1 y2) = gBlk m c t (ix2 y1 y2) := by
      unfold k0_pay5
      pointwise
    rw [k]
    exact gBlk_at m c (by blk_simp [idx t]) (by blk_simp [idx t])
  · rfl

/-- The update's array. -/
theorem arr5 : (dats m 0 c).arrAt 5 (cfgs 0).N
    = first (fun r q => update (wgt m c r q) (mom1 m c r q) (mom2 m c r q) (grad m c r q)) (m ((c : Thread nD τ).loc main_arg5)) := by
  refine ((dats m 0 c).arrAt_eq_of_coversWhere 5 (fun i : S4x128x1024.Idx => update (wgt m c (i 1) (i 2)) (mom1 m c (i 1) (i 2)) (mom2 m c (i 1) (i 2)) (grad m c (i 1) (i 2)))
    (P := fun i : S4x128x1024.Idx => (i 0).val / 1 = 0)
    (fun β => β (0 : Fin 3) = 0) (by decide +kernel) (fun t hf y => ?_) (fun j => Iff.rfl)).trans ?_
  · blk_simp
    rw [after0_5, outsAt0]
    idx_vars y
    frame_out
    obtain rfl : y0 = 0 := Subsingleton.elim _ _
    refine (d_at (gBlk m c t) (iblk m c 2 t) (iblk m c 3 t) (iblk m c 1 t) y1 y2).trans ?_
    have e1 : (((View.whole main_v0_1).slice (win0_5.rect t)).emb (ix3 0 y1 y2) 1).val = t.val * 128 + y1.val := by blk_simp [idx t]
    have e2 : (((View.whole main_v0_1).slice (win0_5.rect t)).emb (ix3 0 y1 y2) 2).val = y2.val := by blk_simp [idx t]
    rw [w_blk m c e1 e2, m_blk m c e1 e2, v_blk m c e1 e2, gBlk_at m c e1 e2]
  · rfl

/-- The first moment's array. -/
theorem arr6 : (dats m 0 c).arrAt 6 (cfgs 0).N
    = first (fun r q => moment1 (mom1 m c r q) (grad m c r q)) (m ((c : Thread nD τ).loc main_arg6)) := by
  refine ((dats m 0 c).arrAt_eq_of_coversWhere 6 (fun i : S4x128x1024.Idx => moment1 (mom1 m c (i 1) (i 2)) (grad m c (i 1) (i 2)))
    (P := fun i : S4x128x1024.Idx => (i 0).val / 1 = 0)
    (fun β => β (0 : Fin 3) = 0) (by decide +kernel) (fun t hf y => ?_) (fun j => Iff.rfl)).trans ?_
  · blk_simp
    rw [after0_6, outsAt0]
    idx_vars y
    frame_out
    obtain rfl : y0 = 0 := Subsingleton.elim _ _
    have k : k0_pay6 (F := Ideal) (gBlk m c t) (iblk m c 2 t) (ix3 0 y1 y2) = k0_pay3 (F := Ideal) (gBlk m c t) (iblk m c 2 t) (ix2 y1 y2) := by
      unfold k0_pay6
      pointwise
    refine k.trans ((m_at _ _ y1 y2).trans ?_)
    have e1 : (((View.whole main_v0_2).slice (win0_6.rect t)).emb (ix3 0 y1 y2) 1).val = t.val * 128 + y1.val := by blk_simp [idx t]
    have e2 : (((View.whole main_v0_2).slice (win0_6.rect t)).emb (ix3 0 y1 y2) 2).val = y2.val := by blk_simp [idx t]
    rw [m_blk m c e1 e2, gBlk_at m c e1 e2]
  · rfl

/-- The second moment's array. -/
theorem arr7 : (dats m 0 c).arrAt 7 (cfgs 0).N
    = first (fun r q => moment2 (mom2 m c r q) (grad m c r q)) (m ((c : Thread nD τ).loc main_arg7)) := by
  refine ((dats m 0 c).arrAt_eq_of_coversWhere 7 (fun i : S4x128x1024.Idx => moment2 (mom2 m c (i 1) (i 2)) (grad m c (i 1) (i 2)))
    (P := fun i : S4x128x1024.Idx => (i 0).val / 1 = 0)
    (fun β => β (0 : Fin 3) = 0) (by decide +kernel) (fun t hf y => ?_) (fun j => Iff.rfl)).trans ?_
  · blk_simp
    rw [after0_7, outsAt0]
    idx_vars y
    frame_out
    obtain rfl : y0 = 0 := Subsingleton.elim _ _
    have k : k0_pay7 (F := Ideal) (gBlk m c t) (iblk m c 3 t) (ix3 0 y1 y2) = k0_pay4 (F := Ideal) (gBlk m c t) (iblk m c 3 t) (ix2 y1 y2) := by
      unfold k0_pay7
      pointwise
    refine k.trans ((v_at _ _ y1 y2).trans ?_)
    have e1 : (((View.whole main_v0_3).slice (win0_7.rect t)).emb (ix3 0 y1 y2) 1).val = t.val * 128 + y1.val := by blk_simp [idx t]
    have e2 : (((View.whole main_v0_3).slice (win0_7.rect t)).emb (ix3 0 y1 y2) 2).val = y2.val := by blk_simp [idx t]
    rw [v_blk m c e1 e2, gBlk_at m c e1 e2]
  · rfl

section Reference

variable (x0 : (⟨Cert.Reference21Ideal.S8x128x1024, .bf16⟩ : BufTy).Contents (Elt Ideal))
  (x1 x2 x3 x4 x5 x6 x7 : (⟨Cert.Reference21Ideal.S4x128x1024, .f32⟩ : BufTy).Contents (Elt Ideal))

/-- The reference's gradient. -/
theorem ref_g (r : Fin 128) (q : Fin 1024) : val_main_v1 (F := Ideal) x0 (ix2 r q) = ∑ k : Fin 8, (x0 (ix3 k r q) : EReal) := by
  pointwise [val_main_v1, val_main_v0, val_main_cst]

/-- The reference's first moment. -/
theorem ref_m (r : Fin 128) (q : Fin 1024) : val_main_v12 (F := Ideal) x0 x2 (ix2 r q)
    = moment1 (x2 (ix3 0 r q)) (val_main_v1 (F := Ideal) x0 (ix2 r q)) := by
  unfold moment1 val_main_v12 val_main_v11
  generalize val_main_v1 (F := Ideal) x0 = g
  pointwise [val_main_v10, val_main_v9, val_main_v8, val_main_v5, val_main_v4, val_main_cst_0, val_main_cst_1]

/-- The reference's second moment. -/
theorem ref_v (r : Fin 128) (q : Fin 1024) : val_main_v18 (F := Ideal) x0 x3 (ix2 r q)
    = moment2 (x3 (ix3 0 r q)) (val_main_v1 (F := Ideal) x0 (ix2 r q)) := by
  unfold moment2 val_main_v18 val_main_v17 val_main_v15
  generalize val_main_v1 (F := Ideal) x0 = g
  pointwise [val_main_v16, val_main_v14, val_main_v13, val_main_v7, val_main_v6, val_main_cst_2, val_main_cst_3]

/-- The reference's update. -/
theorem ref_d (r : Fin 128) (q : Fin 1024) : val_main_v31 (F := Ideal) x0 x1 x2 x3 (ix2 r q)
    = update (x1 (ix3 0 r q)) (x2 (ix3 0 r q)) (x3 (ix3 0 r q)) (val_main_v1 (F := Ideal) x0 (ix2 r q)) := by
  unfold update
  rw [← ref_m, ← ref_v]
  unfold val_main_v31 val_main_v29 val_main_v26 val_main_v25 val_main_v23 val_main_v22 val_main_v20
  generalize val_main_v12 (F := Ideal) x0 x2 = m1
  generalize val_main_v18 (F := Ideal) x0 x3 = v1
  pointwise [val_main_v30, val_main_v28, val_main_v27, val_main_v24, val_main_v21, val_main_v19, val_main_v3, val_main_v2,
    val_main_cst_4, val_main_cst_5, val_main_cst_6, val_main_cst_7, val_main_cst_8]

/-- Putting a new first layer before the old others, in the host's way. -/
theorem ref_first (f : Fin 128 → Fin 1024 → EReal) (new : FVec Ideal Cert.Reference21Ideal.S128x1024 .f32)
    (old : (⟨Cert.Reference21Ideal.S4x128x1024, .f32⟩ : BufTy).Contents (Elt Ideal)) (h : ∀ r q, new (ix2 r q) = f r q) :
    concatenate Cert.Reference21Ideal.S4x128x1024 0
      [⟨Cert.Reference21Ideal.S1x128x1024, broadcastInDim Cert.Reference21Ideal.S1x128x1024 ![1, 2] Cert.Reference21Ideal.Gen.bcast_S128x1024_S1x128x1024_1_2 new⟩,
       ⟨Cert.Reference21Ideal.S3x128x1024, extractStridedSlice Cert.Reference21Ideal.S3x128x1024 ![1, 0, 0] old Cert.Reference21Ideal.Gen.slices_S4x128x1024_S3x128x1024_1_0_0⟩]
      Cert.Reference21Ideal.Gen.concatenates_S1x128x1024_S3x128x1024_S4x128x1024_d0 = first f old := by
  funext i
  idx_vars i
  change _ = if i0.val / 1 = 0 then f i1 i2 else old (ix3 i0 i1 i2)
  rw [← h]
  pointwise
  by_cases h0 : i0.val = 0
  · rw [dif_pos (by omega), if_pos h0]
  · rw [dif_neg (by omega), if_neg h0]
    exact congrArg (fun k => old (ix3 k i1 i2)) (Fin.ext (by show 1 + (i0.val - 1) = i0.val; omega))

end Reference

/-- The reference runs to its end and leaves its arguments as they were. -/
theorem frame_ri : Cert.quiescent_Reference21Ideal := fun m ρ _ =>
  (θ_run Cert.Reference21Ideal.defs _ _).mono (fun r h => ⟨fun c => (h c).2.2.2.2,
    Idealize.ShloMosaic.sem_eq_zero_of_no_sems (by decide) r.2⟩) (Cert.Reference21Ideal.Value.run (F := Ideal) m ρ)

/-- The two named constants are the reciprocals that they are named. -/
theorem preserves : Cert.preserves_Kernel21_Kernel21Ideal :=
  ⟨IdealRules.named_const.statement Cert.Kernel21Ideal.κ "c1" .f32 0x3FC48605#32 _ rfl,
    IdealRules.named_const.statement Cert.Kernel21Ideal.κ "c2" .f32 0x42C8E6D3#32 _ rfl⟩

/-- The kernel's four arrays are the reference's. -/
theorem algebraic : Cert.algebraic_Kernel21Ideal_Reference21Ideal := by
  pair_intro
  · run_from Cert.Kernel21Ideal.Value.run_blocks m g
  · run_from Cert.Reference21Ideal.Value.run m' g'
    · refine (val_main_v34_eq _ _).trans ?_
      try rw [(hagree c).1]
      try rw [(hagree c).2.2.2.2.1]
      unfold val_main_v34 val_main_v33 val_main_v32
      exact (ref_first _ _ _ (fun r q => ref_g _ r q)).trans (arr4 m c).symm
    · refine (val_main_v37_eq _ _ _ _ _).trans ?_
      try rw [(hagree c).1]
      try rw [(hagree c).2.1]
      try rw [(hagree c).2.2.1]
      try rw [(hagree c).2.2.2.1]
      try rw [(hagree c).2.2.2.2.2.1]
      unfold val_main_v37 val_main_v36 val_main_v35
      exact (ref_first _ _ _ (fun r q => (ref_d _ _ _ _ r q).trans (congrArg _ (ref_g _ r q)))).trans (arr5 m c).symm
    · refine (val_main_v40_eq _ _ _).trans ?_
      try rw [(hagree c).1]
      try rw [(hagree c).2.2.1]
      try rw [(hagree c).2.2.2.2.2.2.1]
      unfold val_main_v40 val_main_v39 val_main_v38
      exact (ref_first _ _ _ (fun r q => (ref_m _ _ r q).trans (congrArg _ (ref_g _ r q)))).trans (arr6 m c).symm
    · refine (val_main_v43_eq _ _ _).trans ?_
      try rw [(hagree c).1]
      try rw [(hagree c).2.2.2.1]
      try rw [(hagree c).2.2.2.2.2.2.2]
      unfold val_main_v43 val_main_v42 val_main_v41
      exact (ref_first _ _ _ (fun r q => (ref_v _ _ r q).trans (congrArg _ (ref_g _ r q)))).trans (arr7 m c).symm

end Cert.AdamOut

end
-- ==== Proof.AdamFfnIn.lean ====
/- AdamW on the first layer of the FFN's input projection: the call's four arrays are the reference's. -/
module

public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.AdamSpec
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.AdamFfnIn

open Cert.Kernel22Ideal Cert.Kernel22Ideal.Gen Cert.Kernel22Ideal.Value Idealize.ShloMosaic Idealize.ShloMosaic.TcCoe
open Idealize.SL.Sem Cert.Reference22Ideal.Read Cert.AdamSpec

/-- The sum of the eight devices' parts, in a block. -/
theorem g_at (p0 p1 p2 p3 p4 p5 p6 p7 : FVec Ideal S1x256x704 .bf16) (r : Fin 256) (q : Fin 704) :
    k0_pay2 (F := Ideal) p0 p1 p2 p3 p4 p5 p6 p7 (ix2 r q) =
      (p0 (ix3 0 r q) : EReal) + p1 (ix3 0 r q) + p2 (ix3 0 r q) + p3 (ix3 0 r q) + p4 (ix3 0 r q) + p5 (ix3 0 r q)
        + p6 (ix3 0 r q) + p7 (ix3 0 r q) := by
  unfold_payloads
  pointwise

/-- The first moment's named reciprocal. -/
theorem c1 : Named.named (F := Ideal) κ "c1" (φ := .f32) 0x3FC48605#32 = (((5463681 / 8388608 : ℝ)⁻¹ : ℝ) : EReal) :=
  IdealRules.named_const.ideal_named_scalar _ _ _ _ rfl

/-- The second moment's named reciprocal. -/
theorem c2 : Named.named (F := Ideal) κ "c2" (φ := .f32) 0x42C8E6D3#32 = (((2672307 / 268435456 : ℝ)⁻¹ : ℝ) : EReal) :=
  IdealRules.named_const.ideal_named_scalar _ _ _ _ rfl

/-- The first moment, in a block. -/
theorem m_at (g : FVec Ideal S256x704 .f32) (m : FVec Ideal S1x256x704 .f32) (r : Fin 256) (q : Fin 704) :
    k0_pay3 (F := Ideal) g m (ix2 r q) = moment1 (m (ix3 0 r q)) (g (ix2 r q)) := by
  unfold k0_pay3 moment1
  pointwise

/-- The second moment, in a block. -/
theorem v_at (g : FVec Ideal S256x704 .f32) (v : FVec Ideal S1x256x704 .f32) (r : Fin 256) (q : Fin 704) :
    k0_pay4 (F := Ideal) g v (ix2 r q) = moment2 (v (ix3 0 r q)) (g (ix2 r q)) := by
  unfold k0_pay4 moment2
  pointwise

/-- The update, in a block. -/
theorem d_at (g : FVec Ideal S256x704 .f32) (m v w : FVec Ideal S1x256x704 .f32) (r : Fin 256) (q : Fin 704) :
    k0_pay1 (F := Ideal) (k0_pay8 g m v) (k0_pay9 w) k0_pay10 (ix3 0 r q) =
      update (w (ix3 0 r q)) (m (ix3 0 r q)) (v (ix3 0 r q)) (g (ix2 r q)) := by
  rw [update_eq, ← m_at, ← v_at]
  unfold k0_pay1 k0_pay8 k0_pay9 k0_pay10
  pointwise [c1, c2]

variable (m : (ℓ : Loc nD τ sig) → Buf (Elt Ideal) ℓ) (c : Dev nD)

/-- Every window's block index at a grid point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The gradient of the layer at an element: the sum of the devices' parts. -/
def grad (r : Fin 1024) (q : Fin 704) : EReal := ∑ k : Fin 8, m ((c : Thread nD τ).loc main_arg0) (ix3 k r q)

/-- The layer's weight. -/
def wgt (r : Fin 1024) (q : Fin 704) : EReal := m ((c : Thread nD τ).loc main_arg1) (ix3 0 r q)

/-- The layer's first moment before the step. -/
def mom1 (r : Fin 1024) (q : Fin 704) : EReal := m ((c : Thread nD τ).loc main_arg2) (ix3 0 r q)

/-- The layer's second moment before the step. -/
def mom2 (r : Fin 1024) (q : Fin 704) : EReal := m ((c : Thread nD τ).loc main_arg3) (ix3 0 r q)

/-- The devices' parts summed in a block, as the body does. -/
def gBlk (t : Fin cfg0.N) : FVec Ideal S256x704 .f32 :=
  k0_pay2 (F := Ideal) (View.ld (iblk m c 0 t) (Rect.unit ![0, 0, 0] ![1, 256, 704] inb_S8x256x704_S1x256x704_0_0_0))
    (View.ld (iblk m c 0 t) (Rect.unit ![1, 0, 0] ![1, 256, 704] inb_S8x256x704_S1x256x704_1_0_0))
    (View.ld (iblk m c 0 t) (Rect.unit ![2, 0, 0] ![1, 256, 704] inb_S8x256x704_S1x256x704_2_0_0))
    (View.ld (iblk m c 0 t) (Rect.unit ![3, 0, 0] ![1, 256, 704] inb_S8x256x704_S1x256x704_3_0_0))
    (View.ld (iblk m c 0 t) (Rect.unit ![4, 0, 0] ![1, 256, 704] inb_S8x256x704_S1x256x704_4_0_0))
    (View.ld (iblk m c 0 t) (Rect.unit ![5, 0, 0] ![1, 256, 704] inb_S8x256x704_S1x256x704_5_0_0))
    (View.ld (iblk m c 0 t) (Rect.unit ![6, 0, 0] ![1, 256, 704] inb_S8x256x704_S1x256x704_6_0_0))
    (View.ld (iblk m c 0 t) (Rect.unit ![7, 0, 0] ![1, 256, 704] inb_S8x256x704_S1x256x704_7_0_0))

variable {t : Fin cfg0.N} {r : Fin 256} {q : Fin 704} {r' : Fin 1024} {q' : Fin 704}

/-- The summed parts of a block are the gradient's. -/
theorem gBlk_at (h1 : r'.val = t.val * 256 + r.val) (h2 : q'.val = q.val) : gBlk m c t (ix2 r q) = grad m c r' q' := by
  unfold gBlk
  rw [g_at]
  unfold grad
  rw [← sum8]
  have part : ∀ k : Fin 8, iblk m c 0 t (ix3 k r q) = m ((c : Thread nD τ).loc main_arg0) (ix3 k r' q') := fun k => by
    blk_ext [iblk, V, idx t, h1, h2]
  rw [← part, ← part, ← part, ← part, ← part, ← part, ← part, ← part]
  pointwise

/-- The weight's block. -/
theorem w_blk (h1 : r'.val = t.val * 256 + r.val) (h2 : q'.val = q.val) : iblk m c 1 t (ix3 0 r q) = wgt m c r' q' := by
  unfold wgt
  blk_ext [iblk, V, idx t, h1, h2]

/-- The first moment's block. -/
theorem m_blk (h1 : r'.val = t.val * 256 + r.val) (h2 : q'.val = q.val) : iblk m c 2 t (ix3 0 r q) = mom1 m c r' q' := by
  unfold mom1
  blk_ext [iblk, V, idx t, h1, h2]

/-- The second moment's block. -/
theorem v_blk (h1 : r'.val = t.val * 256 + r.val) (h2 : q'.val = q.val) : iblk m c 3 t (ix3 0 r q) = mom2 m c r' q' := by
  unfold mom2
  blk_ext [iblk, V, idx t, h1, h2]

/-- An array whose first layer is `f` and whose other layers are those of `old`. -/
def first (f : Fin 1024 → Fin 704 → EReal) (old : S4x1024x704.Idx → EReal) (i : S4x1024x704.Idx) : EReal :=
  if (i 0).val / 1 = 0 then f (i 1) (i 2) else old i

/-- The gradient's array. -/
theorem arr4 : (dats m 0 c).arrAt 4 (cfgs 0).N = first (grad m c) (m ((c : Thread nD τ).loc main_arg4)) := by
  refine ((dats m 0 c).arrAt_eq_of_coversWhere 4 (fun i : S4x1024x704.Idx => grad m c (i 1) (i 2)) (P := fun i : S4x1024x704.Idx => (i 0).val / 1 = 0)
    (fun β => β (0 : Fin 3) = 0) (by decide +kernel) (fun t hf y => ?_) (fun j => Iff.rfl)).trans ?_
  · blk_simp
    rw [after0_4, outsAt0]
    idx_vars y
    frame_out
    change k0_pay5 (F := Ideal) (gBlk m c t) (ix3 y0 y1 y2) = _
    have k : k0_pay5 (F := Ideal) (gBlk m c t) (ix3 y0 y1 y2) = gBlk m c t (ix2 y1 y2) := by
      unfold k0_pay5
      pointwise
    rw [k]
    exact gBlk_at m c (by blk_simp [idx t]) (by blk_simp [idx t])
  · rfl

/-- The update's array. -/
theorem arr5 : (dats m 0 c).arrAt 5 (cfgs 0).N
    = first (fun r q => update (wgt m c r q) (mom1 m c r q) (mom2 m c r q) (grad m c r q)) (m ((c : Thread nD τ).loc main_arg5)) := by
  refine ((dats m 0 c).arrAt_eq_of_coversWhere 5 (fun i : S4x1024x704.Idx => update (wgt m c (i 1) (i 2)) (mom1 m c (i 1) (i 2)) (mom2 m c (i 1) (i 2)) (grad m c (i 1) (i 2)))
    (P := fun i : S4x1024x704.Idx => (i 0).val / 1 = 0)
    (fun β => β (0 : Fin 3) = 0) (by decide +kernel) (fun t hf y => ?_) (fun j => Iff.rfl)).trans ?_
  · blk_simp
    rw [after0_5, outsAt0]
    idx_vars y
    frame_out
    obtain rfl : y0 = 0 := Subsingleton.elim _ _
    refine (d_at (gBlk m c t) (iblk m c 2 t) (iblk m c 3 t) (iblk m c 1 t) y1 y2).trans ?_
    have e1 : (((View.whole main_v0_1).slice (win0_5.rect t)).emb (ix3 0 y1 y2) 1).val = t.val * 256 + y1.val := by blk_simp [idx t]
    have e2 : (((View.whole main_v0_1).slice (win0_5.rect t)).emb (ix3 0 y1 y2) 2).val = y2.val := by blk_simp [idx t]
    rw [w_blk m c e1 e2, m_blk m c e1 e2, v_blk m c e1 e2, gBlk_at m c e1 e2]
  · rfl

/-- The first moment's array. -/
theorem arr6 : (dats m 0 c).arrAt 6 (cfgs 0).N
    = first (fun r q => moment1 (mom1 m c r q) (grad m c r q)) (m ((c : Thread nD τ).loc main_arg6)) := by
  refine ((dats m 0 c).arrAt_eq_of_coversWhere 6 (fun i : S4x1024x704.Idx => moment1 (mom1 m c (i 1) (i 2)) (grad m c (i 1) (i 2)))
    (P := fun i : S4x1024x704.Idx => (i 0).val / 1 = 0)
    (fun β => β (0 : Fin 3) = 0) (by decide +kernel) (fun t hf y => ?_) (fun j => Iff.rfl)).trans ?_
  · blk_simp
    rw [after0_6, outsAt0]
    idx_vars y
    frame_out
    obtain rfl : y0 = 0 := Subsingleton.elim _ _
    have k : k0_pay6 (F := Ideal) (gBlk m c t) (iblk m c 2 t) (ix3 0 y1 y2) = k0_pay3 (F := Ideal) (gBlk m c t) (iblk m c 2 t) (ix2 y1 y2) := by
      unfold k0_pay6
      pointwise
    refine k.trans ((m_at _ _ y1 y2).trans ?_)
    have e1 : (((View.whole main_v0_2).slice (win0_6.rect t)).emb (ix3 0 y1 y2) 1).val = t.val * 256 + y1.val := by blk_simp [idx t]
    have e2 : (((View.whole main_v0_2).slice (win0_6.rect t)).emb (ix3 0 y1 y2) 2).val = y2.val := by blk_simp [idx t]
    rw [m_blk m c e1 e2, gBlk_at m c e1 e2]
  · rfl

/-- The second moment's array. -/
theorem arr7 : (dats m 0 c).arrAt 7 (cfgs 0).N
    = first (fun r q => moment2 (mom2 m c r q) (grad m c r q)) (m ((c : Thread nD τ).loc main_arg7)) := by
  refine ((dats m 0 c).arrAt_eq_of_coversWhere 7 (fun i : S4x1024x704.Idx => moment2 (mom2 m c (i 1) (i 2)) (grad m c (i 1) (i 2)))
    (P := fun i : S4x1024x704.Idx => (i 0).val / 1 = 0)
    (fun β => β (0 : Fin 3) = 0) (by decide +kernel) (fun t hf y => ?_) (fun j => Iff.rfl)).trans ?_
  · blk_simp
    rw [after0_7, outsAt0]
    idx_vars y
    frame_out
    obtain rfl : y0 = 0 := Subsingleton.elim _ _
    have k : k0_pay7 (F := Ideal) (gBlk m c t) (iblk m c 3 t) (ix3 0 y1 y2) = k0_pay4 (F := Ideal) (gBlk m c t) (iblk m c 3 t) (ix2 y1 y2) := by
      unfold k0_pay7
      pointwise
    refine k.trans ((v_at _ _ y1 y2).trans ?_)
    have e1 : (((View.whole main_v0_3).slice (win0_7.rect t)).emb (ix3 0 y1 y2) 1).val = t.val * 256 + y1.val := by blk_simp [idx t]
    have e2 : (((View.whole main_v0_3).slice (win0_7.rect t)).emb (ix3 0 y1 y2) 2).val = y2.val := by blk_simp [idx t]
    rw [v_blk m c e1 e2, gBlk_at m c e1 e2]
  · rfl

section Reference

variable (x0 : (⟨Cert.Reference22Ideal.S8x1024x704, .bf16⟩ : BufTy).Contents (Elt Ideal))
  (x1 x2 x3 x4 x5 x6 x7 : (⟨Cert.Reference22Ideal.S4x1024x704, .f32⟩ : BufTy).Contents (Elt Ideal))

/-- The reference's gradient. -/
theorem ref_g (r : Fin 1024) (q : Fin 704) : val_main_v1 (F := Ideal) x0 (ix2 r q) = ∑ k : Fin 8, (x0 (ix3 k r q) : EReal) := by
  pointwise [val_main_v1, val_main_v0, val_main_cst]

/-- The reference's first moment. -/
theorem ref_m (r : Fin 1024) (q : Fin 704) : val_main_v12 (F := Ideal) x0 x2 (ix2 r q)
    = moment1 (x2 (ix3 0 r q)) (val_main_v1 (F := Ideal) x0 (ix2 r q)) := by
  unfold moment1 val_main_v12 val_main_v11
  generalize val_main_v1 (F := Ideal) x0 = g
  pointwise [val_main_v10, val_main_v9, val_main_v8, val_main_v5, val_main_v4, val_main_cst_0, val_main_cst_1]

/-- The reference's second moment. -/
theorem ref_v (r : Fin 1024) (q : Fin 704) : val_main_v18 (F := Ideal) x0 x3 (ix2 r q)
    = moment2 (x3 (ix3 0 r q)) (val_main_v1 (F := Ideal) x0 (ix2 r q)) := by
  unfold moment2 val_main_v18 val_main_v17 val_main_v15
  generalize val_main_v1 (F := Ideal) x0 = g
  pointwise [val_main_v16, val_main_v14, val_main_v13, val_main_v7, val_main_v6, val_main_cst_2, val_main_cst_3]

/-- The reference's update. -/
theorem ref_d (r : Fin 1024) (q : Fin 704) : val_main_v31 (F := Ideal) x0 x1 x2 x3 (ix2 r q)
    = update (x1 (ix3 0 r q)) (x2 (ix3 0 r q)) (x3 (ix3 0 r q)) (val_main_v1 (F := Ideal) x0 (ix2 r q)) := by
  unfold update
  rw [← ref_m, ← ref_v]
  unfold val_main_v31 val_main_v29 val_main_v26 val_main_v25 val_main_v23 val_main_v22 val_main_v20
  generalize val_main_v12 (F := Ideal) x0 x2 = m1
  generalize val_main_v18 (F := Ideal) x0 x3 = v1
  pointwise [val_main_v30, val_main_v28, val_main_v27, val_main_v24, val_main_v21, val_main_v19, val_main_v3, val_main_v2,
    val_main_cst_4, val_main_cst_5, val_main_cst_6, val_main_cst_7, val_main_cst_8]

/-- Putting a new first layer before the old others, in the host's way. -/
theorem ref_first (f : Fin 1024 → Fin 704 → EReal) (new : FVec Ideal Cert.Reference22Ideal.S1024x704 .f32)
    (old : (⟨Cert.Reference22Ideal.S4x1024x704, .f32⟩ : BufTy).Contents (Elt Ideal)) (h : ∀ r q, new (ix2 r q) = f r q) :
    concatenate Cert.Reference22Ideal.S4x1024x704 0
      [⟨Cert.Reference22Ideal.S1x1024x704, broadcastInDim Cert.Reference22Ideal.S1x1024x704 ![1, 2] Cert.Reference22Ideal.Gen.bcast_S1024x704_S1x1024x704_1_2 new⟩,
       ⟨Cert.Reference22Ideal.S3x1024x704, extractStridedSlice Cert.Reference22Ideal.S3x1024x704 ![1, 0, 0] old Cert.Reference22Ideal.Gen.slices_S4x1024x704_S3x1024x704_1_0_0⟩]
      Cert.Reference22Ideal.Gen.concatenates_S1x1024x704_S3x1024x704_S4x1024x704_d0 = first f old := by
  funext i
  idx_vars i
  change _ = if i0.val / 1 = 0 then f i1 i2 else old (ix3 i0 i1 i2)
  rw [← h]
  pointwise
  by_cases h0 : i0.val = 0
  · rw [dif_pos (by omega), if_pos h0]
  · rw [dif_neg (by omega), if_neg h0]
    exact congrArg (fun k => old (ix3 k i1 i2)) (Fin.ext (by show 1 + (i0.val - 1) = i0.val; omega))

end Reference

/-- The reference runs to its end and leaves its arguments as they were. -/
theorem frame_ri : Cert.quiescent_Reference22Ideal := fun m ρ _ =>
  (θ_run Cert.Reference22Ideal.defs _ _).mono (fun r h => ⟨fun c => (h c).2.2.2.2,
    Idealize.ShloMosaic.sem_eq_zero_of_no_sems (by decide) r.2⟩) (Cert.Reference22Ideal.Value.run (F := Ideal) m ρ)

/-- The two named constants are the reciprocals that they are named. -/
theorem preserves : Cert.preserves_Kernel22_Kernel22Ideal :=
  ⟨IdealRules.named_const.statement Cert.Kernel22Ideal.κ "c1" .f32 0x3FC48605#32 _ rfl,
    IdealRules.named_const.statement Cert.Kernel22Ideal.κ "c2" .f32 0x42C8E6D3#32 _ rfl⟩

/-- The kernel's four arrays are the reference's. -/
theorem algebraic : Cert.algebraic_Kernel22Ideal_Reference22Ideal := by
  pair_intro
  · run_from Cert.Kernel22Ideal.Value.run_blocks m g
  · run_from Cert.Reference22Ideal.Value.run m' g'
    · refine (val_main_v34_eq _ _).trans ?_
      try rw [(hagree c).1]
      try rw [(hagree c).2.2.2.2.1]
      unfold val_main_v34 val_main_v33 val_main_v32
      exact (ref_first _ _ _ (fun r q => ref_g _ r q)).trans (arr4 m c).symm
    · refine (val_main_v37_eq _ _ _ _ _).trans ?_
      try rw [(hagree c).1]
      try rw [(hagree c).2.1]
      try rw [(hagree c).2.2.1]
      try rw [(hagree c).2.2.2.1]
      try rw [(hagree c).2.2.2.2.2.1]
      unfold val_main_v37 val_main_v36 val_main_v35
      exact (ref_first _ _ _ (fun r q => (ref_d _ _ _ _ r q).trans (congrArg _ (ref_g _ r q)))).trans (arr5 m c).symm
    · refine (val_main_v40_eq _ _ _).trans ?_
      try rw [(hagree c).1]
      try rw [(hagree c).2.2.1]
      try rw [(hagree c).2.2.2.2.2.2.1]
      unfold val_main_v40 val_main_v39 val_main_v38
      exact (ref_first _ _ _ (fun r q => (ref_m _ _ r q).trans (congrArg _ (ref_g _ r q)))).trans (arr6 m c).symm
    · refine (val_main_v43_eq _ _ _).trans ?_
      try rw [(hagree c).1]
      try rw [(hagree c).2.2.2.1]
      try rw [(hagree c).2.2.2.2.2.2.2]
      unfold val_main_v43 val_main_v42 val_main_v41
      exact (ref_first _ _ _ (fun r q => (ref_v _ _ r q).trans (congrArg _ (ref_g _ r q)))).trans (arr7 m c).symm

end Cert.AdamFfnIn

end
-- ==== Proof.AdamFfnOut.lean ====
/- AdamW on the first layer of the FFN's output projection: the call's four arrays are the reference's. -/
module

public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.AdamSpec
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.AdamFfnOut

open Cert.Kernel23Ideal Cert.Kernel23Ideal.Gen Cert.Kernel23Ideal.Value Idealize.ShloMosaic Idealize.ShloMosaic.TcCoe
open Idealize.SL.Sem Cert.Reference23Ideal.Read Cert.AdamSpec

/-- The sum of the eight devices' parts, in a block. -/
theorem g_at (p0 p1 p2 p3 p4 p5 p6 p7 : FVec Ideal S1x176x1024 .bf16) (r : Fin 176) (q : Fin 1024) :
    k0_pay2 (F := Ideal) p0 p1 p2 p3 p4 p5 p6 p7 (ix2 r q) =
      (p0 (ix3 0 r q) : EReal) + p1 (ix3 0 r q) + p2 (ix3 0 r q) + p3 (ix3 0 r q) + p4 (ix3 0 r q) + p5 (ix3 0 r q)
        + p6 (ix3 0 r q) + p7 (ix3 0 r q) := by
  unfold_payloads
  pointwise

/-- The first moment's named reciprocal. -/
theorem c1 : Named.named (F := Ideal) κ "c1" (φ := .f32) 0x3FC48605#32 = (((5463681 / 8388608 : ℝ)⁻¹ : ℝ) : EReal) :=
  IdealRules.named_const.ideal_named_scalar _ _ _ _ rfl

/-- The second moment's named reciprocal. -/
theorem c2 : Named.named (F := Ideal) κ "c2" (φ := .f32) 0x42C8E6D3#32 = (((2672307 / 268435456 : ℝ)⁻¹ : ℝ) : EReal) :=
  IdealRules.named_const.ideal_named_scalar _ _ _ _ rfl

/-- The first moment, in a block. -/
theorem m_at (g : FVec Ideal S176x1024 .f32) (m : FVec Ideal S1x176x1024 .f32) (r : Fin 176) (q : Fin 1024) :
    k0_pay3 (F := Ideal) g m (ix2 r q) = moment1 (m (ix3 0 r q)) (g (ix2 r q)) := by
  unfold k0_pay3 moment1
  pointwise

/-- The second moment, in a block. -/
theorem v_at (g : FVec Ideal S176x1024 .f32) (v : FVec Ideal S1x176x1024 .f32) (r : Fin 176) (q : Fin 1024) :
    k0_pay4 (F := Ideal) g v (ix2 r q) = moment2 (v (ix3 0 r q)) (g (ix2 r q)) := by
  unfold k0_pay4 moment2
  pointwise

/-- The update, in a block. -/
theorem d_at (g : FVec Ideal S176x1024 .f32) (m v w : FVec Ideal S1x176x1024 .f32) (r : Fin 176) (q : Fin 1024) :
    k0_pay1 (F := Ideal) (k0_pay8 g m v) (k0_pay9 w) k0_pay10 (ix3 0 r q) =
      update (w (ix3 0 r q)) (m (ix3 0 r q)) (v (ix3 0 r q)) (g (ix2 r q)) := by
  rw [update_eq, ← m_at, ← v_at]
  unfold k0_pay1 k0_pay8 k0_pay9 k0_pay10
  pointwise [c1, c2]

variable (m : (ℓ : Loc nD τ sig) → Buf (Elt Ideal) ℓ) (c : Dev nD)

/-- Every window's block index at a grid point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The gradient of the layer at an element: the sum of the devices' parts. -/
def grad (r : Fin 352) (q : Fin 1024) : EReal := ∑ k : Fin 8, m ((c : Thread nD τ).loc main_arg0) (ix3 k r q)

/-- The layer's weight. -/
def wgt (r : Fin 352) (q : Fin 1024) : EReal := m ((c : Thread nD τ).loc main_arg1) (ix3 0 r q)

/-- The layer's first moment before the step. -/
def mom1 (r : Fin 352) (q : Fin 1024) : EReal := m ((c : Thread nD τ).loc main_arg2) (ix3 0 r q)

/-- The layer's second moment before the step. -/
def mom2 (r : Fin 352) (q : Fin 1024) : EReal := m ((c : Thread nD τ).loc main_arg3) (ix3 0 r q)

/-- The devices' parts summed in a block, as the body does. -/
def gBlk (t : Fin cfg0.N) : FVec Ideal S176x1024 .f32 :=
  k0_pay2 (F := Ideal) (View.ld (iblk m c 0 t) (Rect.unit ![0, 0, 0] ![1, 176, 1024] inb_S8x176x1024_S1x176x1024_0_0_0))
    (View.ld (iblk m c 0 t) (Rect.unit ![1, 0, 0] ![1, 176, 1024] inb_S8x176x1024_S1x176x1024_1_0_0))
    (View.ld (iblk m c 0 t) (Rect.unit ![2, 0, 0] ![1, 176, 1024] inb_S8x176x1024_S1x176x1024_2_0_0))
    (View.ld (iblk m c 0 t) (Rect.unit ![3, 0, 0] ![1, 176, 1024] inb_S8x176x1024_S1x176x1024_3_0_0))
    (View.ld (iblk m c 0 t) (Rect.unit ![4, 0, 0] ![1, 176, 1024] inb_S8x176x1024_S1x176x1024_4_0_0))
    (View.ld (iblk m c 0 t) (Rect.unit ![5, 0, 0] ![1, 176, 1024] inb_S8x176x1024_S1x176x1024_5_0_0))
    (View.ld (iblk m c 0 t) (Rect.unit ![6, 0, 0] ![1, 176, 1024] inb_S8x176x1024_S1x176x1024_6_0_0))
    (View.ld (iblk m c 0 t) (Rect.unit ![7, 0, 0] ![1, 176, 1024] inb_S8x176x1024_S1x176x1024_7_0_0))

variable {t : Fin cfg0.N} {r : Fin 176} {q : Fin 1024} {r' : Fin 352} {q' : Fin 1024}

/-- The summed parts of a block are the gradient's. -/
theorem gBlk_at (h1 : r'.val = t.val * 176 + r.val) (h2 : q'.val = q.val) : gBlk m c t (ix2 r q) = grad m c r' q' := by
  unfold gBlk
  rw [g_at]
  unfold grad
  rw [← sum8]
  have part : ∀ k : Fin 8, iblk m c 0 t (ix3 k r q) = m ((c : Thread nD τ).loc main_arg0) (ix3 k r' q') := fun k => by
    blk_ext [iblk, V, idx t, h1, h2]
  rw [← part, ← part, ← part, ← part, ← part, ← part, ← part, ← part]
  pointwise

/-- The weight's block. -/
theorem w_blk (h1 : r'.val = t.val * 176 + r.val) (h2 : q'.val = q.val) : iblk m c 1 t (ix3 0 r q) = wgt m c r' q' := by
  unfold wgt
  blk_ext [iblk, V, idx t, h1, h2]

/-- The first moment's block. -/
theorem m_blk (h1 : r'.val = t.val * 176 + r.val) (h2 : q'.val = q.val) : iblk m c 2 t (ix3 0 r q) = mom1 m c r' q' := by
  unfold mom1
  blk_ext [iblk, V, idx t, h1, h2]

/-- The second moment's block. -/
theorem v_blk (h1 : r'.val = t.val * 176 + r.val) (h2 : q'.val = q.val) : iblk m c 3 t (ix3 0 r q) = mom2 m c r' q' := by
  unfold mom2
  blk_ext [iblk, V, idx t, h1, h2]

/-- An array whose first layer is `f` and whose other layers are those of `old`. -/
def first (f : Fin 352 → Fin 1024 → EReal) (old : S4x352x1024.Idx → EReal) (i : S4x352x1024.Idx) : EReal :=
  if (i 0).val / 1 = 0 then f (i 1) (i 2) else old i

/-- The gradient's array. -/
theorem arr4 : (dats m 0 c).arrAt 4 (cfgs 0).N = first (grad m c) (m ((c : Thread nD τ).loc main_arg4)) := by
  refine ((dats m 0 c).arrAt_eq_of_coversWhere 4 (fun i : S4x352x1024.Idx => grad m c (i 1) (i 2)) (P := fun i : S4x352x1024.Idx => (i 0).val / 1 = 0)
    (fun β => β (0 : Fin 3) = 0) (by decide +kernel) (fun t hf y => ?_) (fun j => Iff.rfl)).trans ?_
  · blk_simp
    rw [after0_4, outsAt0]
    idx_vars y
    frame_out
    change k0_pay5 (F := Ideal) (gBlk m c t) (ix3 y0 y1 y2) = _
    have k : k0_pay5 (F := Ideal) (gBlk m c t) (ix3 y0 y1 y2) = gBlk m c t (ix2 y1 y2) := by
      unfold k0_pay5
      pointwise
    rw [k]
    exact gBlk_at m c (by blk_simp [idx t]) (by blk_simp [idx t])
  · rfl

/-- The update's array. -/
theorem arr5 : (dats m 0 c).arrAt 5 (cfgs 0).N
    = first (fun r q => update (wgt m c r q) (mom1 m c r q) (mom2 m c r q) (grad m c r q)) (m ((c : Thread nD τ).loc main_arg5)) := by
  refine ((dats m 0 c).arrAt_eq_of_coversWhere 5 (fun i : S4x352x1024.Idx => update (wgt m c (i 1) (i 2)) (mom1 m c (i 1) (i 2)) (mom2 m c (i 1) (i 2)) (grad m c (i 1) (i 2)))
    (P := fun i : S4x352x1024.Idx => (i 0).val / 1 = 0)
    (fun β => β (0 : Fin 3) = 0) (by decide +kernel) (fun t hf y => ?_) (fun j => Iff.rfl)).trans ?_
  · blk_simp
    rw [after0_5, outsAt0]
    idx_vars y
    frame_out
    obtain rfl : y0 = 0 := Subsingleton.elim _ _
    refine (d_at (gBlk m c t) (iblk m c 2 t) (iblk m c 3 t) (iblk m c 1 t) y1 y2).trans ?_
    have e1 : (((View.whole main_v0_1).slice (win0_5.rect t)).emb (ix3 0 y1 y2) 1).val = t.val * 176 + y1.val := by blk_simp [idx t]
    have e2 : (((View.whole main_v0_1).slice (win0_5.rect t)).emb (ix3 0 y1 y2) 2).val = y2.val := by blk_simp [idx t]
    rw [w_blk m c e1 e2, m_blk m c e1 e2, v_blk m c e1 e2, gBlk_at m c e1 e2]
  · rfl

/-- The first moment's array. -/
theorem arr6 : (dats m 0 c).arrAt 6 (cfgs 0).N
    = first (fun r q => moment1 (mom1 m c r q) (grad m c r q)) (m ((c : Thread nD τ).loc main_arg6)) := by
  refine ((dats m 0 c).arrAt_eq_of_coversWhere 6 (fun i : S4x352x1024.Idx => moment1 (mom1 m c (i 1) (i 2)) (grad m c (i 1) (i 2)))
    (P := fun i : S4x352x1024.Idx => (i 0).val / 1 = 0)
    (fun β => β (0 : Fin 3) = 0) (by decide +kernel) (fun t hf y => ?_) (fun j => Iff.rfl)).trans ?_
  · blk_simp
    rw [after0_6, outsAt0]
    idx_vars y
    frame_out
    obtain rfl : y0 = 0 := Subsingleton.elim _ _
    have k : k0_pay6 (F := Ideal) (gBlk m c t) (iblk m c 2 t) (ix3 0 y1 y2) = k0_pay3 (F := Ideal) (gBlk m c t) (iblk m c 2 t) (ix2 y1 y2) := by
      unfold k0_pay6
      pointwise
    refine k.trans ((m_at _ _ y1 y2).trans ?_)
    have e1 : (((View.whole main_v0_2).slice (win0_6.rect t)).emb (ix3 0 y1 y2) 1).val = t.val * 176 + y1.val := by blk_simp [idx t]
    have e2 : (((View.whole main_v0_2).slice (win0_6.rect t)).emb (ix3 0 y1 y2) 2).val = y2.val := by blk_simp [idx t]
    rw [m_blk m c e1 e2, gBlk_at m c e1 e2]
  · rfl

/-- The second moment's array. -/
theorem arr7 : (dats m 0 c).arrAt 7 (cfgs 0).N
    = first (fun r q => moment2 (mom2 m c r q) (grad m c r q)) (m ((c : Thread nD τ).loc main_arg7)) := by
  refine ((dats m 0 c).arrAt_eq_of_coversWhere 7 (fun i : S4x352x1024.Idx => moment2 (mom2 m c (i 1) (i 2)) (grad m c (i 1) (i 2)))
    (P := fun i : S4x352x1024.Idx => (i 0).val / 1 = 0)
    (fun β => β (0 : Fin 3) = 0) (by decide +kernel) (fun t hf y => ?_) (fun j => Iff.rfl)).trans ?_
  · blk_simp
    rw [after0_7, outsAt0]
    idx_vars y
    frame_out
    obtain rfl : y0 = 0 := Subsingleton.elim _ _
    have k : k0_pay7 (F := Ideal) (gBlk m c t) (iblk m c 3 t) (ix3 0 y1 y2) = k0_pay4 (F := Ideal) (gBlk m c t) (iblk m c 3 t) (ix2 y1 y2) := by
      unfold k0_pay7
      pointwise
    refine k.trans ((v_at _ _ y1 y2).trans ?_)
    have e1 : (((View.whole main_v0_3).slice (win0_7.rect t)).emb (ix3 0 y1 y2) 1).val = t.val * 176 + y1.val := by blk_simp [idx t]
    have e2 : (((View.whole main_v0_3).slice (win0_7.rect t)).emb (ix3 0 y1 y2) 2).val = y2.val := by blk_simp [idx t]
    rw [v_blk m c e1 e2, gBlk_at m c e1 e2]
  · rfl

section Reference

variable (x0 : (⟨Cert.Reference23Ideal.S8x352x1024, .bf16⟩ : BufTy).Contents (Elt Ideal))
  (x1 x2 x3 x4 x5 x6 x7 : (⟨Cert.Reference23Ideal.S4x352x1024, .f32⟩ : BufTy).Contents (Elt Ideal))

/-- The reference's gradient. -/
theorem ref_g (r : Fin 352) (q : Fin 1024) : val_main_v1 (F := Ideal) x0 (ix2 r q) = ∑ k : Fin 8, (x0 (ix3 k r q) : EReal) := by
  pointwise [val_main_v1, val_main_v0, val_main_cst]

/-- The reference's first moment. -/
theorem ref_m (r : Fin 352) (q : Fin 1024) : val_main_v12 (F := Ideal) x0 x2 (ix2 r q)
    = moment1 (x2 (ix3 0 r q)) (val_main_v1 (F := Ideal) x0 (ix2 r q)) := by
  unfold moment1 val_main_v12 val_main_v11
  generalize val_main_v1 (F := Ideal) x0 = g
  pointwise [val_main_v10, val_main_v9, val_main_v8, val_main_v5, val_main_v4, val_main_cst_0, val_main_cst_1]

/-- The reference's second moment. -/
theorem ref_v (r : Fin 352) (q : Fin 1024) : val_main_v18 (F := Ideal) x0 x3 (ix2 r q)
    = moment2 (x3 (ix3 0 r q)) (val_main_v1 (F := Ideal) x0 (ix2 r q)) := by
  unfold moment2 val_main_v18 val_main_v17 val_main_v15
  generalize val_main_v1 (F := Ideal) x0 = g
  pointwise [val_main_v16, val_main_v14, val_main_v13, val_main_v7, val_main_v6, val_main_cst_2, val_main_cst_3]

/-- The reference's update. -/
theorem ref_d (r : Fin 352) (q : Fin 1024) : val_main_v31 (F := Ideal) x0 x1 x2 x3 (ix2 r q)
    = update (x1 (ix3 0 r q)) (x2 (ix3 0 r q)) (x3 (ix3 0 r q)) (val_main_v1 (F := Ideal) x0 (ix2 r q)) := by
  unfold update
  rw [← ref_m, ← ref_v]
  unfold val_main_v31 val_main_v29 val_main_v26 val_main_v25 val_main_v23 val_main_v22 val_main_v20
  generalize val_main_v12 (F := Ideal) x0 x2 = m1
  generalize val_main_v18 (F := Ideal) x0 x3 = v1
  pointwise [val_main_v30, val_main_v28, val_main_v27, val_main_v24, val_main_v21, val_main_v19, val_main_v3, val_main_v2,
    val_main_cst_4, val_main_cst_5, val_main_cst_6, val_main_cst_7, val_main_cst_8]

/-- Putting a new first layer before the old others, in the host's way. -/
theorem ref_first (f : Fin 352 → Fin 1024 → EReal) (new : FVec Ideal Cert.Reference23Ideal.S352x1024 .f32)
    (old : (⟨Cert.Reference23Ideal.S4x352x1024, .f32⟩ : BufTy).Contents (Elt Ideal)) (h : ∀ r q, new (ix2 r q) = f r q) :
    concatenate Cert.Reference23Ideal.S4x352x1024 0
      [⟨Cert.Reference23Ideal.S1x352x1024, broadcastInDim Cert.Reference23Ideal.S1x352x1024 ![1, 2] Cert.Reference23Ideal.Gen.bcast_S352x1024_S1x352x1024_1_2 new⟩,
       ⟨Cert.Reference23Ideal.S3x352x1024, extractStridedSlice Cert.Reference23Ideal.S3x352x1024 ![1, 0, 0] old Cert.Reference23Ideal.Gen.slices_S4x352x1024_S3x352x1024_1_0_0⟩]
      Cert.Reference23Ideal.Gen.concatenates_S1x352x1024_S3x352x1024_S4x352x1024_d0 = first f old := by
  funext i
  idx_vars i
  change _ = if i0.val / 1 = 0 then f i1 i2 else old (ix3 i0 i1 i2)
  rw [← h]
  pointwise
  by_cases h0 : i0.val = 0
  · rw [dif_pos (by omega), if_pos h0]
  · rw [dif_neg (by omega), if_neg h0]
    exact congrArg (fun k => old (ix3 k i1 i2)) (Fin.ext (by show 1 + (i0.val - 1) = i0.val; omega))

end Reference

/-- The reference runs to its end and leaves its arguments as they were. -/
theorem frame_ri : Cert.quiescent_Reference23Ideal := fun m ρ _ =>
  (θ_run Cert.Reference23Ideal.defs _ _).mono (fun r h => ⟨fun c => (h c).2.2.2.2,
    Idealize.ShloMosaic.sem_eq_zero_of_no_sems (by decide) r.2⟩) (Cert.Reference23Ideal.Value.run (F := Ideal) m ρ)

/-- The two named constants are the reciprocals that they are named. -/
theorem preserves : Cert.preserves_Kernel23_Kernel23Ideal :=
  ⟨IdealRules.named_const.statement Cert.Kernel23Ideal.κ "c1" .f32 0x3FC48605#32 _ rfl,
    IdealRules.named_const.statement Cert.Kernel23Ideal.κ "c2" .f32 0x42C8E6D3#32 _ rfl⟩

/-- The kernel's four arrays are the reference's. -/
theorem algebraic : Cert.algebraic_Kernel23Ideal_Reference23Ideal := by
  pair_intro
  · run_from Cert.Kernel23Ideal.Value.run_blocks m g
  · run_from Cert.Reference23Ideal.Value.run m' g'
    · refine (val_main_v34_eq _ _).trans ?_
      try rw [(hagree c).1]
      try rw [(hagree c).2.2.2.2.1]
      unfold val_main_v34 val_main_v33 val_main_v32
      exact (ref_first _ _ _ (fun r q => ref_g _ r q)).trans (arr4 m c).symm
    · refine (val_main_v37_eq _ _ _ _ _).trans ?_
      try rw [(hagree c).1]
      try rw [(hagree c).2.1]
      try rw [(hagree c).2.2.1]
      try rw [(hagree c).2.2.2.1]
      try rw [(hagree c).2.2.2.2.2.1]
      unfold val_main_v37 val_main_v36 val_main_v35
      exact (ref_first _ _ _ (fun r q => (ref_d _ _ _ _ r q).trans (congrArg _ (ref_g _ r q)))).trans (arr5 m c).symm
    · refine (val_main_v40_eq _ _ _).trans ?_
      try rw [(hagree c).1]
      try rw [(hagree c).2.2.1]
      try rw [(hagree c).2.2.2.2.2.2.1]
      unfold val_main_v40 val_main_v39 val_main_v38
      exact (ref_first _ _ _ (fun r q => (ref_m _ _ r q).trans (congrArg _ (ref_g _ r q)))).trans (arr6 m c).symm
    · refine (val_main_v43_eq _ _ _).trans ?_
      try rw [(hagree c).1]
      try rw [(hagree c).2.2.2.1]
      try rw [(hagree c).2.2.2.2.2.2.2]
      unfold val_main_v43 val_main_v42 val_main_v41
      exact (ref_first _ _ _ (fun r q => (ref_v _ _ r q).trans (congrArg _ (ref_g _ r q)))).trans (arr7 m c).symm

end Cert.AdamFfnOut

end
-- ==== Proof.AdamSmall.lean ====
/- AdamW on the rows into which the small weights are packed: the call's four arrays are the reference's. -/
module

public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.AdamSpec
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.AdamSmall

open Cert.Kernel24Ideal Cert.Kernel24Ideal.Gen Cert.Kernel24Ideal.Value Idealize.ShloMosaic Idealize.ShloMosaic.TcCoe
open Idealize.SL.Sem Cert.Reference24Ideal.Read Cert.AdamSpec

/-- The first moment's named reciprocal. -/
theorem c1 : Named.named (F := Ideal) κ "c1" (φ := .f32) 0x3FC48605#32 = (((5463681 / 8388608 : ℝ)⁻¹ : ℝ) : EReal) :=
  IdealRules.named_const.ideal_named_scalar _ _ _ _ rfl

/-- The second moment's named reciprocal. -/
theorem c2 : Named.named (F := Ideal) κ "c2" (φ := .f32) 0x42C8E6D3#32 = (((2672307 / 268435456 : ℝ)⁻¹ : ℝ) : EReal) :=
  IdealRules.named_const.ideal_named_scalar _ _ _ _ rfl

/-- The gradient, in a block. -/
theorem g_at (g : FVec Ideal S1x1096x128 .f32) (r : Fin 1096) (q : Fin 128) : k0_pay1 (F := Ideal) g (ix2 r q) = g (ix3 0 r q) := by
  unfold k0_pay1
  pointwise

/-- The first moment, in a block. -/
theorem m_at (g : FVec Ideal S1x1096x128 .f32) (m : FVec Ideal S1096x128 .f32) (r : Fin 1096) (q : Fin 128) :
    k0_pay2 (F := Ideal) g m (ix2 r q) = moment1 (m (ix2 r q)) (g (ix3 0 r q)) := by
  unfold k0_pay2 k0_pay1 moment1
  pointwise

/-- The second moment, in a block. -/
theorem v_at (g : FVec Ideal S1x1096x128 .f32) (v : FVec Ideal S1096x128 .f32) (r : Fin 1096) (q : Fin 128) :
    k0_pay3 (F := Ideal) g v (ix2 r q) = moment2 (v (ix2 r q)) (g (ix3 0 r q)) := by
  unfold k0_pay3 k0_pay1 moment2
  pointwise

/-- The update, in a block. -/
theorem d_at (g : FVec Ideal S1x1096x128 .f32) (m v w : FVec Ideal S1096x128 .f32) (r : Fin 1096) (q : Fin 128) :
    k0_pay4 (F := Ideal) g m v w (ix2 r q) = update (w (ix2 r q)) (m (ix2 r q)) (v (ix2 r q)) (g (ix3 0 r q)) := by
  rw [update_eq, ← m_at, ← v_at]
  unfold k0_pay4
  pointwise [c1, c2]

variable (m : (ℓ : Loc nD τ sig) → Buf (Elt Ideal) ℓ) (c : Dev nD)

/-- Every window's block index at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The gradient at an element. -/
def grad (r : Fin 3288) (q : Fin 128) : EReal := m ((c : Thread nD τ).loc main_arg0) (ix3 0 r q)

/-- The weight. -/
def wgt (r : Fin 3288) (q : Fin 128) : EReal := m ((c : Thread nD τ).loc main_arg1) (ix2 r q)

/-- The first moment before the step. -/
def mom1 (r : Fin 3288) (q : Fin 128) : EReal := m ((c : Thread nD τ).loc main_arg2) (ix2 r q)

/-- The second moment before the step. -/
def mom2 (r : Fin 3288) (q : Fin 128) : EReal := m ((c : Thread nD τ).loc main_arg3) (ix2 r q)

variable {t : Fin cfg0.N} {r : Fin 1096} {q : Fin 128} {r' : Fin 3288} {q' : Fin 128}

/-- The gradient's block. -/
theorem g_blk (h1 : r'.val = t.val * 1096 + r.val) (h2 : q'.val = q.val) : iblk m c 0 t (ix3 0 r q) = grad m c r' q' := by
  unfold grad
  blk_ext [iblk, V, idx t, h1, h2]

/-- The weight's block. -/
theorem w_blk (h1 : r'.val = t.val * 1096 + r.val) (h2 : q'.val = q.val) : iblk m c 1 t (ix2 r q) = wgt m c r' q' := by
  unfold wgt
  blk_ext [iblk, V, idx t, h1, h2]

/-- The first moment's block. -/
theorem m_blk (h1 : r'.val = t.val * 1096 + r.val) (h2 : q'.val = q.val) : iblk m c 2 t (ix2 r q) = mom1 m c r' q' := by
  unfold mom1
  blk_ext [iblk, V, idx t, h1, h2]

/-- The second moment's block. -/
theorem v_blk (h1 : r'.val = t.val * 1096 + r.val) (h2 : q'.val = q.val) : iblk m c 3 t (ix2 r q) = mom2 m c r' q' := by
  unfold mom2
  blk_ext [iblk, V, idx t, h1, h2]

/-- The gradient's array. -/
def out4 (i : S3288x128.Idx) : EReal := grad m c (i 0) (i 1)

/-- Window 4 leaves it. -/
theorem arr4 : (dats m 0 c).arrAt 4 (cfgs 0).N = out4 m c := by
  refine (dats m 0 c).arrAt_eq_of_covers 4 _ (by decide +kernel) fun t hf y => ?_
  blk_simp
  rw [after0_4]
  idx_vars y
  have e1 : (((View.whole main_v0_0).slice (win0_4.rect t)).emb (ix2 y0 y1) 0).val = t.val * 1096 + y0.val := by blk_simp [idx t]
  have e2 : (((View.whole main_v0_0).slice (win0_4.rect t)).emb (ix2 y0 y1) 1).val = y1.val := by blk_simp [idx t]
  frame_out
  refine (g_at (iblk m c 0 t) y0 y1).trans ?_
  unfold out4
  rw [g_blk m c e1 e2]

/-- The update's array. -/
def out5 (i : S3288x128.Idx) : EReal := update (wgt m c (i 0) (i 1)) (mom1 m c (i 0) (i 1)) (mom2 m c (i 0) (i 1)) (grad m c (i 0) (i 1))

/-- Window 5 leaves it. -/
theorem arr5 : (dats m 0 c).arrAt 5 (cfgs 0).N = out5 m c := by
  refine (dats m 0 c).arrAt_eq_of_covers 5 _ (by decide +kernel) fun t hf y => ?_
  blk_simp
  rw [after0_5]
  idx_vars y
  have e1 : (((View.whole main_v0_1).slice (win0_5.rect t)).emb (ix2 y0 y1) 0).val = t.val * 1096 + y0.val := by blk_simp [idx t]
  have e2 : (((View.whole main_v0_1).slice (win0_5.rect t)).emb (ix2 y0 y1) 1).val = y1.val := by blk_simp [idx t]
  frame_out
  refine (d_at (iblk m c 0 t) (iblk m c 2 t) (iblk m c 3 t) (iblk m c 1 t) y0 y1).trans ?_
  unfold out5
  rw [w_blk m c e1 e2, m_blk m c e1 e2, v_blk m c e1 e2, g_blk m c e1 e2]

/-- The first moment's array. -/
def out6 (i : S3288x128.Idx) : EReal := moment1 (mom1 m c (i 0) (i 1)) (grad m c (i 0) (i 1))

/-- Window 6 leaves it. -/
theorem arr6 : (dats m 0 c).arrAt 6 (cfgs 0).N = out6 m c := by
  refine (dats m 0 c).arrAt_eq_of_covers 6 _ (by decide +kernel) fun t hf y => ?_
  blk_simp
  rw [after0_6]
  idx_vars y
  have e1 : (((View.whole main_v0_2).slice (win0_6.rect t)).emb (ix2 y0 y1) 0).val = t.val * 1096 + y0.val := by blk_simp [idx t]
  have e2 : (((View.whole main_v0_2).slice (win0_6.rect t)).emb (ix2 y0 y1) 1).val = y1.val := by blk_simp [idx t]
  frame_out
  refine (m_at (iblk m c 0 t) (iblk m c 2 t) y0 y1).trans ?_
  unfold out6
  rw [m_blk m c e1 e2, g_blk m c e1 e2]

/-- The second moment's array. -/
def out7 (i : S3288x128.Idx) : EReal := moment2 (mom2 m c (i 0) (i 1)) (grad m c (i 0) (i 1))

/-- Window 7 leaves it. -/
theorem arr7 : (dats m 0 c).arrAt 7 (cfgs 0).N = out7 m c := by
  refine (dats m 0 c).arrAt_eq_of_covers 7 _ (by decide +kernel) fun t hf y => ?_
  blk_simp
  rw [after0_7]
  idx_vars y
  have e1 : (((View.whole main_v0_3).slice (win0_7.rect t)).emb (ix2 y0 y1) 0).val = t.val * 1096 + y0.val := by blk_simp [idx t]
  have e2 : (((View.whole main_v0_3).slice (win0_7.rect t)).emb (ix2 y0 y1) 1).val = y1.val := by blk_simp [idx t]
  frame_out
  refine (v_at (iblk m c 0 t) (iblk m c 3 t) y0 y1).trans ?_
  unfold out7
  rw [v_blk m c e1 e2, g_blk m c e1 e2]

section Reference

variable (x0 : (⟨Cert.Reference24Ideal.S1x3288x128, .f32⟩ : BufTy).Contents (Elt Ideal))
  (x1 x2 x3 : (⟨Cert.Reference24Ideal.S3288x128, .f32⟩ : BufTy).Contents (Elt Ideal))

/-- The reference's gradient. -/
theorem ref_g (r : Fin 3288) (q : Fin 128) : val_main_v0 (F := Ideal) x0 (ix2 r q) = x0 (ix3 0 r q) := by
  pointwise [val_main_v0, val_main_cst]
  exact Fin.sum_univ_one _

/-- The reference's first moment. -/
theorem ref_m (r : Fin 3288) (q : Fin 128) : val_main_v5 (F := Ideal) x0 x2 (ix2 r q)
    = moment1 (x2 (ix2 r q)) (val_main_v0 (F := Ideal) x0 (ix2 r q)) := by
  unfold moment1 val_main_v5 val_main_v4
  generalize val_main_v0 (F := Ideal) x0 = g
  pointwise [val_main_v3, val_main_v2, val_main_v1, val_main_cst_0, val_main_cst_1]

/-- The reference's second moment. -/
theorem ref_v (r : Fin 3288) (q : Fin 128) : val_main_v11 (F := Ideal) x0 x3 (ix2 r q)
    = moment2 (x3 (ix2 r q)) (val_main_v0 (F := Ideal) x0 (ix2 r q)) := by
  unfold moment2 val_main_v11 val_main_v10 val_main_v8
  generalize val_main_v0 (F := Ideal) x0 = g
  pointwise [val_main_v9, val_main_v7, val_main_v6, val_main_cst_2, val_main_cst_3]

/-- The reference's update. -/
theorem ref_d (r : Fin 3288) (q : Fin 128) : val_main_v24 (F := Ideal) x0 x1 x2 x3 (ix2 r q)
    = update (x1 (ix2 r q)) (x2 (ix2 r q)) (x3 (ix2 r q)) (val_main_v0 (F := Ideal) x0 (ix2 r q)) := by
  unfold update
  rw [← ref_m, ← ref_v]
  unfold val_main_v24 val_main_v22 val_main_v19 val_main_v18 val_main_v16 val_main_v15 val_main_v13
  generalize val_main_v5 (F := Ideal) x0 x2 = m1
  generalize val_main_v11 (F := Ideal) x0 x3 = v1
  pointwise [val_main_v23, val_main_v21, val_main_v20, val_main_v17, val_main_v14, val_main_v12,
    val_main_cst_4, val_main_cst_5, val_main_cst_6, val_main_cst_7, val_main_cst_8]

end Reference

/-- The reference runs to its end and leaves its arguments as they were. -/
theorem frame_ri : Cert.quiescent_Reference24Ideal := fun m ρ _ =>
  (θ_run Cert.Reference24Ideal.defs _ _).mono (fun r h => ⟨fun c => (h c).2.2.2.2,
    Idealize.ShloMosaic.sem_eq_zero_of_no_sems (by decide) r.2⟩) (Cert.Reference24Ideal.Value.run (F := Ideal) m ρ)

/-- The two named constants are the reciprocals that they are named. -/
theorem preserves : Cert.preserves_Kernel24_Kernel24Ideal :=
  ⟨IdealRules.named_const.statement Cert.Kernel24Ideal.κ "c1" .f32 0x3FC48605#32 _ rfl,
    IdealRules.named_const.statement Cert.Kernel24Ideal.κ "c2" .f32 0x42C8E6D3#32 _ rfl⟩

/-- The kernel's four arrays are the reference's. -/
theorem algebraic : Cert.algebraic_Kernel24Ideal_Reference24Ideal := by
  intro m g m' g' _ hagree
  refine ⟨fun c => out4 m c, fun c => out5 m c, fun c => out6 m c, fun c => out7 m c,
    (θ_run _ _ _).mono (fun r h c => ⟨(h c).1.trans (arr4 m c), (h c).2.1.trans (arr5 m c), (h c).2.2.1.trans (arr6 m c),
      (h c).2.2.2.1.trans (arr7 m c), (h c).2.2.2.2⟩) (run_blocks m g),
    (θ_run _ _ _).mono (fun r h c => ⟨(h c).1.trans ?_, (h c).2.1.trans ?_, (h c).2.2.1.trans ?_, (h c).2.2.2.1.trans ?_,
      (h c).2.2.2.2⟩) (Cert.Reference24Ideal.Value.run m' g')⟩
  · obtain ⟨h0, h1, h2, h3⟩ := hagree c
    refine (val_main_v0_eq _).trans ?_
    rw [h0]
    funext i
    obtain ⟨r, q, rfl⟩ : ∃ (r : Fin 3288) (q : Fin 128), i = ix2 r q := ⟨i 0, i 1, by idx_vars i; blk_ext⟩
    exact ref_g _ r q
  · obtain ⟨h0, h1, h2, h3⟩ := hagree c
    refine (val_main_v24_eq _ _ _ _).trans ?_
    rw [h0, h1, h2, h3]
    funext i
    obtain ⟨r, q, rfl⟩ : ∃ (r : Fin 3288) (q : Fin 128), i = ix2 r q := ⟨i 0, i 1, by idx_vars i; blk_ext⟩
    exact (ref_d _ _ _ _ r q).trans (congrArg _ (ref_g _ r q))
  · obtain ⟨h0, h1, h2, h3⟩ := hagree c
    refine (val_main_v5_eq _ _).trans ?_
    rw [h0, h2]
    funext i
    obtain ⟨r, q, rfl⟩ : ∃ (r : Fin 3288) (q : Fin 128), i = ix2 r q := ⟨i 0, i 1, by idx_vars i; blk_ext⟩
    exact (ref_m _ _ r q).trans (congrArg _ (ref_g _ r q))
  · obtain ⟨h0, h1, h2, h3⟩ := hagree c
    refine (val_main_v11_eq _ _).trans ?_
    rw [h0, h3]
    funext i
    obtain ⟨r, q, rfl⟩ : ∃ (r : Fin 3288) (q : Fin 128), i = ix2 r q := ⟨i 0, i 1, by idx_vars i; blk_ext⟩
    exact (ref_v _ _ r q).trans (congrArg _ (ref_g _ r q))

end Cert.AdamSmall

end
-- ==== Proof.SmallGrads.lean ====
/- The gradients of the small weights, summed over the devices: the call's array is the reference's. -/
module

public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.AdamSpec
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.SmallGrads

open Cert.Kernel25Ideal Cert.Kernel25Ideal.Gen Cert.Kernel25Ideal.Value Idealize.ShloMosaic Idealize.ShloMosaic.TcCoe
open Idealize.SL.Sem Cert.Reference25Ideal.Read Cert.AdamSpec

/-- The sum of the eight devices' parts, in a block. -/
theorem g_at (p0 p1 p2 p3 p4 p5 p6 p7 : FVec Ideal S1x1672x128 .f32) (r : Fin 1672) (q : Fin 128) :
    k0_pay1 (F := Ideal) p0 p1 p2 p3 p4 p5 p6 p7 (ix2 r q) =
      (p0 (ix3 0 r q) : EReal) + p1 (ix3 0 r q) + p2 (ix3 0 r q) + p3 (ix3 0 r q) + p4 (ix3 0 r q) + p5 (ix3 0 r q)
        + p6 (ix3 0 r q) + p7 (ix3 0 r q) := by
  unfold k0_pay1
  pointwise

variable (m : (ℓ : Loc nD τ sig) → Buf (Elt Ideal) ℓ) (c : Dev nD)

/-- Both windows' block index at a grid point. -/
theorem idx : ∀ t : Fin cfg0.N, win0_0.index t = ![0, t.val, 0] ∧ win0_1.index t = ![t.val, 0] :=
  (by decide +kernel : ∀ t : Fin grid0.N, _)

/-- The sum of the devices' parts at an element. -/
def grad (r : Fin 3344) (q : Fin 128) : EReal := ∑ k : Fin 8, m ((c : Thread nD τ).loc main_arg0) (ix3 k r q)

/-- The devices' parts summed in a block, as the body does. -/
def gBlk (t : Fin cfg0.N) : FVec Ideal S1672x128 .f32 :=
  k0_pay1 (F := Ideal) (View.ld (iblk m c 0 t) (Rect.unit ![0, 0, 0] ![1, 1672, 128] inb_S8x1672x128_S1x1672x128_0_0_0))
    (View.ld (iblk m c 0 t) (Rect.unit ![1, 0, 0] ![1, 1672, 128] inb_S8x1672x128_S1x1672x128_1_0_0))
    (View.ld (iblk m c 0 t) (Rect.unit ![2, 0, 0] ![1, 1672, 128] inb_S8x1672x128_S1x1672x128_2_0_0))
    (View.ld (iblk m c 0 t) (Rect.unit ![3, 0, 0] ![1, 1672, 128] inb_S8x1672x128_S1x1672x128_3_0_0))
    (View.ld (iblk m c 0 t) (Rect.unit ![4, 0, 0] ![1, 1672, 128] inb_S8x1672x128_S1x1672x128_4_0_0))
    (View.ld (iblk m c 0 t) (Rect.unit ![5, 0, 0] ![1, 1672, 128] inb_S8x1672x128_S1x1672x128_5_0_0))
    (View.ld (iblk m c 0 t) (Rect.unit ![6, 0, 0] ![1, 1672, 128] inb_S8x1672x128_S1x1672x128_6_0_0))
    (View.ld (iblk m c 0 t) (Rect.unit ![7, 0, 0] ![1, 1672, 128] inb_S8x1672x128_S1x1672x128_7_0_0))

variable {t : Fin cfg0.N} {r : Fin 1672} {q : Fin 128} {r' : Fin 3344} {q' : Fin 128}

/-- The summed parts of a block are the sum. -/
theorem gBlk_at (h1 : r'.val = t.val * 1672 + r.val) (h2 : q'.val = q.val) : gBlk m c t (ix2 r q) = grad m c r' q' := by
  unfold gBlk
  rw [g_at]
  unfold grad
  rw [← sum8]
  have part : ∀ k : Fin 8, iblk m c 0 t (ix3 k r q) = m ((c : Thread nD τ).loc main_arg0) (ix3 k r' q') := fun k => by
    blk_ext [iblk, V, idx t, h1, h2]
  rw [← part, ← part, ← part, ← part, ← part, ← part, ← part, ← part]
  pointwise

/-- The sum, as an array. -/
def out1 (i : S3344x128.Idx) : EReal := grad m c (i 0) (i 1)

/-- Window 1 leaves it. -/
theorem arr1 : (dats m 0 c).arrAt 1 (cfgs 0).N = out1 m c := by
  refine (dats m 0 c).arrAt_eq_of_covers 1 _ (by decide +kernel) fun t hf y => ?_
  blk_simp
  rw [after0_1]
  idx_vars y
  have e1 : (((View.whole main_v0).slice (win0_1.rect t)).emb (ix2 y0 y1) 0).val = t.val * 1672 + y0.val := by blk_simp [idx t]
  have e2 : (((View.whole main_v0).slice (win0_1.rect t)).emb (ix2 y0 y1) 1).val = y1.val := by blk_simp [idx t]
  frame_out
  exact gBlk_at m c e1 e2

/-- The reference runs to its end and leaves its arguments as they were. -/
theorem frame_ri : Cert.quiescent_Reference25Ideal := fun m ρ _ =>
  (θ_run Cert.Reference25Ideal.defs _ _).mono (fun r h => ⟨fun c => (h c).2,
    Idealize.ShloMosaic.sem_eq_zero_of_no_sems (by decide) r.2⟩) (Cert.Reference25Ideal.Value.run (F := Ideal) m ρ)

/-- The reference's sum. -/
theorem ref (x0 : (⟨Cert.Reference25Ideal.S8x3344x128, .f32⟩ : BufTy).Contents (Elt Ideal)) (r : Fin 3344) (q : Fin 128) :
    val_main_v0 (F := Ideal) x0 (ix2 r q) = ∑ k : Fin 8, (x0 (ix3 k r q) : EReal) := by
  pointwise [val_main_v0, val_main_cst]

/-- The kernel's array is the reference's. -/
theorem algebraic : Cert.algebraic_Kernel25Ideal_Reference25Ideal := by
  intro m g m' g' _ hagree
  refine ⟨fun c => out1 m c,
    (θ_run _ _ _).mono (fun r h c => ⟨(h c).1.trans (arr1 m c), (h c).2⟩) (run_blocks m g),
    (θ_run _ _ _).mono (fun r h c => ⟨(h c).1.trans ?_, (h c).2⟩) (Cert.Reference25Ideal.Value.run m' g')⟩
  refine (val_main_v0_eq _).trans ?_
  rw [hagree c]
  funext i
  obtain ⟨r, q, rfl⟩ : ∃ (r : Fin 3344) (q : Fin 128), i = ix2 r q := ⟨i 0, i 1, by idx_vars i; blk_ext⟩
  exact ref _ r q

end Cert.SmallGrads

end
-- ==== Proof.LossHead.lean ====
/- The loss: half the sum over a device's rows of the mean squared error, and its gradient in the last layer's rows. -/
module

public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Lib.Pointwise
public import Idealize.ShloMosaic.Lib.Pipeline.ValueKit
public import Idealize.ShloMosaic.Adequacy
public import Idealize.ShloMosaic.Init
public import proofs.«01_k».proof.Defs

@[expose] public section

set_option maxRecDepth 2000

noncomputable section

namespace Cert.LossHead

open Cert.Kernel26Ideal Cert.Kernel26Ideal.Gen Cert.Kernel26Ideal.Value Idealize.ShloMosaic Idealize.ShloMosaic.TcCoe
open Idealize.SL.Sem Cert.Reference26Ideal.Read

/-- The kernel's factor of the loss. -/
theorem ofBits_half_mean : (Ideal.ofBits .f32 0x3A000000#32 : EReal) = ((1 / 2048 : ℝ) : EReal) := by
  simp [Ideal.ofBits, Ideal.ieee, -EReal.coe_mul]; norm_num

/-- The kernel's factor of the gradient. -/
theorem ofBits_mean : (Ideal.ofBits .f32 0x3A800000#32 : EReal) = ((1 / 1024 : ℝ) : EReal) := by
  simp [Ideal.ofBits, Ideal.ieee, -EReal.coe_mul]; norm_num

/-- A square is not negative, of an infinity too. -/
theorem sq_nonneg (a : EReal) : 0 ≤ a * a := by
  rcases le_total 0 a with h | h
  · exact mul_nonneg h h
  · have : 0 ≤ -a * -a := mul_nonneg (EReal.neg_nonneg.mpr h) (EReal.neg_nonneg.mpr h)
    rwa [neg_mul_neg] at this

/-- A number that is not negative goes into a sum of terms that are not. -/
theorem mul_sum {n : ℕ} (a : EReal) (f : Fin n → EReal) (hf : ∀ k, 0 ≤ f k) : a * ∑ k, f k = ∑ k, a * f k := by
  classical
  suffices h : ∀ s : Finset (Fin n), a * ∑ k ∈ s, f k = ∑ k ∈ s, a * f k from h _
  intro s
  induction s using Finset.induction_on with
  | empty => simp
  | insert i s hi ih =>
    rw [Finset.sum_insert hi, Finset.sum_insert hi,
      EReal.left_distrib_of_nonneg (hf i) (Finset.sum_nonneg fun k _ => hf k), ih]

/-- The kernel's step of the loss: the block's squares, added up and halved over 1024. -/
theorem step_at (p0 p1 : FVec Ideal S512x1024 .f32) (acc : FVec Ideal S1x1 .f32) (j : S1x1.Idx) :
    k0_pay4 (F := Ideal) p0 p1 acc j = acc j + ((1 / 2048 : ℝ) : EReal) *
      ∑ r : Fin 512, ∑ k : Fin 1024, ((p0 (ix2 r k) : EReal) - p1 (ix2 r k)) * (p0 (ix2 r k) - p1 (ix2 r k)) := by
  obtain ⟨a, b, rfl⟩ : ∃ (a b : Fin 1), j = ix2 a b := ⟨j 0, j 1, eq_ix2 j⟩
  unfold k0_pay4 k0_pay2
  rw [← ofBits_half_mean]
  pointwise

/-- The kernel's gradient in a block. -/
theorem grad_at (p0 p1 : FVec Ideal S512x1024 .f32) (r : Fin 512) (k : Fin 1024) :
    k0_pay3 (F := Ideal) p0 p1 (ix2 r k) = ((p0 (ix2 r k) : EReal) - p1 (ix2 r k)) * ((1 / 1024 : ℝ) : EReal) := by
  unfold k0_pay3 k0_pay2
  rw [← ofBits_mean]
  pointwise

/-- The accumulator starts at nothing. -/
theorem zero_at (j : S1x1.Idx) : k0_pay1 (F := Ideal) j = (0 : EReal) := by
  obtain ⟨a, b, rfl⟩ : ∃ (a b : Fin 1), j = ix2 a b := ⟨j 0, j 1, eq_ix2 j⟩
  unfold k0_pay1
  pointwise

variable (m : (ℓ : Loc nD τ sig) → Buf (Elt Ideal) ℓ) (c : Dev nD)

/-- The windows' block index at a grid point. -/
theorem idx : ∀ t : Fin cfg0.N, win0_0.index t = ![t.val, 0] ∧ win0_1.index t = ![t.val, 0] ∧ win0_3.index t = ![t.val, 0] :=
  (by decide +kernel : ∀ t : Fin grid0.N, _)

/-- The last layer's rows. -/
def y (s : Fin 2048) (k : Fin 1024) : EReal := m ((c : Thread nD τ).loc main_arg0) (ix2 s k)

/-- The targets. -/
def target (s : Fin 2048) (k : Fin 1024) : EReal := m ((c : Thread nD τ).loc main_arg1) (ix2 s k)

/-- The error at an element. -/
def err (s : Fin 2048) (k : Fin 1024) : EReal := y m c s k - target m c s k

/-- A block's row among the rows. -/
def tok (t : Fin cfg0.N) (r : Fin 512) : Fin 2048 :=
  ⟨t.val * 512 + r.val, by have h : t.val < 4 := lt_of_lt_of_eq t.isLt N_0; have := r.isLt; omega⟩

/-- A block of the rows. -/
theorem blk0 (t : Fin cfg0.N) (r : Fin 512) (k : Fin 1024) :
    iblk m c 0 t (ix2 r k) = y m c (tok t r) k := by
  unfold y tok
  blk_ext [iblk, V, idx t]

/-- A block of the targets. -/
theorem blk1 (t : Fin cfg0.N) (r : Fin 512) (k : Fin 1024) :
    iblk m c 1 t (ix2 r k) = target m c (tok t r) k := by
  unfold target tok
  blk_ext [iblk, V, idx t]

/-- The gradient, as an array. -/
def gradArr (i : S2048x1024.Idx) : EReal := err m c (i 0) (i 1) * ((1 / 1024 : ℝ) : EReal)

/-- The gradient in a block. -/
theorem grad_blk (t : Fin cfg0.N) (r : Fin 512) (k : Fin 1024) :
    k0_pay3 (F := Ideal) (iblk m c 0 t) (iblk m c 1 t) (ix2 r k) = gradArr m c (ix2 (tok t r) k) := by
  rw [grad_at, blk0, blk1]
  rfl

/-- Window 3 leaves the gradient. -/
theorem arr3 : (dats m 0 c).arrAt 3 (cfgs 0).N = gradArr m c := by
  refine (dats m 0 c).arrAt_eq_of_covers 3 _ (by decide +kernel) fun t hf z => ?_
  blk_simp
  rw [after0_3]
  idx_vars z
  have key : gradArr m c (((View.whole main_v0_1).slice (win0_3.rect t)).emb (ix2 z0 z1)) = gradArr m c (ix2 (tok t z0) z1) := by
    refine congrArg (gradArr m c) ?_
    unfold tok
    blk_ext [idx t]
  by_cases h : t.val % 4 = 0
  · rw [outsAt0_A m c t h]; frame_out; exact (grad_blk m c t z0 z1).trans key.symm
  · rw [outsAt0_B m c t h]; frame_out; exact (grad_blk m c t z0 z1).trans key.symm

/-- A row's share of the loss. -/
def part (s : Fin 2048) : EReal := ((1 / 2048 : ℝ) : EReal) * ∑ k : Fin 1024, err m c s k * err m c s k

/-- The loss of a device's rows, as an array. -/
def lossArr (_ : S1x1.Idx) : EReal := ∑ s : Fin 2048, part m c s

/-- One grid point's step of the loss. -/
theorem step_blk (t : Fin cfg0.N) (acc : FVec Ideal S1x1 .f32) (j : S1x1.Idx) :
    k0_pay4 (F := Ideal) (iblk m c 0 t) (iblk m c 1 t) acc j = acc j + ∑ r : Fin 512, part m c (tok t r) := by
  rw [step_at, mul_sum _ _ fun r => Finset.sum_nonneg fun k _ => sq_nonneg _]
  simp only [blk0, blk1]
  rfl

/-- Window 2 leaves the loss. -/
theorem arr2 : (dats m 0 c).arrAt 2 (cfgs 0).N = lossArr m c := by
  refine (dats m 0 c).arrAt_eq_of_after_last 2 t0_3 (by decide +kernel) _ fun j => ?_
  blk_simp
  rw [after0_2, Pipeline.eq_sum_fin_of_reset_step_apply_last (fun n h => (outsAt0 m c n h).1) 4 (fun _ => 0)
    (fun p _ => ∑ r : Fin 512, part m c (tok p r))
    (fun t h j => ?_) (fun t h j => ?_) (le_of_eq N_0) t0_3 rfl j, zero_add]
  · unfold lossArr
    refine Fin.sum_mul_add_congr fun s k hl => ?_
    rfl
  · rw [outsAt0_A m c t h]
    frame_out
    refine (step_blk m c t _ j).trans ?_
    rw [zero_at]
  · rw [outsAt0_B m c t h]
    frame_out
    exact step_blk m c t _ j

/-- The reference runs to its end and leaves its arguments as they were. -/
theorem frame_ri : Cert.quiescent_Reference26Ideal := fun m ρ _ =>
  (θ_run Cert.Reference26Ideal.defs _ _).mono (fun r h => ⟨fun c => (h c).2.2,
    Idealize.ShloMosaic.sem_eq_zero_of_no_sems (by decide) r.2⟩) (Cert.Reference26Ideal.Value.run (F := Ideal) m ρ)

/-- The number of channels. -/
theorem ofBits_1024 : (Ideal.ofBits .f32 0x44800000#32 : EReal) = ((1024 : ℝ) : EReal) := by
  simp [Ideal.ofBits, Ideal.ieee, -EReal.coe_mul]; norm_num

/-- One half. -/
theorem ofBits_half : (Ideal.ofBits .f32 0x3F000000#32 : EReal) = ((1 / 2 : ℝ) : EReal) := by
  simp [Ideal.ofBits, Ideal.ieee, -EReal.coe_mul]; norm_num

/-- Two. -/
theorem ofBits_two : (Ideal.ofBits .f32 0x40000000#32 : EReal) = ((2 : ℝ) : EReal) := by
  simp [Ideal.ofBits, Ideal.ieee, -EReal.coe_mul]; norm_num

/-- A row's mean. -/
theorem div_1024 (a : EReal) : Ideal.div a (Ideal.ofBits .f32 0x44800000#32) = a * ((1 / 1024 : ℝ) : EReal) := by
  rw [ofBits_1024, Ideal.div_coe (by norm_num)]

/-- Half of a row's mean is the kernel's share. -/
theorem half_mean (a : EReal) :
    (Ideal.ofBits .f32 0x3F000000#32 : EReal) * Ideal.div a (Ideal.ofBits .f32 0x44800000#32) = ((1 / 2048 : ℝ) : EReal) * a := by
  rw [div_1024, ofBits_half, mul_comm a, ← mul_assoc, ← EReal.coe_mul]
  norm_num

/-- The reference's loss. -/
theorem ref_loss (x0 x1 : (⟨Cert.Reference26Ideal.S2048x1024, .f32⟩ : BufTy).Contents (Elt Ideal)) (a b : Fin 1) :
    val_main_v15 (F := Ideal) x0 x1 (ix2 a b) = ∑ s : Fin 2048, ((1 / 2048 : ℝ) : EReal) *
      ∑ k : Fin 1024, ((x0 (ix2 s k) : EReal) - x1 (ix2 s k)) * (x0 (ix2 s k) - x1 (ix2 s k)) := by
  rw [← Finset.sum_congr rfl fun s _ => half_mean _, ← mul_sum]
  · show val_main_v8 (F := Ideal) x0 x1 _ = _
    pointwise [val_main_v8, val_main_v7, val_main_v6, val_main_v5, val_main_v4, val_main_v1, val_main_v0, val_main_cst_0, val_main_cst_1,
      val_main_cst_2, val_main_cst_3]
  · intro s
    rw [div_1024]
    exact mul_nonneg (Finset.sum_nonneg fun k _ => sq_nonneg _) (EReal.coe_nonneg.mpr (by norm_num))

/-- The reference's gradient. -/
theorem ref_grad (x0 x1 : (⟨Cert.Reference26Ideal.S2048x1024, .f32⟩ : BufTy).Contents (Elt Ideal)) (s : Fin 2048) (k : Fin 1024) :
    val_main_v14 (F := Ideal) x0 x1 (ix2 s k) = ((x0 (ix2 s k) : EReal) - x1 (ix2 s k)) * ((1 / 1024 : ℝ) : EReal) := by
  pointwise [val_main_v14, val_main_v13, val_main_v12, val_main_v11, val_main_v10, val_main_v9, val_main_v3, val_main_v2, val_main_v0,
    val_main_cst, val_main_cst_4, val_main_cst_5, val_main_cst_6]
  rw [div_1024, ofBits_half, ofBits_two, ← EReal.coe_mul, ← mul_assoc, ← EReal.coe_mul, mul_comm]
  norm_num

/-- The kernel's two results are the reference's. -/
theorem algebraic : Cert.algebraic_Kernel26Ideal_Reference26Ideal := by
  intro m g m' g' _ hagree
  refine ⟨fun c => lossArr m c, fun c => gradArr m c,
    (θ_run _ _ _).mono (fun r h c => ⟨(h c).1.trans (arr2 m c), (h c).2.1.trans (arr3 m c), (h c).2.2⟩) (run_blocks m g),
    (θ_run _ _ _).mono (fun r h c => ⟨(h c).1.trans ?_, (h c).2.1.trans ?_, (h c).2.2⟩) (Cert.Reference26Ideal.Value.run m' g')⟩
  · obtain ⟨h0, h1⟩ := hagree c
    refine (val_main_v15_eq _ _).trans ?_
    rw [h0, h1]
    funext i
    obtain ⟨a, b, rfl⟩ : ∃ (a b : Fin 1), i = ix2 a b := ⟨i 0, i 1, eq_ix2 i⟩
    exact ref_loss _ _ a b
  · obtain ⟨h0, h1⟩ := hagree c
    refine (val_main_v14_eq _ _).trans ?_
    rw [h0, h1]
    funext i
    obtain ⟨s, k, rfl⟩ : ∃ (s : Fin 2048) (k : Fin 1024), i = ix2 s k := ⟨i 0, i 1, by idx_vars i; blk_ext⟩
    exact ref_grad _ _ s k

end Cert.LossHead

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Points
public import proofs.«01_k».proof.Proof.Gen.Kernel10Ideal.Launch
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Points
public import proofs.«01_k».proof.Proof.Gen.Kernel11Ideal.Launch
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.MergeClaim
public import proofs.«01_k».proof.Proof.MixBackClaim
public import proofs.«01_k».proof.Proof.UpBackClaim
public import proofs.«01_k».proof.Proof.UpGrad
public import proofs.«01_k».proof.Proof.FfnBackClaim
public import proofs.«01_k».proof.Proof.GateColGrad
public import proofs.«01_k».proof.Proof.MixColGrad
public import proofs.«01_k».proof.Proof.DownGrad
public import proofs.«01_k».proof.Proof.OutGrad
public import proofs.«01_k».proof.Proof.NormUpClaim
public import proofs.«01_k».proof.Proof.NormMixClaim
public import proofs.«01_k».proof.Proof.GateRows
public import proofs.«01_k».proof.Proof.FfnOut
public import proofs.«01_k».proof.Proof.MergeForward
public import proofs.«01_k».proof.Proof.AttnBranchGrad
public import proofs.«01_k».proof.Proof.HgrnBranchGrad
public import proofs.«01_k».proof.Proof.GatingBranchGrad
public import proofs.«01_k».proof.Proof.LruBranchGrad
public import proofs.«01_k».proof.Proof.AdamIn
public import proofs.«01_k».proof.Proof.AdamBranch
public import proofs.«01_k».proof.Proof.AdamOut
public import proofs.«01_k».proof.Proof.AdamFfnIn
public import proofs.«01_k».proof.Proof.AdamFfnOut
public import proofs.«01_k».proof.Proof.AdamSmall
public import proofs.«01_k».proof.Proof.SmallGrads
public import proofs.«01_k».proof.Proof.LossHead

@[expose] public section

noncomputable section

namespace Cert.Proof

open Idealize.ShloMosaic Idealize.SL.Sem

/-- Every claim about every call. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Pre_finite.Gen.facts, Cert.Pre_finite2.Gen.facts, Cert.Pre_finite3.Gen.facts, Cert.Pre_finite5.Gen.facts,
  fun m ρ _ => Cert.Kernel.Gen.frame m ρ, fun m ρ _ => Cert.KernelIdeal.Gen.frame m ρ,
  fun m ρ _ => Cert.KernelIdeal.Gen.frame m ρ, MergeClaim.frame_ri, fun m ρ _ => MergeClaim.frame_ri m ρ trivial,
  fun m ρ _ => Cert.Kernel2.Gen.frame m ρ, fun m ρ _ => Cert.Kernel2Ideal.Gen.frame m ρ,
  fun m ρ _ => Cert.Kernel2Ideal.Gen.frame m ρ, MixBack.frame_ri, fun m ρ _ => MixBack.frame_ri m ρ trivial,
  fun m ρ _ => Cert.Kernel3.Gen.frame m ρ, fun m ρ _ => Cert.Kernel3Ideal.Gen.frame m ρ,
  fun m ρ _ => Cert.Kernel3Ideal.Gen.frame m ρ, UpBack.frame_ri, fun m ρ _ => UpBack.frame_ri m ρ trivial,
  fun m ρ _ => Cert.Kernel4.Gen.frame m ρ, fun m ρ _ => Cert.Kernel4Ideal.Gen.frame m ρ,
  UpGrad.frame_ri,
  fun m ρ _ => Cert.Kernel5.Gen.frame m ρ, fun m ρ _ => Cert.Kernel5Ideal.Gen.frame m ρ,
  fun m ρ _ => Cert.Kernel5Ideal.Gen.frame m ρ, FfnBack.frame_ri, fun m ρ _ => FfnBack.frame_ri m ρ trivial,
  fun m ρ _ => Cert.Kernel6.Gen.frame m ρ, fun m ρ _ => Cert.Kernel6Ideal.Gen.frame m ρ,
  GateColGrad.frame_ri,
  fun m ρ _ => Cert.Kernel7.Gen.frame m ρ, fun m ρ _ => Cert.Kernel7Ideal.Gen.frame m ρ,
  MixColGrad.frame_ri,
  fun m ρ _ => Cert.Kernel8.Gen.frame m ρ, fun m ρ _ => Cert.Kernel8Ideal.Gen.frame m ρ,
  DownGrad.frame_ri,
  fun m ρ _ => Cert.Kernel9.Gen.frame m ρ, fun m ρ _ => Cert.Kernel9Ideal.Gen.frame m ρ,
  OutGrad.frame_ri,
  NormUp.frame_k, NormUp.frame_ki,
  NormUp.frame_ri,
  NormMix.frame_k, NormMix.frame_ki,
  NormMix.frame_ri,
  fun m ρ _ => Cert.Kernel12.Gen.frame m ρ, fun m ρ _ => Cert.Kernel12Ideal.Gen.frame m ρ,
  GateRows.frame_ri,
  fun m ρ _ => Cert.Kernel13.Gen.frame m ρ, fun m ρ _ => Cert.Kernel13Ideal.Gen.frame m ρ,
  FfnOut.frame_ri,
  fun m ρ _ => Cert.Kernel14.Gen.frame m ρ, fun m ρ _ => Cert.Kernel14Ideal.Gen.frame m ρ,
  MergeForward.frame_ri,
  fun m ρ _ => Cert.Kernel15.Gen.frame m ρ, fun m ρ _ => Cert.Kernel15Ideal.Gen.frame m ρ,
  AttnBranchGrad.frame_ri,
  fun m ρ _ => Cert.Kernel16.Gen.frame m ρ, fun m ρ _ => Cert.Kernel16Ideal.Gen.frame m ρ,
  HgrnBranchGrad.frame_ri,
  fun m ρ _ => Cert.Kernel17.Gen.frame m ρ, fun m ρ _ => Cert.Kernel17Ideal.Gen.frame m ρ,
  GatingBranchGrad.frame_ri,
  fun m ρ _ => Cert.Kernel18.Gen.frame m ρ, fun m ρ _ => Cert.Kernel18Ideal.Gen.frame m ρ,
  LruBranchGrad.frame_ri,
  fun m ρ _ => Cert.Kernel19.Gen.frame m ρ, fun m ρ _ => Cert.Kernel19Ideal.Gen.frame m ρ,
  AdamIn.frame_ri,
  fun m ρ _ => Cert.Kernel20.Gen.frame m ρ, fun m ρ _ => Cert.Kernel20Ideal.Gen.frame m ρ,
  AdamBranch.frame_ri,
  fun m ρ _ => Cert.Kernel21.Gen.frame m ρ, fun m ρ _ => Cert.Kernel21Ideal.Gen.frame m ρ,
  AdamOut.frame_ri,
  fun m ρ _ => Cert.Kernel22.Gen.frame m ρ, fun m ρ _ => Cert.Kernel22Ideal.Gen.frame m ρ,
  AdamFfnIn.frame_ri,
  fun m ρ _ => Cert.Kernel23.Gen.frame m ρ, fun m ρ _ => Cert.Kernel23Ideal.Gen.frame m ρ,
  AdamFfnOut.frame_ri,
  fun m ρ _ => Cert.Kernel24.Gen.frame m ρ, fun m ρ _ => Cert.Kernel24Ideal.Gen.frame m ρ,
  AdamSmall.frame_ri,
  fun m ρ _ => Cert.Kernel25.Gen.frame m ρ, fun m ρ _ => Cert.Kernel25Ideal.Gen.frame m ρ,
  SmallGrads.frame_ri,
  fun m ρ _ => Cert.Kernel26.Gen.frame m ρ, fun m ρ _ => Cert.Kernel26Ideal.Gen.frame m ρ,
  LossHead.frame_ri,
  trivial, MergeClaim.algebraic,
  trivial, MixBack.algebraic,
  trivial, UpBack.algebraic,
  trivial, UpGrad.algebraic,
  trivial, FfnBack.algebraic,
  trivial, GateColGrad.algebraic,
  trivial, MixColGrad.algebraic,
  trivial, DownGrad.algebraic,
  trivial, OutGrad.algebraic,
  trivial, NormUp.algebraic,
  trivial, NormMix.algebraic,
  trivial, GateRows.algebraic,
  trivial, FfnOut.algebraic,
  trivial, MergeForward.algebraic,
  trivial, AttnBranchGrad.algebraic,
  trivial, HgrnBranchGrad.algebraic,
  trivial, GatingBranchGrad.algebraic,
  trivial, LruBranchGrad.algebraic,
  AdamIn.preserves, AdamIn.algebraic,
  AdamBranch.preserves, AdamBranch.algebraic,
  AdamOut.preserves, AdamOut.algebraic,
  AdamFfnIn.preserves, AdamFfnIn.algebraic,
  AdamFfnOut.preserves, AdamFfnOut.algebraic,
  AdamSmall.preserves, AdamSmall.algebraic,
  trivial, SmallGrads.algebraic,
  trivial, LossHead.algebraic⟩

end Cert.Proof

end
